-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v25)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "log2_e" .f32 0x3FB8AA3B#32 (((Real.log 2)⁻¹ : ℝ) : EReal)
  ∧ IdealRules.named_const.Statement Cert.Kernel6Ideal.κ "mask" .f32 0xF149F2CA#32 ⊥

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v20)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v102) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
-- ==== Pre_finite.lean ====
abbrev S8x4096x5376 : Shape := ⟨3, ![8, 4096, 5376]⟩
abbrev S2x8 : Shape := ⟨2, ![2, 8]⟩
abbrev S_ : Shape := ⟨0, ![]⟩

class Facts : Prop where
  bitsLt_bf16_f32 : FTy.bits .bf16 < FTy.bits .f32
  bcast_S_S8x4096x5376 : S_.BroadcastsInDim S8x4096x5376 (![] : Fin 0 → Fin S8x4096x5376.rank)
  reducesTo_S8x4096x5376_S_d0_1_2 : S8x4096x5376.ReducesTo [0, 1, 2] S_
  h_S_ : 0 < S_.numel
  bcast_S_S2x8 : S_.BroadcastsInDim S2x8 (![] : Fin 0 → Fin S2x8.rank)
  reducesTo_S2x8_S_d0_1 : S2x8.ReducesTo [0, 1] S_

variable [Facts]

def fn {F : FTy → Type} [FloatOps F] (main_arg0 : FVec F S8x4096x5376 .bf16) (main_arg1 : FVec F S2x8 .f32) : IVec S_ 1 :=
  let main_v0 : FVec F S8x4096x5376 .f32 := (extf .f32 · bitsLt_bf16_f32) main_arg0
  let main_v1 : FVec F S8x4096x5376 .f32 := Host.absf main_v0
  let main_cst : FVec F S_ .f32 := constant S_ .f32 0x7F800000#32
  let main_v2 : FVec F S8x4096x5376 .f32 := broadcastInDim S8x4096x5376 ![] bcast_S_S8x4096x5376 main_cst
  let main_v3 : IVec S8x4096x5376 1 := cmpf .olt main_v1 main_v2
  let main_c : IVec S_ 1 := constantI S_ 1 1#1
  let main_v4 : IVec S_ 1 := (fun x v => Host.reduce IntOp.andi x v reducesTo_S8x4096x5376_S_d0_1_2 h_S_) main_v3 main_c
  let main_v5 : FVec F S2x8 .f32 := Host.absf main_arg1
  let main_cst_0 : FVec F S_ .f32 := constant S_ .f32 0x7F800000#32
  let main_v6 : FVec F S2x8 .f32 := broadcastInDim S2x8 ![] bcast_S_S2x8 main_cst_0
  let main_v7 : IVec S2x8 1 := cmpf .olt main_v5 main_v6
  let main_c_1 : IVec S_ 1 := constantI S_ 1 1#1
  let main_v8 : IVec S_ 1 := (fun x v => Host.reduce IntOp.andi x v reducesTo_S2x8_S_d0_1 h_S_) main_v7 main_c_1
  let main_v9 : IVec S_ 1 := andi main_v4 main_v8
  main_v9
-- ==== Kernel.lean ====
abbrev S32768x2048 : Shape := ⟨2, ![32768, 2048]⟩
abbrev S2x2048 : Shape := ⟨2, ![2, 2048]⟩
abbrev S8x4096x512 : Shape := ⟨3, ![8, 4096, 512]⟩
abbrev S2x2048x13568 : Shape := ⟨3, ![2, 2048, 13568]⟩
abbrev S2x4x512x2048 : Shape := ⟨4, ![2, 4, 512, 2048]⟩
abbrev S2x2048x2048 : Shape := ⟨3, ![2, 2048, 2048]⟩
abbrev S32768x512 : Shape := ⟨2, ![32768, 512]⟩
abbrev S1x2048 : Shape := ⟨2, ![1, 2048]⟩
abbrev S2048 : Shape := ⟨1, ![2048]⟩
abbrev S512x2048 : Shape := ⟨2, ![512, 2048]⟩
abbrev S512x512 : Shape := ⟨2, ![512, 512]⟩
abbrev S1x2048x512 : Shape := ⟨3, ![1, 2048, 512]⟩
abbrev S1x4x512x512 : Shape := ⟨4, ![1, 4, 512, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S1x1x512x512 : Shape := ⟨4, ![1, 1, 512, 512]⟩

abbrev nBuf : Space → Nat
  | .hbm => 20
  | .vmem => 26
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x512, .bf16⟩
  | .hbm, ⟨6, _⟩ => ⟨S2x2048x13568, .f32⟩
  | .hbm, ⟨7, _⟩ => ⟨S2x4x512x2048, .f32⟩
  | .hbm, ⟨8, _⟩ => ⟨S2x2048x2048, .f32⟩
  | .hbm, ⟨9, _⟩ => ⟨S2x2048x13568, .bf16⟩
  | .hbm, ⟨10, _⟩ => ⟨S2x4x512x2048, .bf16⟩
  | .hbm, ⟨11, _⟩ => ⟨S2x2048x2048, .bf16⟩
  | .hbm, ⟨12, _⟩ => ⟨S32768x512, .bf16⟩
  | .hbm, ⟨13, _⟩ => ⟨S32768x512, .bf16⟩
  | .hbm, ⟨14, _⟩ => ⟨S32768x512, .bf16⟩
  | .hbm, ⟨15, _⟩ => ⟨S32768x512, .bf16⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S1x2048x512, .bf16⟩
  | .local _ .vmem, ⟨17, _⟩ => ⟨S1x2048x512, .bf16⟩
  | .local _ .vmem, ⟨18, _⟩ => ⟨S1x2048x512, .bf16⟩
  | .local _ .vmem, ⟨19, _⟩ => ⟨S1x4x512x512, .bf16⟩
  | .local _ .vmem, ⟨20, _⟩ => ⟨S1x4x512x512, .bf16⟩
  | .local _ .vmem, ⟨21, _⟩ => ⟨S1x512x2048, .bf16⟩
  | .local _ .vmem, ⟨22, _⟩ => ⟨S1x512x2048, .bf16⟩
  | .local _ .vmem, ⟨23, _⟩ => ⟨S512x2048, .f32⟩
  | .local _ .vmem, ⟨24, _⟩ => ⟨S512x2048, .f32⟩
  | .local _ .vmem, ⟨25, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![64, 4], ![false, false]⟩

def k0_mult1 (i : grid0.Coords) : BitVec 32 :=
  let c5376_i32 : BitVec 32 := 5376#32
  let arg1 : BitVec 32 := BitVec.ofNat 32 (i 1).val
  let c512_i32 : BitVec 32 := 512#32
  let v0 : BitVec 32 := Scalar.muli arg1 c512_i32
  let v1 : BitVec 32 := Scalar.addi c5376_i32 v0
  v1
def k0_mult2 (i : grid0.Coords) : BitVec 32 :=
  let c7424_i32 : BitVec 32 := 7424#32
  let arg1 : BitVec 32 := BitVec.ofNat 32 (i 1).val
  let c512_i32 : BitVec 32 := 512#32
  let v0 : BitVec 32 := Scalar.muli arg1 c512_i32
  let v1 : BitVec 32 := Scalar.addi c7424_i32 v0
  v1
def k0_mult3 (i : grid0.Coords) : BitVec 32 :=
  let c9472_i32 : BitVec 32 := 9472#32
  let arg1 : BitVec 32 := BitVec.ofNat 32 (i 1).val
  let c512_i32 : BitVec 32 := 512#32
  let v0 : BitVec 32 := Scalar.muli arg1 c512_i32
  let v1 : BitVec 32 := Scalar.addi c9472_i32 v0
  v1
def k0_mult4 (i : grid0.Coords) : BitVec 32 :=
  let c11520_i32 : BitVec 32 := 11520#32
  let arg1 : BitVec 32 := BitVec.ofNat 32 (i 1).val
  let c512_i32 : BitVec 32 := 512#32
  let v0 : BitVec 32 := Scalar.muli arg1 c512_i32
  let v1 : BitVec 32 := Scalar.addi c11520_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c5376_i32 : BitVec 32 := 5376#32
  let v1 : BitVec 32 := Scalar.addi c5376_i32 v0
  let v2 : BitVec 32 := v1
  let c1_i32 : BitVec 32 := 1#32
  let c0_i32 : BitVec 32 := 0#32
  let c0_i32_0 : BitVec 32 := 0#32
  ![c1_i32.toNat, c0_i32.toNat, v2.toNat]

def cc0_transform_7 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c7424_i32 : BitVec 32 := 7424#32
  let v1 : BitVec 32 := Scalar.addi c7424_i32 v0
  let v2 : BitVec 32 := v1
  let c1_i32 : BitVec 32 := 1#32
  let c0_i32 : BitVec 32 := 0#32
  let c0_i32_0 : BitVec 32 := 0#32
  ![c1_i32.toNat, c0_i32.toNat, v2.toNat]

def cc0_transform_8 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c9472_i32 : BitVec 32 := 9472#32
  let v1 : BitVec 32 := Scalar.addi c9472_i32 v0
  let v2 : BitVec 32 := v1
  let c1_i32 : BitVec 32 := 1#32
  let c0_i32 : BitVec 32 := 0#32
  let c0_i32_0 : BitVec 32 := 0#32
  ![c1_i32.toNat, c0_i32.toNat, v2.toNat]

def cc0_transform_9 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c11520_i32 : BitVec 32 := 11520#32
  let v1 : BitVec 32 := Scalar.addi c11520_i32 v0
  let v2 : BitVec 32 := v1
  let c1_i32 : BitVec 32 := 1#32
  let c0_i32 : BitVec 32 := 0#32
  let c0_i32_0 : BitVec 32 := 0#32
  ![c1_i32.toNat, c0_i32.toNat, v2.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S32768x2048 : Shape := ⟨2, ![32768, 2048]⟩
abbrev S2x2048 : Shape := ⟨2, ![2, 2048]⟩
abbrev S8x4096x512 : Shape := ⟨3, ![8, 4096, 512]⟩
abbrev S2x2048x13568 : Shape := ⟨3, ![2, 2048, 13568]⟩
abbrev S2x4x512x2048 : Shape := ⟨4, ![2, 4, 512, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x13568 : Shape := ⟨3, ![1, 2048, 13568]⟩
abbrev S2048x13568 : Shape := ⟨2, ![2048, 13568]⟩
abbrev S32768x13568 : Shape := ⟨2, ![32768, 13568]⟩
abbrev S32768x8192 : Shape := ⟨2, ![32768, 8192]⟩
abbrev S32768x4x2048 : Shape := ⟨3, ![32768, 4, 2048]⟩
abbrev S32768x512 : Shape := ⟨2, ![32768, 512]⟩
abbrev S32768x1x2048 : Shape := ⟨3, ![32768, 1, 2048]⟩
abbrev S1x1x512x2048 : Shape := ⟨4, ![1, 1, 512, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 103
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x512, .bf16⟩
  | .hbm, ⟨6, _⟩ => ⟨S2x2048x13568, .f32⟩
  | .hbm, ⟨7, _⟩ => ⟨S2x4x512x2048, .f32⟩
  | .hbm, ⟨8, _⟩ => ⟨S2x2048x2048, .f32⟩
  | .hbm, ⟨9, _⟩ => ⟨S1x2048, .f32⟩
  | .hbm, ⟨10, _⟩ => ⟨S2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x2048, .f32⟩
  | .hbm, ⟨23, _⟩ => ⟨S32768x2048, .f32⟩
  | .hbm, ⟨24, _⟩ => ⟨S1x2048, .f32⟩
  | .hbm, ⟨25, _⟩ => ⟨S32768x2048, .f32⟩
  | .hbm, ⟨26, _⟩ => ⟨S32768x2048, .f32⟩
  | .hbm, ⟨27, _⟩ => ⟨S1x2048x13568, .f32⟩
  | .hbm, ⟨28, _⟩ => ⟨S2048x13568, .f32⟩
  | .hbm, ⟨29, _⟩ => ⟨S32768x13568, .f32⟩
  | .hbm, ⟨30, _⟩ => ⟨S32768x8192, .f32⟩
  | .hbm, ⟨31, _⟩ => ⟨S32768x4x2048, .f32⟩
  | .hbm, ⟨32, _⟩ => ⟨S32768x512, .bf16⟩
  | .hbm, ⟨33, _⟩ => ⟨S32768x512, .f32⟩
  | .hbm, ⟨34, _⟩ => ⟨S32768x512, .bf16⟩
  | .hbm, ⟨35, _⟩ => ⟨S32768x512, .f32⟩
  | .hbm, ⟨36, _⟩ => ⟨S32768x512, .bf16⟩
  | .hbm, ⟨37, _⟩ => ⟨S32768x512, .f32⟩
  | .hbm, ⟨38, _⟩ => ⟨S32768x512, .bf16⟩
  | .hbm, ⟨39, _⟩ => ⟨S32768x512, .f32⟩
  | .hbm, ⟨40, _⟩ => ⟨S32768x1x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S_, .f32⟩
  | .hbm, ⟨45, _⟩ => ⟨S32768x2048, .f32⟩
  | .hbm, ⟨46, _⟩ => ⟨S32768x2048, .f32⟩
  | .hbm, ⟨47, _⟩ => ⟨S_, .f32⟩
  | .hbm, ⟨48, _⟩ => ⟨S32768x2048, .f32⟩
  | .hbm, ⟨49, _⟩ => ⟨S32768x2048, .f32⟩
  | .hbm, ⟨50, _⟩ => ⟨S1x1x512x2048, .f32⟩
  | .hbm, ⟨51, _⟩ => ⟨S512x2048, .f32⟩
  | .hbm, ⟨52, _⟩ => ⟨S32768x2048, .f32⟩
  | .hbm, ⟨53, _⟩ => ⟨S32768x2048, .f32⟩
  | .hbm, ⟨54, _⟩ => ⟨S32768x1x2048, .f32⟩
  | .hbm, ⟨55, _⟩ => ⟨S32768x2048, .f32⟩
  | .hbm, ⟨56, _⟩ => ⟨S32768x2048, .f32⟩
  | .hbm, ⟨57, _⟩ => ⟨S32768x2048, .f32⟩
  | .hbm, ⟨58, _⟩ => ⟨S_, .f32⟩
  | .hbm, ⟨59, _⟩ => ⟨S32768x2048, .f32⟩
  | .hbm, ⟨60, _⟩ => ⟨S32768x2048, .f32⟩
  | .hbm, ⟨61, _⟩ => ⟨S_, .f32⟩
  | .hbm, ⟨62, _⟩ => ⟨S32768x2048, .f32⟩
  | .hbm, ⟨63, _⟩ => ⟨S32768x2048, .f32⟩
  | .hbm, ⟨64, _⟩ => ⟨S1x1x512x2048, .f32⟩
  | .hbm, ⟨65, _⟩ => ⟨S512x2048, .f32⟩
  | .hbm, ⟨66, _⟩ => ⟨S32768x2048, .f32⟩
  | .hbm, ⟨67, _⟩ => ⟨S32768x2048, .f32⟩
  | .hbm, ⟨68, _⟩ => ⟨S32768x2048, .f32⟩
  | .hbm, ⟨69, _⟩ => ⟨S32768x1x2048, .f32⟩
  | .hbm, ⟨70, _⟩ => ⟨S32768x2048, .f32⟩
  | .hbm, ⟨71, _⟩ => ⟨S32768x2048, .f32⟩
  | .hbm, ⟨72, _⟩ => ⟨S32768x2048, .f32⟩
  | .hbm, ⟨73, _⟩ => ⟨S_, .f32⟩
  | .hbm, ⟨74, _⟩ => ⟨S32768x2048, .f32⟩
  | .hbm, ⟨75, _⟩ => ⟨S32768x2048, .f32⟩
  | .hbm, ⟨76, _⟩ => ⟨S_, .f32⟩
  | .hbm, ⟨77, _⟩ => ⟨S32768x2048, .f32⟩
  | .hbm, ⟨78, _⟩ => ⟨S32768x2048, .f32⟩
  | .hbm, ⟨79, _⟩ => ⟨S1x1x512x2048, .f32⟩
  | .hbm, ⟨80, _⟩ => ⟨S512x2048, .f32⟩
  | .hbm, ⟨81, _⟩ => ⟨S32768x2048, .f32⟩
  | .hbm, ⟨82, _⟩ => ⟨S32768x2048, .f32⟩
  | .hbm, ⟨83, _⟩ => ⟨S32768x2048, .f32⟩
  | .hbm, ⟨84, _⟩ => ⟨S32768x1x2048, .f32⟩
  | .hbm, ⟨85, _⟩ => ⟨S32768x2048, .f32⟩
  | .hbm, ⟨86, _⟩ => ⟨S32768x2048, .f32⟩
  | .hbm, ⟨87, _⟩ => ⟨S32768x2048, .f32⟩
  | .hbm, ⟨88, _⟩ => ⟨S_, .f32⟩
  | .hbm, ⟨89, _⟩ => ⟨S32768x2048, .f32⟩
  | .hbm, ⟨90, _⟩ => ⟨S32768x2048, .f32⟩
  | .hbm, ⟨91, _⟩ => ⟨S_, .f32⟩
  | .hbm, ⟨92, _⟩ => ⟨S32768x2048, .f32⟩
  | .hbm, ⟨93, _⟩ => ⟨S32768x2048, .f32⟩
  | .hbm, ⟨94, _⟩ => ⟨S1x1x512x2048, .f32⟩
  | .hbm, ⟨95, _⟩ => ⟨S512x2048, .f32⟩
  | .hbm, ⟨96, _⟩ => ⟨S32768x2048, .f32⟩
  | .hbm, ⟨97, _⟩ => ⟨S32768x2048, .f32⟩
  | .hbm, ⟨98, _⟩ => ⟨S32768x2048, .f32⟩
  | .hbm, ⟨99, _⟩ => ⟨S1x2048x2048, .f32⟩
  | .hbm, ⟨100, _⟩ => ⟨S2048x2048, .f32⟩
  | .hbm, ⟨101, _⟩ => ⟨S32768x2048, .f32⟩
  | .hbm, ⟨102, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩

abbrev nD : Nat := 1
abbrev τ : Topo := Topo.v7x

variable {F : FTy → Type} [FloatOps F]
-- ==== Kernel2.lean ====
abbrev S32768x2048 : Shape := ⟨2, ![32768, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 14
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S2x2048x5632, .bf16⟩
  | .hbm, ⟨8, _⟩ => ⟨S2x2048x5632, .bf16⟩
  | .hbm, ⟨9, _⟩ => ⟨S2x5632x2048, .bf16⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x2048 : Shape := ⟨2, ![32768, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S32768x5632 : Shape := ⟨2, ![32768, 5632]⟩

abbrev nBuf : Space → Nat
  | .hbm => 63
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S2048x5632, .f32⟩
  | .hbm, ⟨28, _⟩ => ⟨S1x5632x2048, .f32⟩
  | .hbm, ⟨29, _⟩ => ⟨S5632x2048, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S_, .f32⟩
  | .hbm, ⟨34, _⟩ => ⟨S32768x5632, .f32⟩
  | .hbm, ⟨35, _⟩ => ⟨S32768x5632, .f32⟩
  | .hbm, ⟨36, _⟩ => ⟨S_, .f32⟩
  | .hbm, ⟨37, _⟩ => ⟨S32768x5632, .f32⟩
  | .hbm, ⟨38, _⟩ => ⟨S32768x5632, .f32⟩
  | .hbm, ⟨39, _⟩ => ⟨S32768x5632, .f32⟩
  | .hbm, ⟨40, _⟩ => ⟨S32768x5632, .f32⟩
  | .hbm, ⟨41, _⟩ => ⟨S32768x5632, .f32⟩
  | .hbm, ⟨42, _⟩ => ⟨S32768x2048, .f32⟩
  | .hbm, ⟨43, _⟩ => ⟨S_, .f32⟩
  | .hbm, ⟨44, _⟩ => ⟨S32768x2048, .f32⟩
  | .hbm, ⟨45, _⟩ => ⟨S32768x2048, .f32⟩
  | .hbm, ⟨46, _⟩ => ⟨S32768x2048, .f32⟩
  | .hbm, ⟨47, _⟩ => ⟨S32768x2048, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x2048, .f32⟩
  | .hbm, ⟨59, _⟩ => ⟨S32768x2048, .f32⟩
  | .hbm, ⟨60, _⟩ => ⟨S1x2048, .f32⟩
  | .hbm, ⟨61, _⟩ => ⟨S32768x2048, .f32⟩
  | .hbm, ⟨62, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel3.lean ====
abbrev S32768x2048 : Shape := ⟨2, ![32768, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 14
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S2x2048x5632, .bf16⟩
  | .hbm, ⟨8, _⟩ => ⟨S2x2048x5632, .bf16⟩
  | .hbm, ⟨9, _⟩ => ⟨S2x5632x2048, .bf16⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S32768x2048 : Shape := ⟨2, ![32768, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S32768x5632 : Shape := ⟨2, ![32768, 5632]⟩

abbrev nBuf : Space → Nat
  | .hbm => 47
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S2048x5632, .f32⟩
  | .hbm, ⟨28, _⟩ => ⟨S1x5632x2048, .f32⟩
  | .hbm, ⟨29, _⟩ => ⟨S5632x2048, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S_, .f32⟩
  | .hbm, ⟨34, _⟩ => ⟨S32768x5632, .f32⟩
  | .hbm, ⟨35, _⟩ => ⟨S32768x5632, .f32⟩
  | .hbm, ⟨36, _⟩ => ⟨S_, .f32⟩
  | .hbm, ⟨37, _⟩ => ⟨S32768x5632, .f32⟩
  | .hbm, ⟨38, _⟩ => ⟨S32768x5632, .f32⟩
  | .hbm, ⟨39, _⟩ => ⟨S32768x5632, .f32⟩
  | .hbm, ⟨40, _⟩ => ⟨S32768x5632, .f32⟩
  | .hbm, ⟨41, _⟩ => ⟨S32768x5632, .f32⟩
  | .hbm, ⟨42, _⟩ => ⟨S32768x2048, .f32⟩
  | .hbm, ⟨43, _⟩ => ⟨S_, .f32⟩
  | .hbm, ⟨44, _⟩ => ⟨S32768x2048, .f32⟩
  | .hbm, ⟨45, _⟩ => ⟨S32768x2048, .f32⟩
  | .hbm, ⟨46, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Kernel4.lean ====
abbrev S32768x2048 : Shape := ⟨2, ![32768, 2048]⟩
abbrev S2x2048 : Shape := ⟨2, ![2, 2048]⟩
abbrev S2x2048x13568 : Shape := ⟨3, ![2, 2048, 13568]⟩
abbrev S1x2048 : Shape := ⟨2, ![1, 2048]⟩
abbrev S2048 : Shape := ⟨1, ![2048]⟩
abbrev S5376 : Shape := ⟨1, ![5376]⟩
abbrev S_ : Shape := ⟨0, ![]⟩
abbrev S1x5376 : Shape := ⟨2, ![1, 5376]⟩
abbrev S32768x5376 : Shape := ⟨2, ![32768, 5376]⟩
abbrev S1024x2048 : Shape := ⟨2, ![1024, 2048]⟩
abbrev S1x2048x1792 : Shape := ⟨3, ![1, 2048, 1792]⟩
abbrev S1x1792 : Shape := ⟨2, ![1, 1792]⟩
abbrev S1024x1792 : Shape := ⟨2, ![1024, 1792]⟩
abbrev S256x2048 : Shape := ⟨2, ![256, 2048]⟩
abbrev S256 : Shape := ⟨1, ![256]⟩
abbrev S256x1 : Shape := ⟨2, ![256, 1]⟩
abbrev S2048x1792 : Shape := ⟨2, ![2048, 1792]⟩
abbrev S256x1792 : Shape := ⟨2, ![256, 1792]⟩

abbrev nBuf : Space → Nat
  | .hbm => 39
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x13568, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S2x2048x13568, .bf16⟩
  | .hbm, ⟨7, _⟩ => ⟨S5376, .i32⟩
  | .hbm, ⟨8, _⟩ => ⟨S_, .i32⟩
  | .hbm, ⟨9, _⟩ => ⟨S5376, .i32⟩
  | .hbm, ⟨10, _⟩ => ⟨S5376, .i1⟩
  | .hbm, ⟨11, _⟩ => ⟨S_, .i32⟩
  | .hbm, ⟨12, _⟩ => ⟨S5376, .i32⟩
  | .hbm, ⟨13, _⟩ => ⟨S5376, .i1⟩
  | .hbm, ⟨14, _⟩ => ⟨S5376, .i1⟩
  | .hbm, ⟨15, _⟩ => ⟨S_, .i32⟩
  | .hbm, ⟨16, _⟩ => ⟨S5376, .i32⟩
  | .hbm, ⟨17, _⟩ => ⟨S5376, .i1⟩
  | .hbm, ⟨18, _⟩ => ⟨S_, .i32⟩
  | .hbm, ⟨19, _⟩ => ⟨S5376, .i32⟩
  | .hbm, ⟨20, _⟩ => ⟨S5376, .i1⟩
  | .hbm, ⟨21, _⟩ => ⟨S5376, .i1⟩
  | .hbm, ⟨22, _⟩ => ⟨S_, .i32⟩
  | .hbm, ⟨23, _⟩ => ⟨S5376, .i32⟩
  | .hbm, ⟨24, _⟩ => ⟨S5376, .i1⟩
  | .hbm, ⟨25, _⟩ => ⟨S_, .i32⟩
  | .hbm, ⟨26, _⟩ => ⟨S5376, .i32⟩
  | .hbm, ⟨27, _⟩ => ⟨S5376, .i1⟩
  | .hbm, ⟨28, _⟩ => ⟨S5376, .i1⟩
  | .hbm, ⟨29, _⟩ => ⟨S5376, .i1⟩
  | .hbm, ⟨30, _⟩ => ⟨S5376, .i1⟩
  | .hbm, ⟨31, _⟩ => ⟨S_, .f32⟩
  | .hbm, ⟨32, _⟩ => ⟨S_, .f32⟩
  | .hbm, ⟨33, _⟩ => ⟨S5376, .f32⟩
  | .hbm, ⟨34, _⟩ => ⟨S5376, .f32⟩
  | .hbm, ⟨35, _⟩ => ⟨S5376, .f32⟩
  | .hbm, ⟨36, _⟩ => ⟨S5376, .f32⟩
  | .hbm, ⟨37, _⟩ => ⟨S1x5376, .f32⟩
  | .hbm, ⟨38, _⟩ => ⟨S32768x5376, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1792, .bf16⟩
  | .local _ .vmem, ⟨4, _⟩ => ⟨S1x2048x1792, .bf16⟩
  | .local _ .vmem, ⟨5, _⟩ => ⟨S1x1792, .f32⟩
  | .local _ .vmem, ⟨6, _⟩ => ⟨S1x1792, .f32⟩
  | .local _ .vmem, ⟨7, _⟩ => ⟨S1024x1792, .bf16⟩
  | .local _ .vmem, ⟨8, _⟩ => ⟨S1024x1792, .bf16⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S32768x2048 : Shape := ⟨2, ![32768, 2048]⟩
abbrev S2x2048 : Shape := ⟨2, ![2, 2048]⟩
abbrev S2x2048x13568 : Shape := ⟨3, ![2, 2048, 13568]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x13568 : Shape := ⟨3, ![1, 2048, 13568]⟩
abbrev S2048x13568 : Shape := ⟨2, ![2048, 13568]⟩
abbrev S32768x13568 : Shape := ⟨2, ![32768, 13568]⟩
abbrev S32768x5376 : Shape := ⟨2, ![32768, 5376]⟩
abbrev S32768x512 : Shape := ⟨2, ![32768, 512]⟩
abbrev S32768x1024 : Shape := ⟨2, ![32768, 1024]⟩
abbrev S32768x1792 : Shape := ⟨2, ![32768, 1792]⟩

abbrev nBuf : Space → Nat
  | .hbm => 42
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2048, .f32⟩
  | .hbm, ⟨2, _⟩ => ⟨S2x2048x13568, .f32⟩
  | .hbm, ⟨3, _⟩ => ⟨S1x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S1x2048x13568, .f32⟩
  | .hbm, ⟨22, _⟩ => ⟨S2048x13568, .f32⟩
  | .hbm, ⟨23, _⟩ => ⟨S32768x13568, .f32⟩
  | .hbm, ⟨24, _⟩ => ⟨S32768x5376, .f32⟩
  | .hbm, ⟨25, _⟩ => ⟨S32768x512, .f32⟩
  | .hbm, ⟨26, _⟩ => ⟨S32768x1024, .f32⟩
  | .hbm, ⟨27, _⟩ => ⟨S32768x512, .f32⟩
  | .hbm, ⟨28, _⟩ => ⟨S32768x1024, .f32⟩
  | .hbm, ⟨29, _⟩ => ⟨S32768x512, .f32⟩
  | .hbm, ⟨30, _⟩ => ⟨S32768x1792, .f32⟩
  | .hbm, ⟨31, _⟩ => ⟨S_, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .f32⟩
  | .hbm, ⟨40, _⟩ => ⟨S32768x5376, .f32⟩
  | .hbm, ⟨41, _⟩ => ⟨S32768x5376, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel5.lean ====
abbrev S8x4096x5376 : Shape := ⟨3, ![8, 4096, 5376]⟩
abbrev S2x3x1x512 : Shape := ⟨4, ![2, 3, 1, 512]⟩
abbrev S1x3x1x512 : Shape := ⟨4, ![1, 3, 1, 512]⟩
abbrev S3x1x512 : Shape := ⟨3, ![3, 1, 512]⟩
abbrev S3x512 : Shape := ⟨2, ![3, 512]⟩
abbrev S8x4096x512 : Shape := ⟨3, ![8, 4096, 512]⟩
abbrev S3x128 : Shape := ⟨2, ![3, 128]⟩
abbrev S1x4096x128 : Shape := ⟨3, ![1, 4096, 128]⟩
abbrev S4096x128 : Shape := ⟨2, ![4096, 128]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S8x4096x5376, .bf16⟩
  | .hbm, ⟨1, _⟩ => ⟨S2x3x1x512, .f32⟩
  | .hbm, ⟨2, _⟩ => ⟨S1x3x1x512, .f32⟩
  | .hbm, ⟨3, _⟩ => ⟨S3x1x512, .f32⟩
  | .hbm, ⟨4, _⟩ => ⟨S3x512, .f32⟩
  | .hbm, ⟨5, _⟩ => ⟨S8x4096x512, .bf16⟩
  | .local _ .vmem, ⟨0, _⟩ => ⟨S3x128, .f32⟩
  | .local _ .vmem, ⟨1, _⟩ => ⟨S3x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | _, _ => ⟨S8x4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c38_i32 : BitVec 32 := 38#32
  let v0 : BitVec 32 := Scalar.addi c38_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8x4096x5376 : Shape := ⟨3, ![8, 4096, 5376]⟩
abbrev S2x3x1x512 : Shape := ⟨4, ![2, 3, 1, 512]⟩
abbrev S8x4096x512 : Shape := ⟨3, ![8, 4096, 512]⟩
abbrev S_ : Shape := ⟨0, ![]⟩
abbrev S8x4098x512 : Shape := ⟨3, ![8, 4098, 512]⟩
abbrev S1x1x1x512 : Shape := ⟨4, ![1, 1, 1, 512]⟩
abbrev S512 : Shape := ⟨1, ![512]⟩
abbrev S1x1x512 : Shape := ⟨3, ![1, 1, 512]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x5376, .bf16⟩
  | .hbm, ⟨1, _⟩ => ⟨S2x3x1x512, .f32⟩
  | .hbm, ⟨2, _⟩ => ⟨S8x4096x512, .bf16⟩
  | .hbm, ⟨3, _⟩ => ⟨S8x4096x512, .f32⟩
  | .hbm, ⟨4, _⟩ => ⟨S8x4096x512, .bf16⟩
  | .hbm, ⟨5, _⟩ => ⟨S8x4096x512, .f32⟩
  | .hbm, ⟨6, _⟩ => ⟨S8x4096x512, .bf16⟩
  | .hbm, ⟨7, _⟩ => ⟨S8x4096x512, .f32⟩
  | .hbm, ⟨8, _⟩ => ⟨S8x4096x512, .f32⟩
  | .hbm, ⟨9, _⟩ => ⟨S_, .i32⟩
  | .hbm, ⟨10, _⟩ => ⟨S_, .f32⟩
  | .hbm, ⟨11, _⟩ => ⟨S8x4098x512, .f32⟩
  | .hbm, ⟨12, _⟩ => ⟨S8x4096x512, .f32⟩
  | .hbm, ⟨13, _⟩ => ⟨S1x1x1x512, .f32⟩
  | .hbm, ⟨14, _⟩ => ⟨S512, .f32⟩
  | .hbm, ⟨15, _⟩ => ⟨S1x1x512, .f32⟩
  | .hbm, ⟨16, _⟩ => ⟨S8x4096x512, .f32⟩
  | .hbm, ⟨17, _⟩ => ⟨S8x4096x512, .f32⟩
  | .hbm, ⟨18, _⟩ => ⟨S_, .f32⟩
  | .hbm, ⟨19, _⟩ => ⟨S8x4096x512, .f32⟩
  | .hbm, ⟨20, _⟩ => ⟨S8x4096x512, .f32⟩
  | .hbm, ⟨21, _⟩ => ⟨S8x4096x512, .f32⟩
  | .hbm, ⟨22, _⟩ => ⟨S1x1x1x512, .f32⟩
  | .hbm, ⟨23, _⟩ => ⟨S512, .f32⟩
  | .hbm, ⟨24, _⟩ => ⟨S1x1x512, .f32⟩
  | .hbm, ⟨25, _⟩ => ⟨S8x4096x512, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S1x1x1x512, .f32⟩
  | .hbm, ⟨30, _⟩ => ⟨S512, .f32⟩
  | .hbm, ⟨31, _⟩ => ⟨S1x1x512, .f32⟩
  | .hbm, ⟨32, _⟩ => ⟨S8x4096x512, .f32⟩
  | .hbm, ⟨33, _⟩ => ⟨S8x4096x512, .f32⟩
  | .hbm, ⟨34, _⟩ => ⟨S8x4096x512, .f32⟩
  | .hbm, ⟨35, _⟩ => ⟨S8x4096x512, .f32⟩
  | .hbm, ⟨36, _⟩ => ⟨S8x4096x512, .bf16⟩
  | _, _ => ⟨S8x4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Kernel6.lean ====
abbrev S8x4096x5376 : Shape := ⟨3, ![8, 4096, 5376]⟩
abbrev S2x8 : Shape := ⟨2, ![2, 8]⟩
abbrev S16 : Shape := ⟨1, ![16]⟩
abbrev S_ : Shape := ⟨0, ![]⟩
abbrev S8 : Shape := ⟨1, ![8]⟩
abbrev S1x8 : Shape := ⟨2, ![1, 8]⟩
abbrev S2x4 : Shape := ⟨2, ![2, 4]⟩
abbrev S2x4x128 : Shape := ⟨3, ![2, 4, 128]⟩
abbrev S2x512 : Shape := ⟨2, ![2, 512]⟩
abbrev S2x1x512 : Shape := ⟨3, ![2, 1, 512]⟩
abbrev S8x4096x512 : Shape := ⟨3, ![8, 4096, 512]⟩
abbrev S1x1024x512 : Shape := ⟨3, ![1, 1024, 512]⟩
abbrev S1x4096x128 : Shape := ⟨3, ![1, 4096, 128]⟩
abbrev S32x128x128 : Shape := ⟨3, ![32, 128, 128]⟩
abbrev S1x128x128 : Shape := ⟨3, ![1, 128, 128]⟩
abbrev S128x128 : Shape := ⟨2, ![128, 128]⟩
abbrev S128x512 : Shape := ⟨2, ![128, 512]⟩
abbrev S64x128 : Shape := ⟨2, ![64, 128]⟩
abbrev S1x128x512 : Shape := ⟨3, ![1, 128, 512]⟩
abbrev S512x128 : Shape := ⟨2, ![512, 128]⟩
abbrev S1x1x512 : Shape := ⟨3, ![1, 1, 512]⟩
abbrev S1x512 : Shape := ⟨2, ![1, 512]⟩
abbrev S512 : Shape := ⟨1, ![512]⟩
abbrev S64x512 : Shape := ⟨2, ![64, 512]⟩

abbrev nBuf : Space → Nat
  | .hbm => 27
  | .vmem => 11
  | .smem => 0
  | _ => 0

abbrev bufTy : (tb : Table) → Fin (tcTables nBuf tb) → BufTy
  | .hbm, ⟨0, _⟩ => ⟨S8x4096x5376, .bf16⟩
  | .hbm, ⟨1, _⟩ => ⟨S2x8, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8, .f32⟩
  | .hbm, ⟨16, _⟩ => ⟨S1x8, .f32⟩
  | .hbm, ⟨17, _⟩ => ⟨S8, .f32⟩
  | .hbm, ⟨18, _⟩ => ⟨S2x4, .f32⟩
  | .hbm, ⟨19, _⟩ => ⟨S2x4x128, .f32⟩
  | .hbm, ⟨20, _⟩ => ⟨S2x512, .f32⟩
  | .hbm, ⟨21, _⟩ => ⟨S2x1x512, .f32⟩
  | .hbm, ⟨22, _⟩ => ⟨S2x4, .f32⟩
  | .hbm, ⟨23, _⟩ => ⟨S2x4x128, .f32⟩
  | .hbm, ⟨24, _⟩ => ⟨S2x512, .f32⟩
  | .hbm, ⟨25, _⟩ => ⟨S2x1x512, .f32⟩
  | .hbm, ⟨26, _⟩ => ⟨S8x4096x512, .bf16⟩
  | .local _ .vmem, ⟨0, _⟩ => ⟨S2x1x512, .f32⟩
  | .local _ .vmem, ⟨1, _⟩ => ⟨S2x1x512, .f32⟩
  | .local _ .vmem, ⟨2, _⟩ => ⟨S1x1024x512, .bf16⟩
  | .local _ .vmem, ⟨3, _⟩ => ⟨S1x1024x512, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x1024x512, .bf16⟩
  | .local _ .vmem, ⟨9, _⟩ => ⟨S1x1024x512, .bf16⟩
  | .local _ .vmem, ⟨10, _⟩ => ⟨S32x128x128, .bf16⟩
  | _, _ => ⟨S8x4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c8_i32 : BitVec 32 := 8#32
  let v26 : BitVec 32 := Scalar.muli arg1 c8_i32
  let c0_i32_5 : BitVec 32 := 0#32
  let v27 : BitVec 32 := Scalar.addi v26 c0_i32_5
  let c128_i32_8 : BitVec 32 := 128#32
  let v30 : BitVec 32 := Scalar.muli v27 c128_i32_8
  v30
def k0_off1 (i : grid0.Coords) (c0_i32_5 : BitVec 32) : Fin 3 → Nat :=
  let c0 : Index := 0#32
  let arg1 : BitVec 32 := BitVec.ofNat 32 (i 1).val
  let c8_i32 : BitVec 32 := 8#32
  let v26 : BitVec 32 := Scalar.muli arg1 c8_i32
  let v27 : BitVec 32 := Scalar.addi v26 c0_i32_5
  let c128_i32_8 : BitVec 32 := 128#32
  let v30 : BitVec 32 := Scalar.muli v27 c128_i32_8
  let v31 : BitVec 32 := v30
  let v32 : Index := Scalar.indexCast v31
  let c0_9 : Index := 0#32
  ![0, v32.toNat, 0]
def k0_mult2 (i : grid0.Coords) : BitVec 32 :=
  let arg1 : BitVec 32 := BitVec.ofNat 32 (i 1).val
  let c8_i32 : BitVec 32 := 8#32
  let v26 : BitVec 32 := Scalar.muli arg1 c8_i32
  let c0_i32_5 : BitVec 32 := 0#32
  let v27 : BitVec 32 := Scalar.addi v26 c0_i32_5
  let c1_i32_6 : BitVec 32 := 1#32
  let v28 : BitVec 32 := Scalar.subi v27 c1_i32_6
  let c0_i32_7 : BitVec 32 := 0#32
  let v29 : BitVec 32 := Scalar.maxsi v28 c0_i32_7
  let c128_i32_10 : BitVec 32 := 128#32
  let v35 : BitVec 32 := Scalar.muli v29 c128_i32_10
  v35
def k0_off2 (i : grid0.Coords) (c0_i32_5 : BitVec 32) : Fin 3 → Nat :=
  let c0_11 : Index := 0#32
  let arg1 : BitVec 32 := BitVec.ofNat 32 (i 1).val
  let c8_i32 : BitVec 32 := 8#32
  let v26 : BitVec 32 := Scalar.muli arg1 c8_i32
  let v27 : BitVec 32 := Scalar.addi v26 c0_i32_5
  let c1_i32_6 : BitVec 32 := 1#32
  let v28 : BitVec 32 := Scalar.subi v27 c1_i32_6
  let c0_i32_7 : BitVec 32 := 0#32
  let v29 : BitVec 32 := Scalar.maxsi v28 c0_i32_7
  let c128_i32_10 : BitVec 32 := 128#32
  let v35 : BitVec 32 := Scalar.muli v29 c128_i32_10
  let v36 : BitVec 32 := v35
  let v37 : Index := Scalar.indexCast v36
  let c0_12 : Index := 0#32
  ![0, v37.toNat, 0]
def k0_mult3 (i : grid0.Coords) : BitVec 32 :=
  let arg1 : BitVec 32 := BitVec.ofNat 32 (i 1).val
  let c8_i32_20 : BitVec 32 := 8#32
  let v68 : BitVec 32 := Scalar.muli arg1 c8_i32_20
  let c1_i32_21 : BitVec 32 := 1#32
  let v69 : BitVec 32 := Scalar.addi v68 c1_i32_21
  let c128_i32_24 : BitVec 32 := 128#32
  let v72 : BitVec 32 := Scalar.muli v69 c128_i32_24
  v72
def k0_mult4 (i : grid0.Coords) : BitVec 32 :=
  let arg1 : BitVec 32 := BitVec.ofNat 32 (i 1).val
  let c8_i32_20 : BitVec 32 := 8#32
  let v68 : BitVec 32 := Scalar.muli arg1 c8_i32_20
  let c1_i32_21 : BitVec 32 := 1#32
  let v69 : BitVec 32 := Scalar.addi v68 c1_i32_21
  let c1_i32_22 : BitVec 32 := 1#32
  let v70 : BitVec 32 := Scalar.subi v69 c1_i32_22
  let c0_i32_23 : BitVec 32 := 0#32
  let v71 : BitVec 32 := Scalar.maxsi v70 c0_i32_23
  let c128_i32_27 : BitVec 32 := 128#32
  let v77 : BitVec 32 := Scalar.muli v71 c128_i32_27
  v77
def k0_mult5 (i : grid0.Coords) : BitVec 32 :=
  let arg1 : BitVec 32 := BitVec.ofNat 32 (i 1).val
  let c8_i32_36 : BitVec 32 := 8#32
  let v110 : BitVec 32 := Scalar.muli arg1 c8_i32_36
  let c2_i32 : BitVec 32 := 2#32
  let v111 : BitVec 32 := Scalar.addi v110 c2_i32
  let c128_i32_39 : BitVec 32 := 128#32
  let v114 : BitVec 32 := Scalar.muli v111 c128_i32_39
  v114
def k0_mult6 (i : grid0.Coords) : BitVec 32 :=
  let arg1 : BitVec 32 := BitVec.ofNat 32 (i 1).val
  let c8_i32_36 : BitVec 32 := 8#32
  let v110 : BitVec 32 := Scalar.muli arg1 c8_i32_36
  let c2_i32 : BitVec 32 := 2#32
  let v111 : BitVec 32 := Scalar.addi v110 c2_i32
  let c1_i32_37 : BitVec 32 := 1#32
  let v112 : BitVec 32 := Scalar.subi v111 c1_i32_37
  let c0_i32_38 : BitVec 32 := 0#32
  let v113 : BitVec 32 := Scalar.maxsi v112 c0_i32_38
  let c128_i32_42 : BitVec 32 := 128#32
  let v119 : BitVec 32 := Scalar.muli v113 c128_i32_42
  v119
def k0_mult7 (i : grid0.Coords) : BitVec 32 :=
  let arg1 : BitVec 32 := BitVec.ofNat 32 (i 1).val
  let c8_i32_51 : BitVec 32 := 8#32
  let v152 : BitVec 32 := Scalar.muli arg1 c8_i32_51
  let c3_i32 : BitVec 32 := 3#32
  let v153 : BitVec 32 := Scalar.addi v152 c3_i32
  let c128_i32_54 : BitVec 32 := 128#32
  let v156 : BitVec 32 := Scalar.muli v153 c128_i32_54
  v156
def k0_mult8 (i : grid0.Coords) : BitVec 32 :=
  let arg1 : BitVec 32 := BitVec.ofNat 32 (i 1).val
  let c8_i32_51 : BitVec 32 := 8#32
  let v152 : BitVec 32 := Scalar.muli arg1 c8_i32_51
  let c3_i32 : BitVec 32 := 3#32
  let v153 : BitVec 32 := Scalar.addi v152 c3_i32
  let c1_i32_52 : BitVec 32 := 1#32
  let v154 : BitVec 32 := Scalar.subi v153 c1_i32_52
  let c0_i32_53 : BitVec 32 := 0#32
  let v155 : BitVec 32 := Scalar.maxsi v154 c0_i32_53
  let c128_i32_57 : BitVec 32 := 128#32
  let v161 : BitVec 32 := Scalar.muli v155 c128_i32_57
  v161
def k0_mult9 (i : grid0.Coords) : BitVec 32 :=
  let arg1 : BitVec 32 := BitVec.ofNat 32 (i 1).val
  let c8_i32_66 : BitVec 32 := 8#32
  let v194 : BitVec 32 := Scalar.muli arg1 c8_i32_66
  let c4_i32 : BitVec 32 := 4#32
  let v195 : BitVec 32 := Scalar.addi v194 c4_i32
  let c128_i32_69 : BitVec 32 := 128#32
  let v198 : BitVec 32 := Scalar.muli v195 c128_i32_69
  v198
def k0_mult10 (i : grid0.Coords) : BitVec 32 :=
  let arg1 : BitVec 32 := BitVec.ofNat 32 (i 1).val
  let c8_i32_66 : BitVec 32 := 8#32
  let v194 : BitVec 32 := Scalar.muli arg1 c8_i32_66
  let c4_i32 : BitVec 32 := 4#32
  let v195 : BitVec 32 := Scalar.addi v194 c4_i32
  let c1_i32_67 : BitVec 32 := 1#32
  let v196 : BitVec 32 := Scalar.subi v195 c1_i32_67
  let c0_i32_68 : BitVec 32 := 0#32
  let v197 : BitVec 32 := Scalar.maxsi v196 c0_i32_68
  let c128_i32_72 : BitVec 32 := 128#32
  let v203 : BitVec 32 := Scalar.muli v197 c128_i32_72
  v203
def k0_mult11 (i : grid0.Coords) : BitVec 32 :=
  let arg1 : BitVec 32 := BitVec.ofNat 32 (i 1).val
  let c8_i32_81 : BitVec 32 := 8#32
  let v236 : BitVec 32 := Scalar.muli arg1 c8_i32_81
  let c5_i32 : BitVec 32 := 5#32
  let v237 : BitVec 32 := Scalar.addi v236 c5_i32
  let c128_i32_84 : BitVec 32 := 128#32
  let v240 : BitVec 32 := Scalar.muli v237 c128_i32_84
  v240
def k0_mult12 (i : grid0.Coords) : BitVec 32 :=
  let arg1 : BitVec 32 := BitVec.ofNat 32 (i 1).val
  let c8_i32_81 : BitVec 32 := 8#32
  let v236 : BitVec 32 := Scalar.muli arg1 c8_i32_81
  let c5_i32 : BitVec 32 := 5#32
  let v237 : BitVec 32 := Scalar.addi v236 c5_i32
  let c1_i32_82 : BitVec 32 := 1#32
  let v238 : BitVec 32 := Scalar.subi v237 c1_i32_82
  let c0_i32_83 : BitVec 32 := 0#32
  let v239 : BitVec 32 := Scalar.maxsi v238 c0_i32_83
  let c128_i32_87 : BitVec 32 := 128#32
  let v245 : BitVec 32 := Scalar.muli v239 c128_i32_87
  v245
def k0_mult13 (i : grid0.Coords) : BitVec 32 :=
  let arg1 : BitVec 32 := BitVec.ofNat 32 (i 1).val
  let c8_i32_96 : BitVec 32 := 8#32
  let v278 : BitVec 32 := Scalar.muli arg1 c8_i32_96
  let c6_i32 : BitVec 32 := 6#32
  let v279 : BitVec 32 := Scalar.addi v278 c6_i32
  let c128_i32_99 : BitVec 32 := 128#32
  let v282 : BitVec 32 := Scalar.muli v279 c128_i32_99
  v282
def k0_mult14 (i : grid0.Coords) : BitVec 32 :=
  let arg1 : BitVec 32 := BitVec.ofNat 32 (i 1).val
  let c8_i32_96 : BitVec 32 := 8#32
  let v278 : BitVec 32 := Scalar.muli arg1 c8_i32_96
  let c6_i32 : BitVec 32 := 6#32
  let v279 : BitVec 32 := Scalar.addi v278 c6_i32
  let c1_i32_97 : BitVec 32 := 1#32
  let v280 : BitVec 32 := Scalar.subi v279 c1_i32_97
  let c0_i32_98 : BitVec 32 := 0#32
  let v281 : BitVec 32 := Scalar.maxsi v280 c0_i32_98
  let c128_i32_102 : BitVec 32 := 128#32
  let v287 : BitVec 32 := Scalar.muli v281 c128_i32_102
  v287
def k0_mult15 (i : grid0.Coords) : BitVec 32 :=
  let arg1 : BitVec 32 := BitVec.ofNat 32 (i 1).val
  let c8_i32_111 : BitVec 32 := 8#32
  let v320 : BitVec 32 := Scalar.muli arg1 c8_i32_111
  let c7_i32 : BitVec 32 := 7#32
  let v321 : BitVec 32 := Scalar.addi v320 c7_i32
  let c128_i32_114 : BitVec 32 := 128#32
  let v324 : BitVec 32 := Scalar.muli v321 c128_i32_114
  v324
def k0_mult16 (i : grid0.Coords) : BitVec 32 :=
  let arg1 : BitVec 32 := BitVec.ofNat 32 (i 1).val
  let c8_i32_111 : BitVec 32 := 8#32
  let v320 : BitVec 32 := Scalar.muli arg1 c8_i32_111
  let c7_i32 : BitVec 32 := 7#32
  let v321 : BitVec 32 := Scalar.addi v320 c7_i32
  let c1_i32_112 : BitVec 32 := 1#32
  let v322 : BitVec 32 := Scalar.subi v321 c1_i32_112
  let c0_i32_113 : BitVec 32 := 0#32
  let v323 : BitVec 32 := Scalar.maxsi v322 c0_i32_113
  let c128_i32_117 : BitVec 32 := 128#32
  let v329 : BitVec 32 := Scalar.muli v323 c128_i32_117
  v329
def k0_off3 (i : grid0.Coords) (c0_i32_5 : BitVec 32) : Fin 3 → Nat :=
  let arg1 : BitVec 32 := BitVec.ofNat 32 (i 1).val
  let c8_i32 : BitVec 32 := 8#32
  let v26 : BitVec 32 := Scalar.muli arg1 c8_i32
  let v27 : BitVec 32 := Scalar.addi v26 c0_i32_5
  let v1082 : Index := Scalar.indexCast v27
  let c0_381 : Index := 0#32
  let c0_382 : Index := 0#32
  ![v1082.toNat, 0, 0]
def k0_off4 (i : grid0.Coords) (c0_i32_5 : BitVec 32) : Fin 3 → Nat :=
  let arg1 : BitVec 32 := BitVec.ofNat 32 (i 1).val
  let c8_i32 : BitVec 32 := 8#32
  let v26 : BitVec 32 := Scalar.muli arg1 c8_i32
  let v27 : BitVec 32 := Scalar.addi v26 c0_i32_5
  let c1_i32_383 : BitVec 32 := 1#32
  let v1086 : BitVec 32 := Scalar.subi v27 c1_i32_383
  let c0_i32_384 : BitVec 32 := 0#32
  let v1087 : BitVec 32 := Scalar.maxsi v1086 c0_i32_384
  let v1088 : Index := Scalar.indexCast v1087
  let c0_385 : Index := 0#32
  let c0_386 : Index := 0#32
  ![v1088.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c28_i32 : BitVec 32 := 28#32
  let c0_i32_0 : BitVec 32 := 0#32
  ![arg0.toNat, c0_i32.toNat, c28_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c29_i32 : BitVec 32 := 29#32
  let c0_i32_0 : BitVec 32 := 0#32
  ![arg0.toNat, c0_i32.toNat, c29_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel6Ideal.lean ====
variable {F : FTy → Type} [FloatOps F] [Named F]
def κ : String → Option EReal := fun
  | "log2_e" => some (((Real.log 2)⁻¹ : ℝ) : EReal)
  | "mask" => some ⊥
  | _ => none
-- ==== Reference6Ideal.lean ====
abbrev S8x4096x5376 : Shape := ⟨3, ![8, 4096, 5376]⟩
abbrev S2x8 : Shape := ⟨2, ![2, 8]⟩
abbrev S8x4096x512 : Shape := ⟨3, ![8, 4096, 512]⟩
abbrev S8x4096x8x64 : Shape := ⟨4, ![8, 4096, 8, 64]⟩
abbrev S8x4096x128 : Shape := ⟨3, ![8, 4096, 128]⟩
abbrev S8x4096x2x64 : Shape := ⟨4, ![8, 4096, 2, 64]⟩
abbrev S16 : Shape := ⟨1, ![16]⟩
abbrev S_ : Shape := ⟨0, ![]⟩
abbrev S1x8 : Shape := ⟨2, ![1, 8]⟩
abbrev S8 : Shape := ⟨1, ![8]⟩
abbrev S8x32x128x2x4x64 : Shape := ⟨6, ![8, 32, 128, 2, 4, 64]⟩
abbrev S8x32x128x2x64 : Shape := ⟨5, ![8, 32, 128, 2, 64]⟩
abbrev S8x33x128x2x64 : Shape := ⟨5, ![8, 33, 128, 2, 64]⟩
abbrev S8x32x256x2x64 : Shape := ⟨5, ![8, 32, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S2x4 : Shape := ⟨2, ![2, 4]⟩
abbrev S1x1x2x4x1x1 : Shape := ⟨6, ![1, 1, 2, 4, 1, 1]⟩
abbrev S8x32x2x256x128x4 : Shape := ⟨6, ![8, 32, 2, 256, 128, 4]⟩
abbrev S8x32x2x4x128x256 : Shape := ⟨6, ![8, 32, 2, 4, 128, 256]⟩
abbrev S1x1x1x1x128x256 : Shape := ⟨6, ![1, 1, 1, 1, 128, 256]⟩
abbrev S1x1x2x4x128x256 : Shape := ⟨6, ![1, 1, 2, 4, 128, 256]⟩
abbrev S1x32x1x1x128x256 : Shape := ⟨6, ![1, 32, 1, 1, 128, 256]⟩
abbrev S8x32x2x4x128 : Shape := ⟨5, ![8, 32, 2, 4, 128]⟩
abbrev S8x32x2x4x128x1 : Shape := ⟨6, ![8, 32, 2, 4, 128, 1]⟩
abbrev S8x32x2x64x4x128 : Shape := ⟨6, ![8, 32, 2, 64, 4, 128]⟩

abbrev nBuf : Space → Nat
  | .hbm => 128
  | .vmem => 0
  | .smem => 0
  | _ => 0

abbrev bufTy : (tb : Table) → Fin (tcTables nBuf tb) → BufTy
  | .hbm, ⟨0, _⟩ => ⟨S8x4096x5376, .bf16⟩
  | .hbm, ⟨1, _⟩ => ⟨S2x8, .f32⟩
  | .hbm, ⟨2, _⟩ => ⟨S8x4096x512, .bf16⟩
  | .hbm, ⟨3, _⟩ => ⟨S8x4096x512, .f32⟩
  | .hbm, ⟨4, _⟩ => ⟨S8x4096x8x64, .f32⟩
  | .hbm, ⟨5, _⟩ => ⟨S8x4096x128, .bf16⟩
  | .hbm, ⟨6, _⟩ => ⟨S8x4096x128, .f32⟩
  | .hbm, ⟨7, _⟩ => ⟨S8x4096x2x64, .f32⟩
  | .hbm, ⟨8, _⟩ => ⟨S8x4096x128, .bf16⟩
  | .hbm, ⟨9, _⟩ => ⟨S8x4096x128, .f32⟩
  | .hbm, ⟨10, _⟩ => ⟨S8x4096x2x64, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x4096x8x64, .f32⟩
  | .hbm, ⟨29, _⟩ => ⟨S8x4096x8x64, .f32⟩
  | .hbm, ⟨30, _⟩ => ⟨S1x8, .f32⟩
  | .hbm, ⟨31, _⟩ => ⟨S8, .f32⟩
  | .hbm, ⟨32, _⟩ => ⟨S8, .f32⟩
  | .hbm, ⟨33, _⟩ => ⟨S8x32x128x2x4x64, .f32⟩
  | .hbm, ⟨34, _⟩ => ⟨S8x32x128x2x64, .f32⟩
  | .hbm, ⟨35, _⟩ => ⟨S_, .i32⟩
  | .hbm, ⟨36, _⟩ => ⟨S_, .f32⟩
  | .hbm, ⟨37, _⟩ => ⟨S8x33x128x2x64, .f32⟩
  | .hbm, ⟨38, _⟩ => ⟨S8x32x128x2x64, .f32⟩
  | .hbm, ⟨39, _⟩ => ⟨S8x32x256x2x64, .f32⟩
  | .hbm, ⟨40, _⟩ => ⟨S8x32x128x2x64, .f32⟩
  | .hbm, ⟨41, _⟩ => ⟨S_, .i32⟩
  | .hbm, ⟨42, _⟩ => ⟨S_, .f32⟩
  | .hbm, ⟨43, _⟩ => ⟨S8x33x128x2x64, .f32⟩
  | .hbm, ⟨44, _⟩ => ⟨S8x32x128x2x64, .f32⟩
  | .hbm, ⟨45, _⟩ => ⟨S8x32x256x2x64, .f32⟩
  | .hbm, ⟨46, _⟩ => ⟨S128, .i32⟩
  | .hbm, ⟨47, _⟩ => ⟨S128x1, .i32⟩
  | .hbm, ⟨48, _⟩ => ⟨S_, .i32⟩
  | .hbm, ⟨49, _⟩ => ⟨S128x1, .i32⟩
  | .hbm, ⟨50, _⟩ => ⟨S128x1, .i32⟩
  | .hbm, ⟨51, _⟩ => ⟨S256, .i32⟩
  | .hbm, ⟨52, _⟩ => ⟨S1x256, .i32⟩
  | .hbm, ⟨53, _⟩ => ⟨S128x256, .i32⟩
  | .hbm, ⟨54, _⟩ => ⟨S128x256, .i32⟩
  | .hbm, ⟨55, _⟩ => ⟨S128x256, .i32⟩
  | .hbm, ⟨56, _⟩ => ⟨S32, .i32⟩
  | .hbm, ⟨57, _⟩ => ⟨S32x1, .i32⟩
  | .hbm, ⟨58, _⟩ => ⟨S_, .i32⟩
  | .hbm, ⟨59, _⟩ => ⟨S32x1, .i32⟩
  | .hbm, ⟨60, _⟩ => ⟨S32x1, .i32⟩
  | .hbm, ⟨61, _⟩ => ⟨S_, .i32⟩
  | .hbm, ⟨62, _⟩ => ⟨S32x1, .i32⟩
  | .hbm, ⟨63, _⟩ => ⟨S32x1, .i32⟩
  | .hbm, ⟨64, _⟩ => ⟨S256, .i32⟩
  | .hbm, ⟨65, _⟩ => ⟨S1x256, .i32⟩
  | .hbm, ⟨66, _⟩ => ⟨S32x256, .i32⟩
  | .hbm, ⟨67, _⟩ => ⟨S32x256, .i32⟩
  | .hbm, ⟨68, _⟩ => ⟨S32x256, .i32⟩
  | .hbm, ⟨69, _⟩ => ⟨S_, .i32⟩
  | .hbm, ⟨70, _⟩ => ⟨S128x256, .i32⟩
  | .hbm, ⟨71, _⟩ => ⟨S128x256, .i1⟩
  | .hbm, ⟨72, _⟩ => ⟨S1x128x256, .i1⟩
  | .hbm, ⟨73, _⟩ => ⟨S_, .i32⟩
  | .hbm, ⟨74, _⟩ => ⟨S128x256, .i32⟩
  | .hbm, ⟨75, _⟩ => ⟨S128x256, .i1⟩
  | .hbm, ⟨76, _⟩ => ⟨S1x128x256, .i1⟩
  | .hbm, ⟨77, _⟩ => ⟨S1x128x256, .i1⟩
  | .hbm, ⟨78, _⟩ => ⟨S_, .i32⟩
  | .hbm, ⟨79, _⟩ => ⟨S32x256, .i32⟩
  | .hbm, ⟨80, _⟩ => ⟨S32x256, .i1⟩
  | .hbm, ⟨81, _⟩ => ⟨S32x1x256, .i1⟩
  | .hbm, ⟨82, _⟩ => ⟨S32x128x256, .i1⟩
  | .hbm, ⟨83, _⟩ => ⟨S32x128x256, .i1⟩
  | .hbm, ⟨84, _⟩ => ⟨S32x128x256, .i1⟩
  | .hbm, ⟨85, _⟩ => ⟨S2x4, .f32⟩
  | .hbm, ⟨86, _⟩ => ⟨S1x1x2x4x1x1, .f32⟩
  | .hbm, ⟨87, _⟩ => ⟨S8x32x2x256x128x4, .f32⟩
  | .hbm, ⟨88, _⟩ => ⟨S8x32x2x4x128x256, .f32⟩
  | .hbm, ⟨89, _⟩ => ⟨S_, .f32⟩
  | .hbm, ⟨90, _⟩ => ⟨S8x32x2x4x128x256, .f32⟩
  | .hbm, ⟨91, _⟩ => ⟨S8x32x2x4x128x256, .f32⟩
  | .hbm, ⟨92, _⟩ => ⟨S128x256, .f32⟩
  | .hbm, ⟨93, _⟩ => ⟨S1x1x1x1x128x256, .f32⟩
  | .hbm, ⟨94, _⟩ => ⟨S1x1x2x4x128x256, .f32⟩
  | .hbm, ⟨95, _⟩ => ⟨S1x1x2x4x128x256, .f32⟩
  | .hbm, ⟨96, _⟩ => ⟨S1x1x2x4x128x256, .f32⟩
  | .hbm, ⟨97, _⟩ => ⟨S8x32x2x4x128x256, .f32⟩
  | .hbm, ⟨98, _⟩ => ⟨S8x32x2x4x128x256, .f32⟩
  | .hbm, ⟨99, _⟩ => ⟨S1x32x1x1x128x256, .i1⟩
  | .hbm, ⟨100, _⟩ => ⟨S_, .f32⟩
  | .hbm, ⟨101, _⟩ => ⟨S_, .f32⟩
  | .hbm, ⟨102, _⟩ => ⟨S8x32x2x4x128x256, .i1⟩
  | .hbm, ⟨103, _⟩ => ⟨S8x32x2x4x128x256, .f32⟩
  | .hbm, ⟨104, _⟩ => ⟨S8x32x2x4x128x256, .f32⟩
  | .hbm, ⟨105, _⟩ => ⟨S2x4, .f32⟩
  | .hbm, ⟨106, _⟩ => ⟨S1x1x2x4x1x1, .f32⟩
  | .hbm, ⟨107, _⟩ => ⟨S_, .f32⟩
  | .hbm, ⟨108, _⟩ => ⟨S8x32x2x4x128, .f32⟩
  | .hbm, ⟨109, _⟩ => ⟨S8x32x2x4x128x1, .f32⟩
  | .hbm, ⟨110, _⟩ => ⟨S8x32x2x4x128x1, .f32⟩
  | .hbm, ⟨111, _⟩ => ⟨S8x32x2x4x128x1, .f32⟩
  | .hbm, ⟨112, _⟩ => ⟨S8x32x2x4x128x256, .f32⟩
  | .hbm, ⟨113, _⟩ => ⟨S8x32x2x4x128x256, .f32⟩
  | .hbm, ⟨114, _⟩ => ⟨S8x32x2x4x128x256, .f32⟩
  | .hbm, ⟨115, _⟩ => ⟨S_, .f32⟩
  | .hbm, ⟨116, _⟩ => ⟨S8x32x2x4x128, .f32⟩
  | .hbm, ⟨117, _⟩ => ⟨S8x32x2x4x128x1, .f32⟩
  | .hbm, ⟨118, _⟩ => ⟨S8x32x2x4x128x1, .f32⟩
  | .hbm, ⟨119, _⟩ => ⟨S8x32x2x4x128x1, .f32⟩
  | .hbm, ⟨120, _⟩ => ⟨S8x32x2x4x128x1, .f32⟩
  | .hbm, ⟨121, _⟩ => ⟨S8x32x2x4x128x1, .f32⟩
  | .hbm, ⟨122, _⟩ => ⟨S8x32x2x4x128x256, .f32⟩
  | .hbm, ⟨123, _⟩ => ⟨S8x32x2x4x128x256, .f32⟩
  | .hbm, ⟨124, _⟩ => ⟨S8x32x2x64x4x128, .f32⟩
  | .hbm, ⟨125, _⟩ => ⟨S8x32x128x2x4x64, .f32⟩
  | .hbm, ⟨126, _⟩ => ⟨S8x4096x512, .f32⟩
  | .hbm, ⟨127, _⟩ => ⟨S8x4096x512, .bf16⟩
  | _, _ => ⟨S8x4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_call0_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_call1_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_11 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_13 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_14 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_15 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩

abbrev nD : Nat := 1
abbrev τ : Topo := Topo.v7x

variable {F : FTy → Type} [FloatOps F]
-- ==== Proof.Common.lean ====
/-
  Accumulation over runs of grid points whose first point starts from a block of its own.
-/
module

public import Idealize.ShloMosaic.Lib.Pipeline.ValueKit
public import Idealize.ShloMosaic.Lib.Pipeline.ValueKit.Held

@[expose] public section

open Idealize.ShloMosaic
open scoped BigOperators

namespace Cert.Common

variable {N : ℕ} {ι M : Type*} [AddCommMonoid M]

/-- At a run's last point the accumulated block is the run's starting block plus the run's `J` terms. -/
theorem run_sum (f : (n : ℕ) → n < N → ι → M) (J : ℕ) [NeZero J] (init term : Fin N → ι → M)
    (h0 : ∀ t : Fin N, t.val % J = 0 → ∀ i, f t.val t.isLt i = init t i + term t i)
    (hs : ∀ t : Fin N, ¬t.val % J = 0 → ∀ i,
      f t.val t.isLt i = f (t.val - 1) (Nat.lt_of_le_of_lt (Nat.sub_le _ _) t.isLt) i + term t i)
    (t : Fin N) (hr : t.val % J = J - 1) (i : ι) :
    f t.val t.isLt i = init ⟨J * (t.val / J), Pipeline.run_start_lt t⟩ i
      + ∑ s : Fin J, term ⟨J * (t.val / J) + s.val, Pipeline.run_point_lt_of_flush t hr s⟩ i := by
  have key := Pipeline.eq_sum_fin_of_reset_step_apply_of_flush f J (fun _ => 0)
    (fun t i => (if t.val % J = 0 then init t i else 0) + term t i)
    (fun t h i => by rw [if_pos h, zero_add]; exact h0 t h i)
    (fun t h i => by rw [if_neg h, zero_add]; exact hs t h i) t hr i
  rw [key, zero_add, Finset.sum_add_distrib]
  congr 1
  rw [Finset.sum_eq_single (0 : Fin J)]
  · simp
  · intro s _ hne
    have : ¬ (J * (t.val / J) + s.val) % J = 0 := by
      rw [Nat.mul_add_mod, Nat.mod_eq_of_lt s.isLt]
      exact fun h => hne (Fin.ext (by simpa using h))
    exact if_neg this
  · simp

end Cert.Common
-- ==== Proof.Merge.Body.lean ====
/-
  The merge call, block by block over the extended reals. `XN` is the normalised row, `MG` the gated sum of the four
  branch products at one column. At each grid point the kernel adds to the output block the products of 512 columns of
  `MG` with the matching rows of the output projection; the carried scratch holds `XN` of the run's rows throughout.
-/
module

public import proofs.«01_k».proof.Proof.Gen.KernelIdeal.Frame
public import Idealize.ShloMosaic.Lib.Pipeline.ValueKit
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open scoped BigOperators

namespace Cert.KernelIdeal.Merge

open Cert.KernelIdeal Cert.KernelIdeal.Gen

/-- A token row, normalised by its root mean square and scaled by the second row of the gains. -/
def XN (H : FVec Ideal S32768x2048 .f32) (G : FVec Ideal S2x2048 .f32) (r : Fin 32768) (l : Fin 2048) : EReal :=
  H (ix2 r l) * Ideal.rsqrt (Ideal.div (∑ k : Fin 2048, H (ix2 r k) * H (ix2 r k)) (Ideal.ofBits .f32 0x45000000#32)
    + Ideal.ofBits .f32 0x358637BD#32) * G (ix2 1 l)

/-- One branch at one output column: the gate's logistic times the branch product. -/
def BR (H : FVec Ideal S32768x2048 .f32) (G : FVec Ideal S2x2048 .f32) (W : FVec Ideal S2x2048x13568 .f32)
    (Y : FVec Ideal S8x4096x512 .bf16) (B : FVec Ideal S2x4x512x2048 .f32) (n : Fin 4) (r : Fin 32768) (k : Fin 2048) : EReal :=
  Ideal.logistic (∑ l : Fin 2048, XN H G r l * W (ix3 1 l ⟨5376 + n.val * 2048 + k.val, by omega⟩))
    * ∑ d : Fin 512, Y (ix3 ⟨r.val / 4096, by omega⟩ ⟨r.val % 4096, by omega⟩ d) * B (ix4 1 n d k)

/-- The four branches at one output column, added in order. -/
def MG (H : FVec Ideal S32768x2048 .f32) (G : FVec Ideal S2x2048 .f32) (W : FVec Ideal S2x2048x13568 .f32)
    (Y0 Y1 Y2 Y3 : FVec Ideal S8x4096x512 .bf16) (B : FVec Ideal S2x4x512x2048 .f32) (r : Fin 32768) (k : Fin 2048) : EReal :=
  BR H G W Y0 B 0 r k + BR H G W Y1 B 1 r k + BR H G W Y2 B 2 r k + BR H G W Y3 B 3 r k

/-- What the merge computes: the residual plus the gated sum through the output projection. -/
def OUT (H : FVec Ideal S32768x2048 .f32) (G : FVec Ideal S2x2048 .f32) (W : FVec Ideal S2x2048x13568 .f32)
    (Y0 Y1 Y2 Y3 : FVec Ideal S8x4096x512 .bf16) (B : FVec Ideal S2x4x512x2048 .f32) (O : FVec Ideal S2x2048x2048 .f32) :
    FVec Ideal S32768x2048 .f32 := fun i =>
  H (ix2 (i 0) (i 1)) + ∑ k : Fin 2048, MG H G W Y0 Y1 Y2 Y3 B (i 0) k * O (ix3 1 k (i 1))

/-- The accumulating store read at an index. -/
theorem step_at (acc : FVec Ideal S512x2048 .f32) (xn : FVec Ideal S512x2048 .bf16)
    (y0 y1 y2 y3 : FVec Ideal S512x512 .bf16) (g0 g1 g2 g3 : FVec Ideal S1x2048x512 .bf16)
    (b0 b1 b2 b3 : FVec Ideal S1x1x512x512 .bf16) (wo : FVec Ideal S1x512x2048 .bf16) (p : Fin 512) (q : Fin 2048) :
    k0_pay1 acc xn (k0_pay4 y1) (k0_pay5 y2) (k0_pay6 y3) (k0_pay7 xn y0 g0 b0) (k0_pay8 xn g1) b1 g2 b2 g3 b3 wo (ix2 p q)
      = acc (ix2 p q) + ∑ k : Fin 512,
        (Ideal.logistic (∑ l : Fin 2048, xn (ix2 p l) * g0 (ix3 0 l k)) * (∑ d : Fin 512, y0 (ix2 p d) * b0 (ix4 0 0 d k))
        + Ideal.logistic (∑ l : Fin 2048, xn (ix2 p l) * g1 (ix3 0 l k)) * (∑ d : Fin 512, y1 (ix2 p d) * b1 (ix4 0 0 d k))
        + Ideal.logistic (∑ l : Fin 2048, xn (ix2 p l) * g2 (ix3 0 l k)) * (∑ d : Fin 512, y2 (ix2 p d) * b2 (ix4 0 0 d k))
        + Ideal.logistic (∑ l : Fin 2048, xn (ix2 p l) * g3 (ix3 0 l k)) * (∑ d : Fin 512, y3 (ix2 p d) * b3 (ix4 0 0 d k)))
        * wo (ix3 0 k q) := by
  pointwise [k0_pay1, k0_pay4, k0_pay5, k0_pay6, k0_pay7, k0_pay8]

/-- The normalising store read at an index. -/
theorem norm_at (x : FVec Ideal S512x2048 .f32) (g : FVec Ideal S1x2048 .f32) (p : Fin 512) (q : Fin 2048) :
    k0_pay2 (F := Ideal) x g (ix2 p q) = x (ix2 p q) * Ideal.rsqrt (Ideal.div (∑ k : Fin 2048, x (ix2 p k) * x (ix2 p k))
      (Ideal.ofBits .f32 0x45000000#32) + Ideal.ofBits .f32 0x358637BD#32) * g (ix2 0 q) := by
  pointwise [k0_pay2]

variable (m : (ℓ : Loc nD τ sig) → Buf (Elt Ideal) ℓ)

/-- Where each window sits at grid point `t`. -/
theorem idx : ∀ t : Fin cfg0.N, win0_0.index t = ![t.val / 4, 0]
    ∧ win0_1.index t = ![0, 0]
    ∧ win0_2.index t = ![t.val / 4, 0]
    ∧ win0_3.index t = ![t.val / 4, 0]
    ∧ win0_4.index t = ![t.val / 4, 0]
    ∧ win0_5.index t = ![t.val / 4, 0]
    ∧ win0_6.index t = ![1, 0, 5376 + t.val % 4 * 512]
    ∧ win0_7.index t = ![1, 0, 7424 + t.val % 4 * 512]
    ∧ win0_8.index t = ![1, 0, 9472 + t.val % 4 * 512]
    ∧ win0_9.index t = ![1, 0, 11520 + t.val % 4 * 512]
    ∧ win0_10.index t = ![1, 0, 0, t.val % 4]
    ∧ win0_11.index t = ![1, t.val % 4, 0]
    ∧ win0_12.index t = ![t.val / 4, 0]
    ∧ t.val / 4 < 64 :=
  (by decide +kernel : ∀ t : Fin grid0.N, _)

/-- The token row that row `p` of point `t`'s blocks is. -/
abbrev row (t : Fin cfg0.N) (p : Fin 512) : Fin 32768 := ⟨t.val / 4 * 512 + p.val, by have := (idx t).2.2.2.2.2.2.2.2.2.2.2.2.2; omega⟩

theorem blk0 (c : Dev nD) (t : Fin cfg0.N) (p : Fin 512) (q : Fin 2048) :
    (iblk m c 0 t : FVec Ideal S512x2048 .f32) (ix2 p q) = m ((c : Thread nD τ).loc main_arg0) (ix2 (row t p) q) := by
  blk_ext [iblk, V, idx t]

theorem blk1 (c : Dev nD) (t : Fin cfg0.N) (q : Fin 2048) :
    (iblk m c 1 t : FVec Ideal S1x2048 .f32) (ix2 0 q) = m ((c : Thread nD τ).loc main_arg1) (ix2 1 q) := by
  blk_simp [iblk, idx t]; entry_read; pointwise; blk_ext [idx t]

theorem blk2 (c : Dev nD) (t : Fin cfg0.N) (p : Fin 512) (q : Fin 512) :
    (iblk m c 2 t : FVec Ideal S512x512 .bf16) (ix2 p q)
      = m ((c : Thread nD τ).loc main_arg2) (ix3 ⟨(row t p).val / 4096, by omega⟩ ⟨(row t p).val % 4096, by omega⟩ q) := by
  blk_simp [iblk, idx t]; entry_read; pointwise; blk_ext [idx t]

theorem blk3 (c : Dev nD) (t : Fin cfg0.N) (p : Fin 512) (q : Fin 512) :
    (iblk m c 3 t : FVec Ideal S512x512 .bf16) (ix2 p q)
      = m ((c : Thread nD τ).loc main_arg3) (ix3 ⟨(row t p).val / 4096, by omega⟩ ⟨(row t p).val % 4096, by omega⟩ q) := by
  blk_simp [iblk, idx t]; entry_read; pointwise; blk_ext [idx t]

theorem blk4 (c : Dev nD) (t : Fin cfg0.N) (p : Fin 512) (q : Fin 512) :
    (iblk m c 4 t : FVec Ideal S512x512 .bf16) (ix2 p q)
      = m ((c : Thread nD τ).loc main_arg4) (ix3 ⟨(row t p).val / 4096, by omega⟩ ⟨(row t p).val % 4096, by omega⟩ q) := by
  blk_simp [iblk, idx t]; entry_read; pointwise; blk_ext [idx t]

theorem blk5 (c : Dev nD) (t : Fin cfg0.N) (p : Fin 512) (q : Fin 512) :
    (iblk m c 5 t : FVec Ideal S512x512 .bf16) (ix2 p q)
      = m ((c : Thread nD τ).loc main_arg5) (ix3 ⟨(row t p).val / 4096, by omega⟩ ⟨(row t p).val % 4096, by omega⟩ q) := by
  blk_simp [iblk, idx t]; entry_read; pointwise; blk_ext [idx t]

theorem blk6 (c : Dev nD) (t : Fin cfg0.N) (l : Fin 2048) (k : Fin 512) :
    (iblk m c 6 t : FVec Ideal S1x2048x512 .bf16) (ix3 0 l k)
      = m ((c : Thread nD τ).loc main_arg6) (ix3 1 l ⟨5376 + (0 : Fin 4).val * 2048 + (t.val % 4 * 512 + k.val), by have : ((0 : Fin 4).val) = 0 := rfl; omega⟩) := by
  blk_simp [iblk, idx t]; entry_read; pointwise
  have e (a : Fin 3) : (((win0_6.rect t).emb (ix3 0 l k) a : Fin _) : ℕ) = win0_6.index t a + ((ix3 0 l k : S1x2048x512.Idx) a : ℕ) :=
    win0_6.rect_emb_val_off t (ix3 0 l k) a
  have f := (idx t).2.2.2.2.2.2.1
  refine congrArg _ (funext fun a => Fin.ext ((e a).trans ?_))
  rw [f]
  match a with
  | ⟨0, _⟩ => rfl
  | ⟨1, _⟩ => exact Nat.zero_add _
  | ⟨2, _⟩ => show 5376 + t.val % 4 * 512 + k.val = 5376 + 0 * 2048 + (t.val % 4 * 512 + k.val); omega

theorem blk7 (c : Dev nD) (t : Fin cfg0.N) (l : Fin 2048) (k : Fin 512) :
    (iblk m c 7 t : FVec Ideal S1x2048x512 .bf16) (ix3 0 l k)
      = m ((c : Thread nD τ).loc main_arg6) (ix3 1 l ⟨5376 + (1 : Fin 4).val * 2048 + (t.val % 4 * 512 + k.val), by have : ((1 : Fin 4).val) = 1 := rfl; omega⟩) := by
  blk_simp [iblk, idx t]; entry_read; pointwise
  have e (a : Fin 3) : (((win0_7.rect t).emb (ix3 0 l k) a : Fin _) : ℕ) = win0_7.index t a + ((ix3 0 l k : S1x2048x512.Idx) a : ℕ) :=
    win0_7.rect_emb_val_off t (ix3 0 l k) a
  have f := (idx t).2.2.2.2.2.2.2.1
  refine congrArg _ (funext fun a => Fin.ext ((e a).trans ?_))
  rw [f]
  match a with
  | ⟨0, _⟩ => rfl
  | ⟨1, _⟩ => exact Nat.zero_add _
  | ⟨2, _⟩ => show 7424 + t.val % 4 * 512 + k.val = 5376 + 1 * 2048 + (t.val % 4 * 512 + k.val); omega

theorem blk8 (c : Dev nD) (t : Fin cfg0.N) (l : Fin 2048) (k : Fin 512) :
    (iblk m c 8 t : FVec Ideal S1x2048x512 .bf16) (ix3 0 l k)
      = m ((c : Thread nD τ).loc main_arg6) (ix3 1 l ⟨5376 + (2 : Fin 4).val * 2048 + (t.val % 4 * 512 + k.val), by have : ((2 : Fin 4).val) = 2 := rfl; omega⟩) := by
  blk_simp [iblk, idx t]; entry_read; pointwise
  have e (a : Fin 3) : (((win0_8.rect t).emb (ix3 0 l k) a : Fin _) : ℕ) = win0_8.index t a + ((ix3 0 l k : S1x2048x512.Idx) a : ℕ) :=
    win0_8.rect_emb_val_off t (ix3 0 l k) a
  have f := (idx t).2.2.2.2.2.2.2.2.1
  refine congrArg _ (funext fun a => Fin.ext ((e a).trans ?_))
  rw [f]
  match a with
  | ⟨0, _⟩ => rfl
  | ⟨1, _⟩ => exact Nat.zero_add _
  | ⟨2, _⟩ => show 9472 + t.val % 4 * 512 + k.val = 5376 + 2 * 2048 + (t.val % 4 * 512 + k.val); omega

theorem blk9 (c : Dev nD) (t : Fin cfg0.N) (l : Fin 2048) (k : Fin 512) :
    (iblk m c 9 t : FVec Ideal S1x2048x512 .bf16) (ix3 0 l k)
      = m ((c : Thread nD τ).loc main_arg6) (ix3 1 l ⟨5376 + (3 : Fin 4).val * 2048 + (t.val % 4 * 512 + k.val), by have : ((3 : Fin 4).val) = 3 := rfl; omega⟩) := by
  blk_simp [iblk, idx t]; entry_read; pointwise
  have e (a : Fin 3) : (((win0_9.rect t).emb (ix3 0 l k) a : Fin _) : ℕ) = win0_9.index t a + ((ix3 0 l k : S1x2048x512.Idx) a : ℕ) :=
    win0_9.rect_emb_val_off t (ix3 0 l k) a
  have f := (idx t).2.2.2.2.2.2.2.2.2.1
  refine congrArg _ (funext fun a => Fin.ext ((e a).trans ?_))
  rw [f]
  match a with
  | ⟨0, _⟩ => rfl
  | ⟨1, _⟩ => exact Nat.zero_add _
  | ⟨2, _⟩ => show 11520 + t.val % 4 * 512 + k.val = 5376 + 3 * 2048 + (t.val % 4 * 512 + k.val); omega

theorem blk10 (c : Dev nD) (t : Fin cfg0.N) (n : Fin 4) (l : Fin 512) (k : Fin 512) :
    (iblk m c 10 t : FVec Ideal S1x4x512x512 .bf16) (ix4 0 n l k)
      = m ((c : Thread nD τ).loc main_arg7) (ix4 1 n l ⟨t.val % 4 * 512 + k.val, by omega⟩) := by
  blk_simp [iblk, idx t]; entry_read; pointwise; blk_ext [idx t]

theorem blk11 (c : Dev nD) (t : Fin cfg0.N) (k : Fin 512) (q : Fin 2048) :
    (iblk m c 11 t : FVec Ideal S1x512x2048 .bf16) (ix3 0 k q)
      = m ((c : Thread nD τ).loc main_arg8) (ix3 1 ⟨t.val % 4 * 512 + k.val, by omega⟩ q) := by
  blk_simp [iblk, idx t]; entry_read; pointwise; blk_ext [idx t]

/-- The carried scratch holds the normalised rows at every point. -/
theorem scratch (c : Dev nD) (t : Fin cfg0.N) (p : Fin 512) (l : Fin 2048) :
    (outsAt0 m c t.val t.isLt).2 (ix2 p l)
      = XN (m ((c : Thread nD τ).loc main_arg0)) (m ((c : Thread nD τ).loc main_arg1)) (row t p) l := by
  rw [Pipeline.eq_of_write_hold_apply (fun n h => (outsAt0 m c n h).2) 4
    (fun t => k0_pay2 (F := Ideal) (iblk m c 0 t) (iblk m c 1 t))
    (fun t h i => by rw [outsAt0_A m c t h]; frame_out)
    (fun t h i => by rw [outsAt0_B m c t h]; rfl) t (ix2 p l), norm_at]
  simp only [blk0, blk1]
  have e : row ⟨4 * (t.val / 4), Pipeline.run_start_lt t⟩ p = row t p := Fin.ext (by simp only [row]; omega)
  rw [e]; rfl

/-- What one grid point adds to the output block. -/
def part (c : Dev nD) (t : Fin cfg0.N) (p : Fin 512) (q : Fin 2048) : EReal :=
  ∑ k : Fin 512, MG (m ((c : Thread nD τ).loc main_arg0)) (m ((c : Thread nD τ).loc main_arg1))
      (m ((c : Thread nD τ).loc main_arg6)) (m ((c : Thread nD τ).loc main_arg2)) (m ((c : Thread nD τ).loc main_arg3))
      (m ((c : Thread nD τ).loc main_arg4)) (m ((c : Thread nD τ).loc main_arg5)) (m ((c : Thread nD τ).loc main_arg7))
      (row t p) ⟨t.val % 4 * 512 + k.val, by omega⟩
    * (m ((c : Thread nD τ).loc main_arg8) : FVec Ideal S2x2048x2048 .f32) (ix3 1 ⟨t.val % 4 * 512 + k.val, by omega⟩ q)

/-- One point's accumulating store, over a scratch that holds the normalised rows. -/
theorem add_at (c : Dev nD) (t : Fin cfg0.N) (acc : FVec Ideal S512x2048 .f32) (xn : FVec Ideal S512x2048 .bf16)
    (b0 b1 b2 b3 : FVec Ideal S1x1x512x512 .bf16)
    (hxn : ∀ p l, xn (ix2 p l) = XN (m ((c : Thread nD τ).loc main_arg0)) (m ((c : Thread nD τ).loc main_arg1)) (row t p) l)
    (h0 : ∀ d k, b0 (ix4 0 0 d k) = (iblk m c 10 t : FVec Ideal S1x4x512x512 .bf16) (ix4 0 0 d k))
    (h1 : ∀ d k, b1 (ix4 0 0 d k) = (iblk m c 10 t : FVec Ideal S1x4x512x512 .bf16) (ix4 0 1 d k))
    (h2 : ∀ d k, b2 (ix4 0 0 d k) = (iblk m c 10 t : FVec Ideal S1x4x512x512 .bf16) (ix4 0 2 d k))
    (h3 : ∀ d k, b3 (ix4 0 0 d k) = (iblk m c 10 t : FVec Ideal S1x4x512x512 .bf16) (ix4 0 3 d k))
    (p : Fin 512) (q : Fin 2048) :
    k0_pay1 (k0_pay3 acc) xn (k0_pay4 (iblk m c 3 t)) (k0_pay5 (iblk m c 4 t)) (k0_pay6 (iblk m c 5 t))
      (k0_pay7 xn (iblk m c 2 t) (iblk m c 6 t) b0) (k0_pay8 xn (iblk m c 7 t)) b1 (iblk m c 8 t) b2 (iblk m c 9 t) b3
      (iblk m c 11 t) (ix2 p q) = acc (ix2 p q) + part m c t p q := by
  rw [step_at]
  simp only [hxn, h0, h1, h2, h3, blk2, blk3, blk4, blk5, blk6, blk7, blk8, blk9, blk10, blk11]
  refine Ideal.add_congr ?_ rfl
  pointwise [k0_pay3]

theorem out_A (c : Dev nD) (t : Fin cfg0.N) (h : t.val % 4 = 0) (p : Fin 512) (q : Fin 2048) :
    (outsAt0 m c t.val t.isLt).1 (ix2 p q)
      = (show EReal from m ((c : Thread nD τ).loc main_arg0) (ix2 (row t p) q)) + part m c t p q := by
  rw [outsAt0_A m c t h]
  frame_out
  refine (add_at m c t (iblk m c 0 t) (k0_pay2 (iblk m c 0 t) (iblk m c 1 t)) _ _ _ _ (fun p l => ?_) (fun d k => ?_) (fun d k => ?_)
    (fun d k => ?_) (fun d k => ?_) p q).trans ?_
  · rw [norm_at]; simp only [blk0, blk1]; rfl
  · pointwise
  · pointwise
  · pointwise
  · pointwise
  · rw [blk0]

theorem out_B (c : Dev nD) (t : Fin cfg0.N) (h : ¬ t.val % 4 = 0) (p : Fin 512) (q : Fin 2048) :
    (outsAt0 m c t.val t.isLt).1 (ix2 p q)
      = (outsAt0 m c (t.val - 1) (Nat.lt_of_le_of_lt (Nat.sub_le _ _) t.isLt)).1 (ix2 p q) + part m c t p q := by
  have hs := scratch m c t
  rw [outsAt0_B m c t h] at hs ⊢
  frame_out
  refine add_at m c t _ _ _ _ _ _ (fun p l => (congrFun (Memref.IsWhole.read_unread _ _) _).trans (hs p l)) (fun d k => ?_) (fun d k => ?_) (fun d k => ?_) (fun d k => ?_) p q
  · pointwise
  · pointwise
  · pointwise
  · pointwise

end Cert.KernelIdeal.Merge

end
-- ==== Proof.Merge.Final.lean ====
/-
  The merge call's result array: the four points of a run cover the 2048 columns of the gated sum.
-/
module

public import proofs.«01_k».proof.Proof.Common
public import proofs.«01_k».proof.Proof.Merge.Body

@[expose] public section

set_option maxRecDepth 16384

noncomputable section

open Idealize.ShloMosaic Idealize.ShloMosaic.TcCoe Idealize.SL.Sem
open scoped BigOperators

namespace Cert.KernelIdeal.Merge

open Cert.KernelIdeal Cert.KernelIdeal.Gen

variable (m : (ℓ : Loc nD τ sig) → Buf (Elt Ideal) ℓ)

/-- The output block at a run's last point. -/
theorem last_at (c : Dev nD) (t : Fin cfg0.N) (ht : t.val % 4 = 3) (p : Fin 512) (q : Fin 2048) :
    (outsAt0 m c t.val t.isLt).1 (ix2 p q)
      = OUT (m ((c : Thread nD τ).loc main_arg0)) (m ((c : Thread nD τ).loc main_arg1))
          (m ((c : Thread nD τ).loc main_arg6)) (m ((c : Thread nD τ).loc main_arg2)) (m ((c : Thread nD τ).loc main_arg3))
          (m ((c : Thread nD τ).loc main_arg4)) (m ((c : Thread nD τ).loc main_arg5)) (m ((c : Thread nD τ).loc main_arg7))
          (m ((c : Thread nD τ).loc main_arg8)) (ix2 (row t p) q) := by
  have e (n : ℕ) (hn : n < cfg0.N) (h : n / 4 = t.val / 4) : row ⟨n, hn⟩ p = row t p := Fin.ext (by simp only [row]; omega)
  refine (Common.run_sum (fun n h (_ : Unit) => (outsAt0 m c n h).1 (ix2 p q)) 4
    (fun t _ => (show EReal from m ((c : Thread nD τ).loc main_arg0) (ix2 (row t p) q))) (fun t _ => part m c t p q)
    (fun t h _ => out_A m c t h p q) (fun t h _ => out_B m c t h p q) t ht ()).trans ?_
  dsimp only
  rw [e _ _ (by omega)]
  refine Ideal.add_congr rfl ?_
  refine Fin.sum_mul_add_congr fun s k hl => ?_
  rw [e _ _ (by omega)]
  have hm : (4 * (t.val / 4) + s.val) % 4 = s.val := by omega
  simp only [hm]
  rfl

/-- The array the merge call leaves. -/
theorem final (c : Dev nD) : (dats m 0 c).arrAt 12 cfg0.N
      = OUT (m ((c : Thread nD τ).loc main_arg0)) (m ((c : Thread nD τ).loc main_arg1))
          (m ((c : Thread nD τ).loc main_arg6)) (m ((c : Thread nD τ).loc main_arg2)) (m ((c : Thread nD τ).loc main_arg3))
          (m ((c : Thread nD τ).loc main_arg4)) (m ((c : Thread nD τ).loc main_arg5)) (m ((c : Thread nD τ).loc main_arg7))
          (m ((c : Thread nD τ).loc main_arg8)) := by
  refine (dats m 0 c).arrAt_eq_of_covers 12 _ (by decide +kernel) fun t hf y => ?_
  blk_simp
  rw [after0_12]
  idx_vars y
  refine (last_at m c t ((flush0_12 t).mp hf) _ _).trans ?_
  refine congrArg _ ?_
  blk_ext [idx t]

end Cert.KernelIdeal.Merge
-- ==== Proof.Merge.Ref.lean ====
/-
  The merge reference's result, read at an index.
-/
module

public import proofs.«01_k».proof.Proof.Gen.ReferenceIdeal.Run
public import proofs.«01_k».proof.Proof.Merge.Body

@[expose] public section

set_option maxRecDepth 16384

noncomputable section

open Idealize.ShloMosaic Idealize.ShloMosaic.TcCoe Idealize.SL.Sem
open scoped BigOperators

namespace Cert.ReferenceIdeal.Merge

open Cert.ReferenceIdeal Cert.ReferenceIdeal.Gen Cert.ReferenceIdeal.Value Cert.KernelIdeal.Merge

/-- The reference's normalised rows. -/
def rN (a0 : FVec Ideal S32768x2048 .f32) (a1 : FVec Ideal S2x2048 .f32) : FVec Ideal S32768x2048 .f32 :=
  mulf (mulf a0 (broadcastInDim S32768x2048 ![0, 1] bcast_S32768x1_S32768x2048_0_1 (Host.rsqrt (addf (Host.divf (broadcastInDim S32768x1 ![0] bcast_S32768_S32768x1_0 (Host.reduceAdd (mulf a0 a0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ (extractStridedSlice S1x2048 ![1, 0] a1 slices_S2x2048_S1x2048_1_0) shapeCasts_S1x2048_S2048)))

/-- The reference's gates before the logistic. -/
def rG (xn : FVec Ideal S32768x2048 .f32) (a6 : FVec Ideal S2x2048x13568 .f32) : FVec Ideal S32768x4x2048 .f32 :=
  shapeCast _ (extractStridedSlice S32768x8192 ![0, 5376] (Host.dotGeneral dot_S32768x2048_S2048x13568_S32768x13568_1_0_0_1_n_n none xn (shapeCast _ (extractStridedSlice S1x2048x13568 ![1, 0, 0] a6 slices_S2x2048x13568_S1x2048x13568_1_0_0) shapeCasts_S1x2048x13568_S2048x13568)) slices_S32768x13568_S32768x8192_0_5376) shapeCasts_S32768x8192_S32768x4x2048

theorem rN_at (a0 : FVec Ideal S32768x2048 .f32) (a1 : FVec Ideal S2x2048 .f32) (r : Fin 32768) (l : Fin 2048) :
    rN a0 a1 (ix2 r l) = XN a0 a1 r l := by
  pointwise [rN, XN]

theorem rG_at (xn : FVec Ideal S32768x2048 .f32) (a6 : FVec Ideal S2x2048x13568 .f32) (r : Fin 32768) (n : Fin 4) (k : Fin 2048) :
    rG xn a6 (ix3 r n k) = ∑ l : Fin 2048, xn (ix2 r l) * a6 (ix3 1 l ⟨5376 + n.val * 2048 + k.val, by omega⟩) := by
  pointwise [rG]
  simp only [Nat.add_assoc]

/-- The reference's result over its arguments. -/
def rAll (a0 : FVec Ideal S32768x2048 .f32) (a1 : FVec Ideal S2x2048 .f32) (a2 a3 a4 a5 : FVec Ideal S8x4096x512 .bf16)
    (a6 : FVec Ideal S2x2048x13568 .f32) (a7 : FVec Ideal S2x4x512x2048 .f32) (a8 : FVec Ideal S2x2048x2048 .f32) :
    FVec Ideal S32768x2048 .f32 :=
  addf a0 (Host.dotGeneral dot_S32768x2048_S2048x2048_S32768x2048_1_0_0_1_n_n none (addf (addf (addf (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (shapeCast _ (extractStridedSlice S32768x1x2048 ![0, 0, 0] (rG (rN a0 a1) a6) slices_S32768x4x2048_S32768x1x2048_0_0_0) shapeCasts_S32768x1x2048_S32768x2048))))) (Host.dotGeneral dot_S32768x512_S512x2048_S32768x2048_1_0_0_1_n_n none (extf .f32 (shapeCast _ a2 shapeCasts_S8x4096x512_S32768x512) bitsLt_bf16_f32) (shapeCast _ (extractStridedSlice S1x1x512x2048 ![1, 0, 0, 0] a7 slices_S2x4x512x2048_S1x1x512x2048_1_0_0_0) shapeCasts_S1x1x512x2048_S512x2048))) (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (shapeCast _ (extractStridedSlice S32768x1x2048 ![0, 1, 0] (rG (rN a0 a1) a6) slices_S32768x4x2048_S32768x1x2048_0_1_0) shapeCasts_S32768x1x2048_S32768x2048))))) (Host.dotGeneral dot_S32768x512_S512x2048_S32768x2048_1_0_0_1_n_n none (extf .f32 (shapeCast _ a3 shapeCasts_S8x4096x512_S32768x512) bitsLt_bf16_f32) (shapeCast _ (extractStridedSlice S1x1x512x2048 ![1, 1, 0, 0] a7 slices_S2x4x512x2048_S1x1x512x2048_1_1_0_0) shapeCasts_S1x1x512x2048_S512x2048)))) (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (shapeCast _ (extractStridedSlice S32768x1x2048 ![0, 2, 0] (rG (rN a0 a1) a6) slices_S32768x4x2048_S32768x1x2048_0_2_0) shapeCasts_S32768x1x2048_S32768x2048))))) (Host.dotGeneral dot_S32768x512_S512x2048_S32768x2048_1_0_0_1_n_n none (extf .f32 (shapeCast _ a4 shapeCasts_S8x4096x512_S32768x512) bitsLt_bf16_f32) (shapeCast _ (extractStridedSlice S1x1x512x2048 ![1, 2, 0, 0] a7 slices_S2x4x512x2048_S1x1x512x2048_1_2_0_0) shapeCasts_S1x1x512x2048_S512x2048)))) (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (shapeCast _ (extractStridedSlice S32768x1x2048 ![0, 3, 0] (rG (rN a0 a1) a6) slices_S32768x4x2048_S32768x1x2048_0_3_0) shapeCasts_S32768x1x2048_S32768x2048))))) (Host.dotGeneral dot_S32768x512_S512x2048_S32768x2048_1_0_0_1_n_n none (extf .f32 (shapeCast _ a5 shapeCasts_S8x4096x512_S32768x512) bitsLt_bf16_f32) (shapeCast _ (extractStridedSlice S1x1x512x2048 ![1, 3, 0, 0] a7 slices_S2x4x512x2048_S1x1x512x2048_1_3_0_0) shapeCasts_S1x1x512x2048_S512x2048)))) (shapeCast _ (extractStridedSlice S1x2048x2048 ![1, 0, 0] a8 slices_S2x2048x2048_S1x2048x2048_1_0_0) shapeCasts_S1x2048x2048_S2048x2048))

set_option maxHeartbeats 1000000 in
theorem rAll_eq (a0 : FVec Ideal S32768x2048 .f32) (a1 : FVec Ideal S2x2048 .f32) (a2 a3 a4 a5 : FVec Ideal S8x4096x512 .bf16)
    (a6 : FVec Ideal S2x2048x13568 .f32) (a7 : FVec Ideal S2x4x512x2048 .f32) (a8 : FVec Ideal S2x2048x2048 .f32) :
    rAll a0 a1 a2 a3 a4 a5 a6 a7 a8 = OUT a0 a1 a6 a2 a3 a4 a5 a7 a8 := by
  funext j
  idx_vars j
  pointwise [rAll, OUT]
  simp only [rG_at, rN_at]
  rfl

variable (m : (ℓ : Loc nD τ sig) → Buf (Elt Ideal) ℓ)

/-- The reference's result is the function the kernel's array was shown to be. -/
theorem result (c : Dev nD) : res_main_v82 (F := Ideal) m c
      = OUT (m ((c.tc : Thread nD τ).loc main_arg0)) (m ((c.tc : Thread nD τ).loc main_arg1))
          (m ((c.tc : Thread nD τ).loc main_arg6)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg7))
          (m ((c.tc : Thread nD τ).loc main_arg8)) := by
  rw [← rAll_eq]
  unfold res_main_v82 rAll rG rN
  rfl

end Cert.ReferenceIdeal.Merge
-- ==== Proof.Ffn.Spec.lean ====
/-
  The feed-forward block over the extended reals, as a function of its arrays, and the one law its accumulation needs:
  the constant one half, a finite non-negative number, distributes over a finite sum of extended reals.
-/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Ffn

abbrev Rows : Shape := ⟨2, ![32768, 2048]⟩
abbrev Gains : Shape := ⟨2, ![2, 2048]⟩
abbrev Gain : Shape := ⟨1, ![2048]⟩
abbrev Up : Shape := ⟨3, ![2, 2048, 5632]⟩
abbrev Down : Shape := ⟨3, ![2, 5632, 2048]⟩

/-- One entry of a row normalised by its root mean square and scaled by a gain. -/
def RN (x g : Fin 2048 → EReal) (l : Fin 2048) : EReal :=
  x l * Ideal.rsqrt (Ideal.div (∑ k : Fin 2048, x k * x k) (Ideal.ofBits .f32 0x45000000#32)
    + Ideal.ofBits .f32 0x358637BD#32) * g l

/-- The normalised token rows, with the second layer's gain. -/
def XN (H : FVec Ideal Rows .f32) (G : FVec Ideal Gains .f32) (r : Fin 32768) (l : Fin 2048) : EReal :=
  RN (fun k => H (ix2 r k)) (fun k => G (ix2 1 k)) l

/-- One hidden entry: the first product times its own logistic, times the second product. -/
def HID (H : FVec Ideal Rows .f32) (G : FVec Ideal Gains .f32) (W1 W3 : FVec Ideal Up .f32) (r : Fin 32768) (k : Fin 5632) : EReal :=
  (∑ l : Fin 2048, XN H G r l * W1 (ix3 1 l k)) * Ideal.logistic (∑ l : Fin 2048, XN H G r l * W1 (ix3 1 l k))
    * ∑ l : Fin 2048, XN H G r l * W3 (ix3 1 l k)

/-- The residual plus half the block. -/
def FF (H : FVec Ideal Rows .f32) (G : FVec Ideal Gains .f32) (W1 W3 : FVec Ideal Up .f32) (W2 : FVec Ideal Down .f32)
    (r : Fin 32768) (q : Fin 2048) : EReal :=
  H (ix2 r q) + Ideal.ofBits .f32 0x3F000000#32 * ∑ k : Fin 5632, HID H G W1 W3 r k * W2 (ix3 1 k q)

/-- The block's result array. -/
def OUT (H : FVec Ideal Rows .f32) (G : FVec Ideal Gains .f32) (W1 W3 : FVec Ideal Up .f32) (W2 : FVec Ideal Down .f32) :
    FVec Ideal Rows .f32 := fun i => FF H G W1 W3 W2 (i 0) (i 1)

/-- The block's result array under the closing norm. -/
def NOUT (H : FVec Ideal Rows .f32) (G : FVec Ideal Gains .f32) (W1 W3 : FVec Ideal Up .f32) (W2 : FVec Ideal Down .f32)
    (FG : FVec Ideal Gain .f32) : FVec Ideal Rows .f32 := fun i =>
  RN (fun q => FF H G W1 W3 W2 (i 0) q) (fun q => FG (ix1 q)) (i 1)

theorem half_eq : Ideal.ofBits .f32 0x3F000000#32 = (((1 : ℝ) / 2 : ℝ) : EReal) := by
  simp [Ideal.ofBits, Ideal.ieee, -EReal.coe_mul]; norm_num

/-- One half times a sum is the sum of the halves. -/
theorem half_sum {n : ℕ} (f : Fin n → EReal) :
    ∑ i : Fin n, Ideal.ofBits .f32 0x3F000000#32 * f i = Ideal.ofBits .f32 0x3F000000#32 * ∑ i : Fin n, f i := by
  rw [half_eq]
  have h0 : (0 : EReal) ≤ (((1 : ℝ) / 2 : ℝ) : EReal) := by exact_mod_cast (by norm_num : (0 : ℝ) ≤ 1 / 2)
  have h (s : Finset (Fin n)) : ∑ i ∈ s, (((1 : ℝ) / 2 : ℝ) : EReal) * f i = (((1 : ℝ) / 2 : ℝ) : EReal) * ∑ i ∈ s, f i := by
    induction s using Finset.cons_induction with
    | empty => simp
    | cons a s ha ih =>
      rw [Finset.sum_cons, Finset.sum_cons, ih, EReal.left_distrib_of_nonneg_of_ne_top h0 (EReal.coe_ne_top _)]
  exact h _

end Cert.Ffn
-- ==== Proof.FinalFfn.Body.lean ====
/-
  The feed-forward call with the closing norm, block by block over the extended reals. The carried scratch holds a run's normalised rows;
  each grid point adds half of what its 512 hidden columns give.
-/
module

public import proofs.«01_k».proof.Proof.Gen.Kernel2Ideal.Frame
public import proofs.«01_k».proof.Proof.Common
public import proofs.«01_k».proof.Proof.Ffn.Spec
public import Idealize.ShloMosaic.Lib.Pipeline.ValueKit
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open scoped BigOperators

namespace Cert.Kernel2Ideal.FinalFfn

open Cert.Kernel2Ideal Cert.Kernel2Ideal.Gen Cert.Ffn

/-- The accumulating store read at an index. -/
theorem step_at (acc : FVec Ideal S1024x2048 .f32) (xn : FVec Ideal S1024x2048 .bf16) (w1 w3 : FVec Ideal S1x2048x512 .bf16)
    (w2 : FVec Ideal S1x512x2048 .bf16) (p : Fin 1024) (q : Fin 2048) :
    k0_pay2 acc xn w1 w3 w2 (ix2 p q) = acc (ix2 p q) + Ideal.ofBits .f32 0x3F000000#32 * ∑ k : Fin 512,
      (∑ l : Fin 2048, xn (ix2 p l) * w1 (ix3 0 l k)) * Ideal.logistic (∑ l : Fin 2048, xn (ix2 p l) * w1 (ix3 0 l k))
        * (∑ l : Fin 2048, xn (ix2 p l) * w3 (ix3 0 l k)) * w2 (ix3 0 k q) := by
  pointwise [k0_pay2]

/-- The normalising store read at an index. -/
theorem norm_at (x : FVec Ideal S1024x2048 .f32) (g : FVec Ideal S1x2048 .f32) (p : Fin 1024) (q : Fin 2048) :
    k0_pay1 (F := Ideal) x g (ix2 p q) = RN (fun k => x (ix2 p k)) (fun k => g (ix2 0 k)) q := by
  pointwise [k0_pay1, RN]

/-- The closing norm's store read at an index. -/
theorem close_at (x : FVec Ideal S1024x2048 .f32) (g : FVec Ideal S1x2048 .f32) (p : Fin 1024) (q : Fin 2048) :
    k0_pay3 (F := Ideal) x g (ix2 p q) = RN (fun k => x (ix2 p k)) (fun k => g (ix2 0 k)) q := by
  pointwise [k0_pay3, RN]

variable (m : (ℓ : Loc nD τ sig) → Buf (Elt Ideal) ℓ)

/-- Where each window sits at grid point `t`. -/
theorem idx : ∀ t : Fin cfg0.N, win0_0.index t = ![t.val / 11, 0]
    ∧ win0_1.index t = ![0, 0]
    ∧ win0_2.index t = ![1, 0, t.val % 11]
    ∧ win0_3.index t = ![1, 0, t.val % 11]
    ∧ win0_4.index t = ![1, t.val % 11, 0]
    ∧ win0_5.index t = ![0, 0]
    ∧ win0_6.index t = ![t.val / 11, 0]
    ∧ t.val / 11 < 32 :=
  (by decide +kernel : ∀ t : Fin grid0.N, _)

/-- The token row that row `p` of point `t`'s blocks is. -/
abbrev row (t : Fin cfg0.N) (p : Fin 1024) : Fin 32768 := ⟨t.val / 11 * 1024 + p.val, by have := (idx t).2.2.2.2.2.2.2; omega⟩

theorem blk0 (c : Dev nD) (t : Fin cfg0.N) (p : Fin 1024) (q : Fin 2048) :
    (iblk m c 0 t : FVec Ideal S1024x2048 .f32) (ix2 p q) = m ((c : Thread nD τ).loc main_arg0) (ix2 (row t p) q) := by
  blk_ext [iblk, V, idx t]

theorem blk1 (c : Dev nD) (t : Fin cfg0.N) (q : Fin 2048) :
    (iblk m c 1 t : FVec Ideal S1x2048 .f32) (ix2 0 q) = m ((c : Thread nD τ).loc main_arg1) (ix2 1 q) := by
  blk_simp [iblk, idx t]; entry_read; pointwise; blk_ext [idx t]

theorem blk2 (c : Dev nD) (t : Fin cfg0.N) (l : Fin 2048) (k : Fin 512) :
    (iblk m c 2 t : FVec Ideal S1x2048x512 .bf16) (ix3 0 l k)
      = m ((c : Thread nD τ).loc main_arg2) (ix3 1 l ⟨t.val % 11 * 512 + k.val, by omega⟩) := by
  blk_simp [iblk, idx t]; entry_read; pointwise; blk_ext [idx t]

theorem blk3 (c : Dev nD) (t : Fin cfg0.N) (l : Fin 2048) (k : Fin 512) :
    (iblk m c 3 t : FVec Ideal S1x2048x512 .bf16) (ix3 0 l k)
      = m ((c : Thread nD τ).loc main_arg3) (ix3 1 l ⟨t.val % 11 * 512 + k.val, by omega⟩) := by
  blk_simp [iblk, idx t]; entry_read; pointwise; blk_ext [idx t]

theorem blk4 (c : Dev nD) (t : Fin cfg0.N) (k : Fin 512) (q : Fin 2048) :
    (iblk m c 4 t : FVec Ideal S1x512x2048 .bf16) (ix3 0 k q)
      = m ((c : Thread nD τ).loc main_arg4) (ix3 1 ⟨t.val % 11 * 512 + k.val, by omega⟩ q) := by
  blk_simp [iblk, idx t]; entry_read; pointwise; blk_ext [idx t]

theorem blk5 (c : Dev nD) (t : Fin cfg0.N) (q : Fin 2048) :
    (iblk m c 5 t : FVec Ideal S1x2048 .f32) (ix2 0 q) = m ((c : Thread nD τ).loc main_arg5) (ix1 q) := by
  blk_simp [iblk, idx t]; entry_read; pointwise; blk_ext [idx t]

/-- The carried scratch holds the normalised rows at every point. -/
theorem scratch (c : Dev nD) (t : Fin cfg0.N) (p : Fin 1024) (l : Fin 2048) :
    (outsAt0 m c t.val t.isLt).2 (ix2 p l)
      = XN (m ((c : Thread nD τ).loc main_arg0)) (m ((c : Thread nD τ).loc main_arg1)) (row t p) l := by
  rw [Pipeline.eq_of_write_hold_apply (fun n h => (outsAt0 m c n h).2) 11
    (fun t => k0_pay1 (F := Ideal) (iblk m c 0 t) (iblk m c 1 t))
    (fun t h i => by rw [outsAt0_A m c t h (by omega)]; frame_out)
    (fun t h i => by
      by_cases h1 : t.val % 11 = 10
      · rw [outsAt0_C m c t h h1]; rfl
      · rw [outsAt0_B m c t h h1]; rfl) t (ix2 p l), norm_at]
  simp only [blk0, blk1]
  have e : row ⟨11 * (t.val / 11), Pipeline.run_start_lt t⟩ p = row t p := Fin.ext (by simp only [row]; omega)
  rw [e]; rfl

/-- What one grid point adds to the output block. -/
def part (c : Dev nD) (t : Fin cfg0.N) (p : Fin 1024) (q : Fin 2048) : EReal :=
  Ideal.ofBits .f32 0x3F000000#32 * ∑ k : Fin 512, HID (m ((c : Thread nD τ).loc main_arg0)) (m ((c : Thread nD τ).loc main_arg1)) (m ((c : Thread nD τ).loc main_arg2)) (m ((c : Thread nD τ).loc main_arg3)) (row t p)
    ⟨t.val % 11 * 512 + k.val, by omega⟩ * m ((c : Thread nD τ).loc main_arg4) (ix3 1 ⟨t.val % 11 * 512 + k.val, by omega⟩ q)

/-- One point's accumulating store, over a scratch that holds the normalised rows. -/
theorem add_at (c : Dev nD) (t : Fin cfg0.N) (acc : FVec Ideal S1024x2048 .f32) (xn : FVec Ideal S1024x2048 .bf16)
    (hxn : ∀ p l, xn (ix2 p l) = XN (m ((c : Thread nD τ).loc main_arg0)) (m ((c : Thread nD τ).loc main_arg1)) (row t p) l) (p : Fin 1024) (q : Fin 2048) :
    k0_pay2 acc xn (iblk m c 2 t) (iblk m c 3 t) (iblk m c 4 t) (ix2 p q) = acc (ix2 p q) + part m c t p q := by
  rw [step_at]
  simp only [hxn, blk2, blk3, blk4]
  rfl

theorem out_A (c : Dev nD) (t : Fin cfg0.N) (h : t.val % 11 = 0) (p : Fin 1024) (q : Fin 2048) :
    (outsAt0 m c t.val t.isLt).1 (ix2 p q)
      = (show EReal from m ((c : Thread nD τ).loc main_arg0) (ix2 (row t p) q)) + part m c t p q := by
  rw [outsAt0_A m c t h (by omega)]
  frame_out
  refine (add_at m c t (iblk m c 0 t) (k0_pay1 (iblk m c 0 t) (iblk m c 1 t)) (fun p l => ?_) p q).trans ?_
  · rw [norm_at]; simp only [blk0, blk1]; rfl
  · rw [blk0]

theorem out_B (c : Dev nD) (t : Fin cfg0.N) (h : ¬ t.val % 11 = 0) (h1 : ¬ t.val % 11 = 10) (p : Fin 1024) (q : Fin 2048) :
    (outsAt0 m c t.val t.isLt).1 (ix2 p q)
      = (outsAt0 m c (t.val - 1) (Nat.lt_of_le_of_lt (Nat.sub_le _ _) t.isLt)).1 (ix2 p q) + part m c t p q := by
  have hs := scratch m c t
  rw [outsAt0_B m c t h h1] at hs ⊢
  frame_out
  exact add_at m c t _ _ (fun p l => (congrFun (Memref.IsWhole.read_unread _ _) _).trans (hs p l)) p q

/-- The accumulated block before the closing norm: at a run's last point, what the point before left and this point's part. -/
def acc (c : Dev nD) (n : ℕ) (h : n < cfg0.N) (p : Fin 1024) (q : Fin 2048) : EReal :=
  if n % 11 = 10 then (outsAt0 m c (n - 1) (Nat.lt_of_le_of_lt (Nat.sub_le _ _) h)).1 (ix2 p q) + part m c ⟨n, h⟩ p q
  else (outsAt0 m c n h).1 (ix2 p q)

theorem out_C (c : Dev nD) (t : Fin cfg0.N) (h1 : t.val % 11 = 10) (p : Fin 1024) (q : Fin 2048) :
    (outsAt0 m c t.val t.isLt).1 (ix2 p q)
      = RN (fun k => acc m c t.val t.isLt p k) (fun k => m ((c : Thread nD τ).loc main_arg5) (ix1 k)) q := by
  have hs := scratch m c t
  rw [outsAt0_C m c t (by omega) h1] at hs ⊢
  frame_out
  rw [close_at]
  have e (k : Fin 2048) : acc m c t.val t.isLt p k = (outsAt0 m c (t.val - 1) (Nat.lt_of_le_of_lt (Nat.sub_le _ _) t.isLt)).1 (ix2 p k) + part m c t p k := if_pos h1
  simp only [e, blk5]
  refine congrFun (congrArg (fun f => RN f _) (funext fun k => ?_)) q
  exact add_at m c t _ _ (fun p l => (congrFun (Memref.IsWhole.read_unread _ _) _).trans (hs p l)) p k

end Cert.Kernel2Ideal.FinalFfn
-- ==== Proof.FinalFfn.Final.lean ====
/-
  The feed-forward call's result array: the eleven points of a run cover the 5632 hidden columns.
-/
module

public import proofs.«01_k».proof.Proof.FinalFfn.Body

@[expose] public section

set_option maxRecDepth 16384

noncomputable section

open Idealize.ShloMosaic Idealize.ShloMosaic.TcCoe Idealize.SL.Sem
open scoped BigOperators

namespace Cert.Kernel2Ideal.FinalFfn

open Cert.Kernel2Ideal Cert.Kernel2Ideal.Gen Cert.Ffn

variable (m : (ℓ : Loc nD τ sig) → Buf (Elt Ideal) ℓ)

/-- The residual plus the parts of a run's eleven points is the whole block. -/
theorem run_total (c : Dev nD) (t : Fin cfg0.N) (ht : t.val % 11 = 10) (p : Fin 1024) (q : Fin 2048)
    (f : (n : ℕ) → n < cfg0.N → Unit → EReal)
    (h0 : ∀ t : Fin cfg0.N, t.val % 11 = 0 → f t.val t.isLt ()
      = (show EReal from m ((c : Thread nD τ).loc main_arg0) (ix2 (row t p) q)) + part m c t p q)
    (hs : ∀ t : Fin cfg0.N, ¬t.val % 11 = 0 → f t.val t.isLt ()
      = f (t.val - 1) (Nat.lt_of_le_of_lt (Nat.sub_le _ _) t.isLt) () + part m c t p q) :
    f t.val t.isLt () = FF (m ((c : Thread nD τ).loc main_arg0)) (m ((c : Thread nD τ).loc main_arg1)) (m ((c : Thread nD τ).loc main_arg2)) (m ((c : Thread nD τ).loc main_arg3)) (m ((c : Thread nD τ).loc main_arg4)) (row t p) q := by
  have e (n : ℕ) (hn : n < cfg0.N) (h : n / 11 = t.val / 11) : row ⟨n, hn⟩ p = row t p := Fin.ext (by simp only [row]; omega)
  refine (Common.run_sum f 11
    (fun t _ => (show EReal from m ((c : Thread nD τ).loc main_arg0) (ix2 (row t p) q))) (fun t _ => part m c t p q)
    (fun t h _ => h0 t h) (fun t h _ => hs t h) t ht ()).trans ?_
  dsimp only
  rw [e _ _ (by omega)]
  refine Ideal.add_congr rfl ?_
  unfold part
  rw [half_sum]
  refine congrArg _ ?_
  refine Fin.sum_mul_add_congr fun s k hl => ?_
  rw [e _ _ (by omega)]
  have hm : (11 * (t.val / 11) + s.val) % 11 = s.val := by omega
  simp only [hm]

/-- The output block at a run's last point. -/
theorem last_at (c : Dev nD) (t : Fin cfg0.N) (ht : t.val % 11 = 10) (p : Fin 1024) (q : Fin 2048) :
    (outsAt0 m c t.val t.isLt).1 (ix2 p q) = NOUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t p) q) := by
  rw [out_C m c t ht p q]
  refine congrFun (congrArg (fun f => RN f _) (funext fun k => ?_)) q
  refine run_total m c t ht p k (fun n h _ => acc m c n h p k) (fun t h => ?_) (fun t h => ?_)
  · exact (if_neg (by omega)).trans (out_A m c t h p k)
  · have hp : acc m c (t.val - 1) (Nat.lt_of_le_of_lt (Nat.sub_le _ _) t.isLt) p k
        = (outsAt0 m c (t.val - 1) (Nat.lt_of_le_of_lt (Nat.sub_le _ _) t.isLt)).1 (ix2 p k) := if_neg (by omega)
    show acc m c t.val t.isLt p k = acc m c (t.val - 1) _ p k + part m c t p k
    rw [hp]
    by_cases h1 : t.val % 11 = 10
    · exact if_pos h1
    · exact (if_neg h1).trans (out_B m c t h h1 p k)

/-- The array the call leaves. -/
theorem final (c : Dev nD) : (dats m 0 c).arrAt 6 cfg0.N = NOUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  idx_vars y
  refine (last_at m c t ((flush0_6 t).mp hf) _ _).trans ?_
  refine congrArg _ ?_
  blk_ext [idx t]

end Cert.Kernel2Ideal.FinalFfn
-- ==== Proof.FinalFfn.Ref.lean ====
/-
  The feed-forward reference's result, read at an index.
-/
module

public import proofs.«01_k».proof.Proof.Gen.Reference2Ideal.Run
public import proofs.«01_k».proof.Proof.Ffn.Spec

@[expose] public section

set_option maxRecDepth 16384

noncomputable section

open Idealize.ShloMosaic Idealize.ShloMosaic.TcCoe Idealize.SL.Sem
open scoped BigOperators

namespace Cert.Reference2Ideal.FinalFfn

open Cert.Reference2Ideal Cert.Reference2Ideal.Gen Cert.Reference2Ideal.Value Cert.Ffn

/-- The reference's normalised rows. -/
def rN (a0 : FVec Ideal S32768x2048 .f32) (a1 : FVec Ideal S2x2048 .f32) : FVec Ideal S32768x2048 .f32 :=
  mulf (mulf a0 (broadcastInDim S32768x2048 ![0, 1] bcast_S32768x1_S32768x2048_0_1 (Host.rsqrt (addf (Host.divf (broadcastInDim S32768x1 ![0] bcast_S32768_S32768x1_0 (Host.reduceAdd (mulf a0 a0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ (extractStridedSlice S1x2048 ![1, 0] a1 slices_S2x2048_S1x2048_1_0) shapeCasts_S1x2048_S2048)))

/-- The reference's hidden rows. -/
def rH (xn : FVec Ideal S32768x2048 .f32) (a2 a3 : FVec Ideal S2x2048x5632 .f32) : FVec Ideal S32768x5632 .f32 :=
  mulf (mulf (Host.dotGeneral dot_S32768x2048_S2048x5632_S32768x5632_1_0_0_1_n_n none xn (shapeCast _ (extractStridedSlice S1x2048x5632 ![1, 0, 0] a2 slices_S2x2048x5632_S1x2048x5632_1_0_0) shapeCasts_S1x2048x5632_S2048x5632)) (Host.divf (broadcastInDim S32768x5632 ![] bcast_S_S32768x5632 (constant S_ .f32 0x3F800000#32)) (addf (broadcastInDim S32768x5632 ![] bcast_S_S32768x5632 (constant S_ .f32 0x3F800000#32)) (Host.exp (Host.negf (Host.dotGeneral dot_S32768x2048_S2048x5632_S32768x5632_1_0_0_1_n_n none xn (shapeCast _ (extractStridedSlice S1x2048x5632 ![1, 0, 0] a2 slices_S2x2048x5632_S1x2048x5632_1_0_0) shapeCasts_S1x2048x5632_S2048x5632))))))) (Host.dotGeneral dot_S32768x2048_S2048x5632_S32768x5632_1_0_0_1_n_n none xn (shapeCast _ (extractStridedSlice S1x2048x5632 ![1, 0, 0] a3 slices_S2x2048x5632_S1x2048x5632_1_0_0) shapeCasts_S1x2048x5632_S2048x5632))

/-- The reference's residual plus half the block. -/
def rF (a0 : FVec Ideal S32768x2048 .f32) (hd : FVec Ideal S32768x5632 .f32) (a4 : FVec Ideal S2x5632x2048 .f32) :
    FVec Ideal S32768x2048 .f32 :=
  addf a0 (mulf (broadcastInDim S32768x2048 ![] bcast_S_S32768x2048 (constant S_ .f32 0x3F000000#32)) (Host.dotGeneral dot_S32768x5632_S5632x2048_S32768x2048_1_0_0_1_n_n none hd (shapeCast _ (extractStridedSlice S1x5632x2048 ![1, 0, 0] a4 slices_S2x5632x2048_S1x5632x2048_1_0_0) shapeCasts_S1x5632x2048_S5632x2048)))

theorem rN_at (a0 : FVec Ideal S32768x2048 .f32) (a1 : FVec Ideal S2x2048 .f32) (r : Fin 32768) (l : Fin 2048) :
    rN a0 a1 (ix2 r l) = XN a0 a1 r l := by
  pointwise [rN, XN, RN]

theorem rH_at (xn : FVec Ideal S32768x2048 .f32) (a2 a3 : FVec Ideal S2x2048x5632 .f32) (r : Fin 32768) (k : Fin 5632) :
    rH xn a2 a3 (ix2 r k) = (∑ l : Fin 2048, xn (ix2 r l) * a2 (ix3 1 l k))
      * Ideal.logistic (∑ l : Fin 2048, xn (ix2 r l) * a2 (ix3 1 l k)) * ∑ l : Fin 2048, xn (ix2 r l) * a3 (ix3 1 l k) := by
  pointwise [rH, Ideal.logistic]

theorem rF_at (a0 : FVec Ideal S32768x2048 .f32) (hd : FVec Ideal S32768x5632 .f32) (a4 : FVec Ideal S2x5632x2048 .f32)
    (r : Fin 32768) (q : Fin 2048) : rF a0 hd a4 (ix2 r q)
      = a0 (ix2 r q) + Ideal.ofBits .f32 0x3F000000#32 * ∑ k : Fin 5632, hd (ix2 r k) * a4 (ix3 1 k q) := by
  pointwise [rF]

theorem rFF (a0 : FVec Ideal S32768x2048 .f32) (a1 : FVec Ideal S2x2048 .f32) (a2 a3 : FVec Ideal S2x2048x5632 .f32) (a4 : FVec Ideal S2x5632x2048 .f32)
    (r : Fin 32768) (q : Fin 2048) : rF a0 (rH (rN a0 a1) a2 a3) a4 (ix2 r q) = FF a0 a1 a2 a3 a4 r q := by
  rw [rF_at]
  simp only [rH_at, rN_at]
  rfl

/-- The reference's result over its arguments. -/
def rAll (a0 : FVec Ideal S32768x2048 .f32) (a1 : FVec Ideal S2x2048 .f32) (a2 a3 : FVec Ideal S2x2048x5632 .f32) (a4 : FVec Ideal S2x5632x2048 .f32) (a5 : FVec Ideal S2048 .f32) :
    FVec Ideal S32768x2048 .f32 :=
  mulf (mulf (rF a0 (rH (rN a0 a1) a2 a3) a4) (broadcastInDim S32768x2048 ![0, 1] bcast_S32768x1_S32768x2048_0_1 (Host.rsqrt (addf (Host.divf (broadcastInDim S32768x1 ![0] bcast_S32768_S32768x1_0 (Host.reduceAdd (mulf (rF a0 (rH (rN a0 a1) a2 a3) a4) (rF a0 (rH (rN a0 a1) a2 a3) a4)) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 a5))

theorem rAll_eq (a0 : FVec Ideal S32768x2048 .f32) (a1 : FVec Ideal S2x2048 .f32) (a2 a3 : FVec Ideal S2x2048x5632 .f32) (a4 : FVec Ideal S2x5632x2048 .f32) (a5 : FVec Ideal S2048 .f32) :
    rAll a0 a1 a2 a3 a4 a5 = NOUT a0 a1 a2 a3 a4 a5 := by
  funext j
  idx_vars j
  pointwise [rAll, NOUT, RN]
  simp only [rFF]

variable (m : (ℓ : Loc nD τ sig) → Buf (Elt Ideal) ℓ)

/-- The reference's result is the function the kernel's array was shown to be. -/
theorem result (c : Dev nD) : res_main_v41 (F := Ideal) m c = NOUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [← rAll_eq]
  unfold res_main_v41 rAll rF rH rN
  rfl

end Cert.Reference2Ideal.FinalFfn
-- ==== Proof.Ffn.Body.lean ====
/-
  The feed-forward call, block by block over the extended reals. The carried scratch holds a run's normalised rows;
  each grid point adds half of what its 512 hidden columns give.
-/
module

public import proofs.«01_k».proof.Proof.Gen.Kernel3Ideal.Frame
public import proofs.«01_k».proof.Proof.Common
public import proofs.«01_k».proof.Proof.Ffn.Spec
public import Idealize.ShloMosaic.Lib.Pipeline.ValueKit
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open scoped BigOperators

namespace Cert.Kernel3Ideal.Ffn

open Cert.Kernel3Ideal Cert.Kernel3Ideal.Gen Cert.Ffn

/-- The accumulating store read at an index. -/
theorem step_at (acc : FVec Ideal S1024x2048 .f32) (xn : FVec Ideal S1024x2048 .bf16) (w1 w3 : FVec Ideal S1x2048x512 .bf16)
    (w2 : FVec Ideal S1x512x2048 .bf16) (p : Fin 1024) (q : Fin 2048) :
    k0_pay2 acc xn w1 w3 w2 (ix2 p q) = acc (ix2 p q) + Ideal.ofBits .f32 0x3F000000#32 * ∑ k : Fin 512,
      (∑ l : Fin 2048, xn (ix2 p l) * w1 (ix3 0 l k)) * Ideal.logistic (∑ l : Fin 2048, xn (ix2 p l) * w1 (ix3 0 l k))
        * (∑ l : Fin 2048, xn (ix2 p l) * w3 (ix3 0 l k)) * w2 (ix3 0 k q) := by
  pointwise [k0_pay2]

/-- The normalising store read at an index. -/
theorem norm_at (x : FVec Ideal S1024x2048 .f32) (g : FVec Ideal S1x2048 .f32) (p : Fin 1024) (q : Fin 2048) :
    k0_pay1 (F := Ideal) x g (ix2 p q) = RN (fun k => x (ix2 p k)) (fun k => g (ix2 0 k)) q := by
  pointwise [k0_pay1, RN]

variable (m : (ℓ : Loc nD τ sig) → Buf (Elt Ideal) ℓ)

/-- Where each window sits at grid point `t`. -/
theorem idx : ∀ t : Fin cfg0.N, win0_0.index t = ![t.val / 11, 0]
    ∧ win0_1.index t = ![0, 0]
    ∧ win0_2.index t = ![1, 0, t.val % 11]
    ∧ win0_3.index t = ![1, 0, t.val % 11]
    ∧ win0_4.index t = ![1, t.val % 11, 0]
    ∧ win0_5.index t = ![0, 0]
    ∧ win0_6.index t = ![t.val / 11, 0]
    ∧ t.val / 11 < 32 :=
  (by decide +kernel : ∀ t : Fin grid0.N, _)

/-- The token row that row `p` of point `t`'s blocks is. -/
abbrev row (t : Fin cfg0.N) (p : Fin 1024) : Fin 32768 := ⟨t.val / 11 * 1024 + p.val, by have := (idx t).2.2.2.2.2.2.2; omega⟩

theorem blk0 (c : Dev nD) (t : Fin cfg0.N) (p : Fin 1024) (q : Fin 2048) :
    (iblk m c 0 t : FVec Ideal S1024x2048 .f32) (ix2 p q) = m ((c : Thread nD τ).loc main_arg0) (ix2 (row t p) q) := by
  blk_ext [iblk, V, idx t]

theorem blk1 (c : Dev nD) (t : Fin cfg0.N) (q : Fin 2048) :
    (iblk m c 1 t : FVec Ideal S1x2048 .f32) (ix2 0 q) = m ((c : Thread nD τ).loc main_arg1) (ix2 1 q) := by
  blk_simp [iblk, idx t]; entry_read; pointwise; blk_ext [idx t]

theorem blk2 (c : Dev nD) (t : Fin cfg0.N) (l : Fin 2048) (k : Fin 512) :
    (iblk m c 2 t : FVec Ideal S1x2048x512 .bf16) (ix3 0 l k)
      = m ((c : Thread nD τ).loc main_arg2) (ix3 1 l ⟨t.val % 11 * 512 + k.val, by omega⟩) := by
  blk_simp [iblk, idx t]; entry_read; pointwise; blk_ext [idx t]

theorem blk3 (c : Dev nD) (t : Fin cfg0.N) (l : Fin 2048) (k : Fin 512) :
    (iblk m c 3 t : FVec Ideal S1x2048x512 .bf16) (ix3 0 l k)
      = m ((c : Thread nD τ).loc main_arg3) (ix3 1 l ⟨t.val % 11 * 512 + k.val, by omega⟩) := by
  blk_simp [iblk, idx t]; entry_read; pointwise; blk_ext [idx t]

theorem blk4 (c : Dev nD) (t : Fin cfg0.N) (k : Fin 512) (q : Fin 2048) :
    (iblk m c 4 t : FVec Ideal S1x512x2048 .bf16) (ix3 0 k q)
      = m ((c : Thread nD τ).loc main_arg4) (ix3 1 ⟨t.val % 11 * 512 + k.val, by omega⟩ q) := by
  blk_simp [iblk, idx t]; entry_read; pointwise; blk_ext [idx t]

/-- The carried scratch holds the normalised rows at every point. -/
theorem scratch (c : Dev nD) (t : Fin cfg0.N) (p : Fin 1024) (l : Fin 2048) :
    (outsAt0 m c t.val t.isLt).2 (ix2 p l)
      = XN (m ((c : Thread nD τ).loc main_arg0)) (m ((c : Thread nD τ).loc main_arg1)) (row t p) l := by
  rw [Pipeline.eq_of_write_hold_apply (fun n h => (outsAt0 m c n h).2) 11
    (fun t => k0_pay1 (F := Ideal) (iblk m c 0 t) (iblk m c 1 t))
    (fun t h i => by rw [outsAt0_A m c t h]; frame_out)
    (fun t h i => by rw [outsAt0_B m c t h]; rfl) t (ix2 p l), norm_at]
  simp only [blk0, blk1]
  have e : row ⟨11 * (t.val / 11), Pipeline.run_start_lt t⟩ p = row t p := Fin.ext (by simp only [row]; omega)
  rw [e]; rfl

/-- What one grid point adds to the output block. -/
def part (c : Dev nD) (t : Fin cfg0.N) (p : Fin 1024) (q : Fin 2048) : EReal :=
  Ideal.ofBits .f32 0x3F000000#32 * ∑ k : Fin 512, HID (m ((c : Thread nD τ).loc main_arg0)) (m ((c : Thread nD τ).loc main_arg1)) (m ((c : Thread nD τ).loc main_arg2)) (m ((c : Thread nD τ).loc main_arg3)) (row t p)
    ⟨t.val % 11 * 512 + k.val, by omega⟩ * m ((c : Thread nD τ).loc main_arg4) (ix3 1 ⟨t.val % 11 * 512 + k.val, by omega⟩ q)

/-- One point's accumulating store, over a scratch that holds the normalised rows. -/
theorem add_at (c : Dev nD) (t : Fin cfg0.N) (acc : FVec Ideal S1024x2048 .f32) (xn : FVec Ideal S1024x2048 .bf16)
    (hxn : ∀ p l, xn (ix2 p l) = XN (m ((c : Thread nD τ).loc main_arg0)) (m ((c : Thread nD τ).loc main_arg1)) (row t p) l) (p : Fin 1024) (q : Fin 2048) :
    k0_pay2 acc xn (iblk m c 2 t) (iblk m c 3 t) (iblk m c 4 t) (ix2 p q) = acc (ix2 p q) + part m c t p q := by
  rw [step_at]
  simp only [hxn, blk2, blk3, blk4]
  rfl

theorem out_A (c : Dev nD) (t : Fin cfg0.N) (h : t.val % 11 = 0) (p : Fin 1024) (q : Fin 2048) :
    (outsAt0 m c t.val t.isLt).1 (ix2 p q)
      = (show EReal from m ((c : Thread nD τ).loc main_arg0) (ix2 (row t p) q)) + part m c t p q := by
  rw [outsAt0_A m c t h]
  frame_out
  refine (add_at m c t (iblk m c 0 t) (k0_pay1 (iblk m c 0 t) (iblk m c 1 t)) (fun p l => ?_) p q).trans ?_
  · rw [norm_at]; simp only [blk0, blk1]; rfl
  · rw [blk0]

theorem out_B (c : Dev nD) (t : Fin cfg0.N) (h : ¬ t.val % 11 = 0) (p : Fin 1024) (q : Fin 2048) :
    (outsAt0 m c t.val t.isLt).1 (ix2 p q)
      = (outsAt0 m c (t.val - 1) (Nat.lt_of_le_of_lt (Nat.sub_le _ _) t.isLt)).1 (ix2 p q) + part m c t p q := by
  have hs := scratch m c t
  rw [outsAt0_B m c t h] at hs ⊢
  frame_out
  exact add_at m c t _ _ (fun p l => (congrFun (Memref.IsWhole.read_unread _ _) _).trans (hs p l)) p q

end Cert.Kernel3Ideal.Ffn
-- ==== Proof.Ffn.Final.lean ====
/-
  The feed-forward call's result array: the eleven points of a run cover the 5632 hidden columns.
-/
module

public import proofs.«01_k».proof.Proof.Ffn.Body

@[expose] public section

set_option maxRecDepth 16384

noncomputable section

open Idealize.ShloMosaic Idealize.ShloMosaic.TcCoe Idealize.SL.Sem
open scoped BigOperators

namespace Cert.Kernel3Ideal.Ffn

open Cert.Kernel3Ideal Cert.Kernel3Ideal.Gen Cert.Ffn

variable (m : (ℓ : Loc nD τ sig) → Buf (Elt Ideal) ℓ)

/-- The residual plus the parts of a run's eleven points is the whole block. -/
theorem run_total (c : Dev nD) (t : Fin cfg0.N) (ht : t.val % 11 = 10) (p : Fin 1024) (q : Fin 2048)
    (f : (n : ℕ) → n < cfg0.N → Unit → EReal)
    (h0 : ∀ t : Fin cfg0.N, t.val % 11 = 0 → f t.val t.isLt ()
      = (show EReal from m ((c : Thread nD τ).loc main_arg0) (ix2 (row t p) q)) + part m c t p q)
    (hs : ∀ t : Fin cfg0.N, ¬t.val % 11 = 0 → f t.val t.isLt ()
      = f (t.val - 1) (Nat.lt_of_le_of_lt (Nat.sub_le _ _) t.isLt) () + part m c t p q) :
    f t.val t.isLt () = FF (m ((c : Thread nD τ).loc main_arg0)) (m ((c : Thread nD τ).loc main_arg1)) (m ((c : Thread nD τ).loc main_arg2)) (m ((c : Thread nD τ).loc main_arg3)) (m ((c : Thread nD τ).loc main_arg4)) (row t p) q := by
  have e (n : ℕ) (hn : n < cfg0.N) (h : n / 11 = t.val / 11) : row ⟨n, hn⟩ p = row t p := Fin.ext (by simp only [row]; omega)
  refine (Common.run_sum f 11
    (fun t _ => (show EReal from m ((c : Thread nD τ).loc main_arg0) (ix2 (row t p) q))) (fun t _ => part m c t p q)
    (fun t h _ => h0 t h) (fun t h _ => hs t h) t ht ()).trans ?_
  dsimp only
  rw [e _ _ (by omega)]
  refine Ideal.add_congr rfl ?_
  unfold part
  rw [half_sum]
  refine congrArg _ ?_
  refine Fin.sum_mul_add_congr fun s k hl => ?_
  rw [e _ _ (by omega)]
  have hm : (11 * (t.val / 11) + s.val) % 11 = s.val := by omega
  simp only [hm]

/-- The output block at a run's last point. -/
theorem last_at (c : Dev nD) (t : Fin cfg0.N) (ht : t.val % 11 = 10) (p : Fin 1024) (q : Fin 2048) :
    (outsAt0 m c t.val t.isLt).1 (ix2 p q) = OUT (m ((c : Thread nD τ).loc main_arg0)) (m ((c : Thread nD τ).loc main_arg1)) (m ((c : Thread nD τ).loc main_arg2)) (m ((c : Thread nD τ).loc main_arg3)) (m ((c : Thread nD τ).loc main_arg4)) (ix2 (row t p) q) :=
  run_total m c t ht p q (fun n h _ => (outsAt0 m c n h).1 (ix2 p q)) (fun t h => out_A m c t h p q)
    (fun t h => out_B m c t h p q)

/-- The array the call leaves. -/
theorem final (c : Dev nD) : (dats m 0 c).arrAt 6 cfg0.N = OUT (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  idx_vars y
  refine (last_at m c t ((flush0_6 t).mp hf) _ _).trans ?_
  refine congrArg _ ?_
  blk_ext [idx t]

end Cert.Kernel3Ideal.Ffn
-- ==== Proof.Ffn.Ref.lean ====
/-
  The feed-forward reference's result, read at an index.
-/
module

public import proofs.«01_k».proof.Proof.Gen.Reference3Ideal.Run
public import proofs.«01_k».proof.Proof.Ffn.Spec

@[expose] public section

set_option maxRecDepth 16384

noncomputable section

open Idealize.ShloMosaic Idealize.ShloMosaic.TcCoe Idealize.SL.Sem
open scoped BigOperators

namespace Cert.Reference3Ideal.Ffn

open Cert.Reference3Ideal Cert.Reference3Ideal.Gen Cert.Reference3Ideal.Value Cert.Ffn

/-- The reference's normalised rows. -/
def rN (a0 : FVec Ideal S32768x2048 .f32) (a1 : FVec Ideal S2x2048 .f32) : FVec Ideal S32768x2048 .f32 :=
  mulf (mulf a0 (broadcastInDim S32768x2048 ![0, 1] bcast_S32768x1_S32768x2048_0_1 (Host.rsqrt (addf (Host.divf (broadcastInDim S32768x1 ![0] bcast_S32768_S32768x1_0 (Host.reduceAdd (mulf a0 a0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ (extractStridedSlice S1x2048 ![1, 0] a1 slices_S2x2048_S1x2048_1_0) shapeCasts_S1x2048_S2048)))

/-- The reference's hidden rows. -/
def rH (xn : FVec Ideal S32768x2048 .f32) (a2 a3 : FVec Ideal S2x2048x5632 .f32) : FVec Ideal S32768x5632 .f32 :=
  mulf (mulf (Host.dotGeneral dot_S32768x2048_S2048x5632_S32768x5632_1_0_0_1_n_n none xn (shapeCast _ (extractStridedSlice S1x2048x5632 ![1, 0, 0] a2 slices_S2x2048x5632_S1x2048x5632_1_0_0) shapeCasts_S1x2048x5632_S2048x5632)) (Host.divf (broadcastInDim S32768x5632 ![] bcast_S_S32768x5632 (constant S_ .f32 0x3F800000#32)) (addf (broadcastInDim S32768x5632 ![] bcast_S_S32768x5632 (constant S_ .f32 0x3F800000#32)) (Host.exp (Host.negf (Host.dotGeneral dot_S32768x2048_S2048x5632_S32768x5632_1_0_0_1_n_n none xn (shapeCast _ (extractStridedSlice S1x2048x5632 ![1, 0, 0] a2 slices_S2x2048x5632_S1x2048x5632_1_0_0) shapeCasts_S1x2048x5632_S2048x5632))))))) (Host.dotGeneral dot_S32768x2048_S2048x5632_S32768x5632_1_0_0_1_n_n none xn (shapeCast _ (extractStridedSlice S1x2048x5632 ![1, 0, 0] a3 slices_S2x2048x5632_S1x2048x5632_1_0_0) shapeCasts_S1x2048x5632_S2048x5632))

/-- The reference's residual plus half the block. -/
def rF (a0 : FVec Ideal S32768x2048 .f32) (hd : FVec Ideal S32768x5632 .f32) (a4 : FVec Ideal S2x5632x2048 .f32) :
    FVec Ideal S32768x2048 .f32 :=
  addf a0 (mulf (broadcastInDim S32768x2048 ![] bcast_S_S32768x2048 (constant S_ .f32 0x3F000000#32)) (Host.dotGeneral dot_S32768x5632_S5632x2048_S32768x2048_1_0_0_1_n_n none hd (shapeCast _ (extractStridedSlice S1x5632x2048 ![1, 0, 0] a4 slices_S2x5632x2048_S1x5632x2048_1_0_0) shapeCasts_S1x5632x2048_S5632x2048)))

theorem rN_at (a0 : FVec Ideal S32768x2048 .f32) (a1 : FVec Ideal S2x2048 .f32) (r : Fin 32768) (l : Fin 2048) :
    rN a0 a1 (ix2 r l) = XN a0 a1 r l := by
  pointwise [rN, XN, RN]

theorem rH_at (xn : FVec Ideal S32768x2048 .f32) (a2 a3 : FVec Ideal S2x2048x5632 .f32) (r : Fin 32768) (k : Fin 5632) :
    rH xn a2 a3 (ix2 r k) = (∑ l : Fin 2048, xn (ix2 r l) * a2 (ix3 1 l k))
      * Ideal.logistic (∑ l : Fin 2048, xn (ix2 r l) * a2 (ix3 1 l k)) * ∑ l : Fin 2048, xn (ix2 r l) * a3 (ix3 1 l k) := by
  pointwise [rH, Ideal.logistic]

theorem rF_at (a0 : FVec Ideal S32768x2048 .f32) (hd : FVec Ideal S32768x5632 .f32) (a4 : FVec Ideal S2x5632x2048 .f32)
    (r : Fin 32768) (q : Fin 2048) : rF a0 hd a4 (ix2 r q)
      = a0 (ix2 r q) + Ideal.ofBits .f32 0x3F000000#32 * ∑ k : Fin 5632, hd (ix2 r k) * a4 (ix3 1 k q) := by
  pointwise [rF]

theorem rFF (a0 : FVec Ideal S32768x2048 .f32) (a1 : FVec Ideal S2x2048 .f32) (a2 a3 : FVec Ideal S2x2048x5632 .f32) (a4 : FVec Ideal S2x5632x2048 .f32)
    (r : Fin 32768) (q : Fin 2048) : rF a0 (rH (rN a0 a1) a2 a3) a4 (ix2 r q) = FF a0 a1 a2 a3 a4 r q := by
  rw [rF_at]
  simp only [rH_at, rN_at]
  rfl

variable (m : (ℓ : Loc nD τ sig) → Buf (Elt Ideal) ℓ)

/-- The reference's result is the function the kernel's array was shown to be. -/
theorem result (c : Dev nD) : rF (m ((c.tc : Thread nD τ).loc main_arg0)) (rH (rN (m ((c.tc : Thread nD τ).loc main_arg0)) (m ((c.tc : Thread nD τ).loc main_arg1))) (m ((c.tc : Thread nD τ).loc main_arg2)) (m ((c.tc : Thread nD τ).loc main_arg3))) (m ((c.tc : Thread nD τ).loc main_arg4)) = OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext j
  idx_vars j
  exact rFF _ _ _ _ _ _ _

end Cert.Reference3Ideal.Ffn
-- ==== Proof.Qkv.Spec.lean ====
/-
  The branches' input projection over the extended reals, as a function of its arrays.
-/
module

public import proofs.«01_k».proof.Proof.Ffn.Spec

@[expose] public section

set_option maxRecDepth 16384

noncomputable section

open Idealize.ShloMosaic Idealize.ShloMosaic.TcCoe Idealize.SL.Sem
open scoped BigOperators

namespace Cert.Qkv

open Cert.Ffn (Rows Gains XN)

abbrev In : Shape := ⟨3, ![2, 2048, 13568]⟩
abbrev Cols : Shape := ⟨2, ![32768, 5376]⟩

/-- The columns that hold a branch's queries. -/
abbrev query (j : ℕ) : Prop := j < 512 ∨ (1536 ≤ j ∧ j < 2048) ∨ (3072 ≤ j ∧ j < 3584)

/-- The factor a column is scaled by: the queries' own, or one. -/
def scale (j : ℕ) : EReal := if query j then Ideal.ofBits .f32 0x3E38AA3B#32 else 1

/-- One entry of the scaled projection. -/
def P (H : FVec Ideal Rows .f32) (G : FVec Ideal Gains .f32) (W : FVec Ideal In .f32) (r : Fin 32768) (j : Fin 5376) : EReal :=
  (∑ l : Fin 2048, XN H G r l * W (ix3 1 l ⟨j.val, by omega⟩)) * scale j.val

/-- The call's result array. -/
def OUT (H : FVec Ideal Rows .f32) (G : FVec Ideal Gains .f32) (W : FVec Ideal In .f32) : FVec Ideal Cols .bf16 := fun i =>
  P H G W (i 0) (i 1)

end Cert.Qkv
-- ==== Proof.Qkv.Body.lean ====
/-
  The input projection's call over the extended reals: the payloads at an index, and each window's block
  at an index, the column factors' row among them.
-/
module

public import proofs.«01_k».proof.Proof.Gen.Kernel4Ideal.Frame
public import proofs.«01_k».proof.Proof.Qkv.Spec
public import Idealize.ShloMosaic.Lib.Pipeline.ValueKit.Held

@[expose] public section

set_option maxRecDepth 16384

noncomputable section

open Idealize.ShloMosaic Idealize.ShloMosaic.TcCoe Idealize.SL.Sem
open scoped BigOperators

namespace Cert.Kernel4Ideal.Qkv

open Cert.Kernel4Ideal Cert.Kernel4Ideal.Gen Cert.Qkv
open Cert.Ffn (Rows Gains XN RN)

/-- The four row chunks' normalised rows, each read at an index. -/
theorem norm0 (x : FVec Ideal S256x2048 .f32) (g : FVec Ideal S1x2048 .f32) (p : Fin 256) (q : Fin 2048) :
    k0_pay3 (F := Ideal) x g (ix2 p q) = RN (fun k => x (ix2 p k)) (fun k => g (ix2 0 k)) q := by
  pointwise [k0_pay3, RN]
theorem norm1 (x : FVec Ideal S256x2048 .f32) (g : FVec Ideal S1x2048 .f32) (p : Fin 256) (q : Fin 2048) :
    k0_pay9 (F := Ideal) x (k0_pay6 g) (k0_pay7 x) k0_pay8 (ix2 p q) = RN (fun k => x (ix2 p k)) (fun k => g (ix2 0 k)) q := by
  pointwise [k0_pay9, k0_pay6, k0_pay7, k0_pay8, RN]
theorem norm2 (x : FVec Ideal S256x2048 .f32) (g : FVec Ideal S1x2048 .f32) (p : Fin 256) (q : Fin 2048) :
    k0_pay12 (F := Ideal) x g (ix2 p q) = RN (fun k => x (ix2 p k)) (fun k => g (ix2 0 k)) q := by
  pointwise [k0_pay12, RN]
theorem norm3 (x : FVec Ideal S256x2048 .f32) (g : FVec Ideal S1x2048 .f32) (p : Fin 256) (q : Fin 2048) :
    k0_pay15 (F := Ideal) x g (ix2 p q) = RN (fun k => x (ix2 p k)) (fun k => g (ix2 0 k)) q := by
  pointwise [k0_pay15, RN]

/-- The chunks' scaled products, each over its normalised rows, read at an index. -/
theorem dot0 (x : FVec Ideal S256x2048 .f32) (g : FVec Ideal S1x2048 .f32) (w : FVec Ideal S1x2048x1792 .bf16)
    (s : FVec Ideal S1x1792 .f32) (p : Fin 256) (q : Fin 1792) :
    k0_pay5 (F := Ideal) x g w s (ix2 p q)
      = (∑ l : Fin 2048, k0_pay3 (F := Ideal) x g (ix2 p l) * w (ix3 0 l q)) * s (ix2 0 q) := by
  pointwise [k0_pay5]
theorem dot1 (x : FVec Ideal S256x2048 .f32) (g : FVec Ideal S1x2048 .f32) (v39 v40 : FVec Ideal S256x1 .f32) (w : FVec Ideal S1x2048x1792 .bf16)
    (s : FVec Ideal S1x1792 .f32) (p : Fin 256) (q : Fin 1792) :
    k0_pay11 (F := Ideal) x g v39 v40 w s (ix2 p q)
      = (∑ l : Fin 2048, k0_pay9 (F := Ideal) x g v39 v40 (ix2 p l) * w (ix3 0 l q)) * s (ix2 0 q) := by
  pointwise [k0_pay11]
theorem dot2 (x : FVec Ideal S256x2048 .bf16) (w : FVec Ideal S1x2048x1792 .bf16)
    (s : FVec Ideal S1x1792 .f32) (p : Fin 256) (q : Fin 1792) :
    k0_pay14 (F := Ideal) x w s (ix2 p q) = (∑ l : Fin 2048, x (ix2 p l) * w (ix3 0 l q)) * s (ix2 0 q) := by
  pointwise [k0_pay14]
theorem dot3 (x : FVec Ideal S256x2048 .f32) (g : FVec Ideal S1x2048 .f32) (w : FVec Ideal S1x2048x1792 .bf16)
    (s : FVec Ideal S1x1792 .f32) (p : Fin 256) (q : Fin 1792) :
    k0_pay1 (F := Ideal) (k0_pay17 (F := Ideal) x g w) s (ix2 p q)
      = (∑ l : Fin 2048, k0_pay15 (F := Ideal) x g (ix2 p l) * w (ix3 0 l q)) * s (ix2 0 q) := by
  pointwise [k0_pay1, k0_pay17]
/-- A later point's scaled product over the carried rows, read at an index. -/
theorem dotB (x : FVec Ideal S1024x2048 .bf16) (w : FVec Ideal S1x2048x1792 .bf16)
    (s : FVec Ideal S1x1792 .f32) (p : Fin 1024) (q : Fin 1792) :
    k0_pay2 (F := Ideal) x w s (ix2 p q) = (∑ l : Fin 2048, x (ix2 p l) * w (ix3 0 l q)) * s (ix2 0 q) := by
  pointwise [k0_pay2]

variable (m : (ℓ : Loc nD τ sig) → Buf (Elt Ideal) ℓ)

/-- Where each window sits at grid point `t`. -/
theorem idx : ∀ t : Fin cfg0.N, win0_0.index t = ![t.val / 3, 0]
    ∧ win0_1.index t = ![0, 0]
    ∧ win0_2.index t = ![1, 0, t.val % 3]
    ∧ win0_3.index t = ![0, t.val % 3]
    ∧ win0_4.index t = ![t.val / 3, t.val % 3]
    ∧ t.val / 3 < 32 :=
  (by decide +kernel : ∀ t : Fin grid0.N, _)

/-- The token row that row `p` of point `t`'s blocks is. -/
abbrev row (t : Fin cfg0.N) (p : Fin 1024) : Fin 32768 := ⟨t.val / 3 * 1024 + p.val, by have := (idx t).2.2.2.2.2; omega⟩

/-- The column that lane `q` of point `t`'s blocks is. -/
abbrev col (t : Fin cfg0.N) (q : Fin 1792) : Fin 5376 := ⟨t.val % 3 * 1792 + q.val, by omega⟩

theorem blk0 (c : Dev nD) (t : Fin cfg0.N) (p : Fin 1024) (q : Fin 2048) :
    (iblk m c 0 t : FVec Ideal S1024x2048 .f32) (ix2 p q) = m ((c : Thread nD τ).loc main_arg0) (ix2 (row t p) q) := by
  blk_ext [iblk, V, idx t]

/-- The column factors' row, as the host lines make it. -/
def factors : FVec Ideal S1x5376 .f32 :=
  shapeCast _ (select (ori (ori
      (andi (cmpi .sge (iotaInDim S5376 32 0) (broadcastInDim S5376 ![] bcast_S_S5376 (constantI S_ 32 0#32)))
        (cmpi .slt (iotaInDim S5376 32 0) (broadcastInDim S5376 ![] bcast_S_S5376 (constantI S_ 32 512#32))))
      (andi (cmpi .sge (iotaInDim S5376 32 0) (broadcastInDim S5376 ![] bcast_S_S5376 (constantI S_ 32 1536#32)))
        (cmpi .slt (iotaInDim S5376 32 0) (broadcastInDim S5376 ![] bcast_S_S5376 (constantI S_ 32 2048#32)))))
      (andi (cmpi .sge (iotaInDim S5376 32 0) (broadcastInDim S5376 ![] bcast_S_S5376 (constantI S_ 32 3072#32)))
        (cmpi .slt (iotaInDim S5376 32 0) (broadcastInDim S5376 ![] bcast_S_S5376 (constantI S_ 32 3584#32)))))
    (broadcastInDim S5376 ![] bcast_S_S5376 (constant (F := Ideal) S_ .f32 0x3E38AA3B#32))
    (broadcastInDim S5376 ![] bcast_S_S5376 (constant (F := Ideal) S_ .f32 0x3F800000#32))) shapeCasts_S5376_S1x5376

theorem entry2 (c : Dev nD) : (V m c main_v2 : FVec Ideal S1x2048 .f32)
    = shapeCast _ (shapeCast _ (extractStridedSlice S1x2048 ![1, 0] (m ((c : Thread nD τ).loc main_arg1) : FVec Ideal S2x2048 .f32)
      slices_S2x2048_S1x2048_1_0) shapeCasts_S1x2048_S2048) shapeCasts_S2048_S1x2048 := by
  unfold V
  simp only [List.flatten_cons, List.flatten_nil, List.append_nil, List.cons_append, List.nil_append, StableHlo.TRef.unary,
    StableHlo.TRef.ternary, StableHlo.TRef.toBuf, StableHlo.TRef.ofBuf, cast_eq]
  after_results_simp <;> rfl

theorem entry3 (c : Dev nD) : (V m c main_v3 : FVec Ideal S2x2048x13568 .bf16)
    = (truncf .bf16 (show FVec Ideal S2x2048x13568 .f32 from m ((c : Thread nD τ).loc main_arg2)) bitsLt_bf16_f32 : FVec Ideal S2x2048x13568 .bf16) := by
  unfold V
  simp only [List.flatten_cons, List.flatten_nil, List.append_nil, List.cons_append, List.nil_append, StableHlo.TRef.unary,
    StableHlo.TRef.ternary, StableHlo.TRef.toBuf, StableHlo.TRef.ofBuf, cast_eq]
  after_results_simp <;> rfl

theorem entry24 (c : Dev nD) : (V m c main_v24 : FVec Ideal S1x5376 .f32) = factors := by
  unfold V factors
  simp only [List.flatten_cons, List.flatten_nil, List.append_nil, List.cons_append, List.nil_append, StableHlo.TRef.unary,
    StableHlo.TRef.ternary, StableHlo.TRef.toBuf, StableHlo.TRef.ofBuf, cast_eq]
  after_results_simp <;> rfl

theorem factors_at (j : Fin 5376) : factors (ix2 0 j) = scale j.val := by
  pointwise [factors]
  have hj := j.isLt
  have e : IntOp.ori (IntOp.ori
      (IntOp.andi (IntOp.cmpi .sge (BitVec.ofNat 32 j.val) 0#32) (IntOp.cmpi .slt (BitVec.ofNat 32 j.val) 512#32))
      (IntOp.andi (IntOp.cmpi .sge (BitVec.ofNat 32 j.val) 1536#32) (IntOp.cmpi .slt (BitVec.ofNat 32 j.val) 2048#32)))
      (IntOp.andi (IntOp.cmpi .sge (BitVec.ofNat 32 j.val) 3072#32) (IntOp.cmpi .slt (BitVec.ofNat 32 j.val) 3584#32))
      = 1#1 ↔ query j.val := by
    unfold query
    word_cmp
  unfold scale Scalar.select
  by_cases h : query j.val
  · rw [if_pos (show _ = (1 : BitVec 1) from e.mpr h), if_pos h]
  · rw [if_neg (show ¬ _ = (1 : BitVec 1) from fun he => h (e.mp he)), if_neg h]

theorem blk1 (c : Dev nD) (t : Fin cfg0.N) (q : Fin 2048) :
    (iblk m c 1 t : FVec Ideal S1x2048 .f32) (ix2 0 q) = m ((c : Thread nD τ).loc main_arg1) (ix2 1 q) := by
  have e : (iblk m c 1 t : FVec Ideal S1x2048 .f32) (ix2 0 q) = (V m c main_v2 : FVec Ideal S1x2048 .f32) (ix2 0 q) := by
    blk_ext [iblk, idx t]
  rw [e, entry2]
  pointwise

theorem blk2 (c : Dev nD) (t : Fin cfg0.N) (l : Fin 2048) (q : Fin 1792) :
    (X0_2 m c t : FVec Ideal S1x2048x1792 .bf16) (ix3 0 l q)
      = m ((c : Thread nD τ).loc main_arg2) (ix3 1 l ⟨(col t q).val, by omega⟩) := by
  have e : (X0_2 m c t : FVec Ideal S1x2048x1792 .bf16) (ix3 0 l q)
      = (V m c main_v3 : FVec Ideal S2x2048x13568 .bf16) (ix3 1 l ⟨(col t q).val, by omega⟩) := by
    unfold X0_2 Pipeline.Window.fill
    rw [dif_pos (moved0_2 t _)]
    blk_ext [iblk, idx t]
  rw [e, entry3]
  pointwise

theorem blk3 (c : Dev nD) (t : Fin cfg0.N) (q : Fin 1792) :
    (iblk m c 3 t : FVec Ideal S1x1792 .f32) (ix2 0 q) = scale (col t q).val := by
  have e : (iblk m c 3 t : FVec Ideal S1x1792 .f32) (ix2 0 q) = (V m c main_v24 : FVec Ideal S1x5376 .f32) (ix2 0 (col t q)) := by
    blk_ext [iblk, idx t]
  rw [e, entry24, factors_at]

end Cert.Kernel4Ideal.Qkv
-- ==== Proof.Qkv.Final.lean ====
/-
  The input projection's call over the extended reals: the normalised rows the scratch carries, each point's store, and
  the result array.
-/
module

public import proofs.«01_k».proof.Proof.Qkv.Body

@[expose] public section

set_option maxRecDepth 16384

noncomputable section

open Idealize.ShloMosaic Idealize.ShloMosaic.TcCoe Idealize.SL.Sem
open scoped BigOperators

namespace Cert.Kernel4Ideal.Qkv

open Cert.Kernel4Ideal Cert.Kernel4Ideal.Gen Cert.Qkv
open Cert.Ffn (Rows Gains XN RN)

/-- What the chunks store into the scratch is their normalised rows. -/
theorem put0 (x : FVec Ideal S256x2048 .f32) (g : FVec Ideal S1x2048 .f32) (p : Fin 256) (q : Fin 2048) :
    k0_pay4 (F := Ideal) x g (ix2 p q) = RN (fun k => x (ix2 p k)) (fun k => g (ix2 0 k)) q := by
  pointwise [k0_pay4]; exact norm0 x g p q
theorem put1 (x : FVec Ideal S256x2048 .f32) (g : FVec Ideal S1x2048 .f32) (p : Fin 256) (q : Fin 2048) :
    k0_pay10 (F := Ideal) x (k0_pay6 g) (k0_pay7 x) k0_pay8 (ix2 p q) = RN (fun k => x (ix2 p k)) (fun k => g (ix2 0 k)) q := by
  pointwise [k0_pay10]; exact norm1 x g p q
theorem put2 (x : FVec Ideal S256x2048 .f32) (g : FVec Ideal S1x2048 .f32) (p : Fin 256) (q : Fin 2048) :
    k0_pay13 (F := Ideal) (k0_pay12 x g) (ix2 p q) = RN (fun k => x (ix2 p k)) (fun k => g (ix2 0 k)) q := by
  pointwise [k0_pay13]; exact norm2 x g p q
theorem put3 (x : FVec Ideal S256x2048 .f32) (g : FVec Ideal S1x2048 .f32) (p : Fin 256) (q : Fin 2048) :
    k0_pay16 (F := Ideal) x g (ix2 p q) = RN (fun k => x (ix2 p k)) (fun k => g (ix2 0 k)) q := by
  pointwise [k0_pay16]; exact norm3 x g p q

variable (m : (ℓ : Loc nD τ sig) → Buf (Elt Ideal) ℓ)

/-- A chunk of a block's rows, normalised, is the token row's. -/
theorem chunk (c : Dev nD) (t : Fin cfg0.N) (x : FVec Ideal S256x2048 .f32) (p : Fin 1024) (p0 : Fin 256)
    (hx : ∀ k : Fin 2048, x (ix2 p0 k) = (iblk m c 0 t : FVec Ideal S1024x2048 .f32) (ix2 p k)) (l : Fin 2048) :
    RN (fun k => x (ix2 p0 k)) (fun k => (iblk m c 1 t : FVec Ideal S1x2048 .f32) (ix2 0 k)) l
      = XN (m ((c : Thread nD τ).loc main_arg0)) (m ((c : Thread nD τ).loc main_arg1)) (row t p) l := by
  simp only [hx, blk0, blk1]
  rfl

/-- A run's first point leaves its normalised rows in the scratch. -/
theorem scratch_A (c : Dev nD) (t : Fin cfg0.N) (ht : t.val % 3 = 0) (p : Fin 1024) (l : Fin 2048) :
    (outsAt0 m c t.val t.isLt).2 (ix2 p l)
      = XN (m ((c : Thread nD τ).loc main_arg0)) (m ((c : Thread nD τ).loc main_arg1)) (row t p) l := by
  rw [outsAt0_A m c t ht (by omega)]
  frame_out
  canon_tiles x e
  all_goals
    idx_vars x
    obtain rfl : x1 = l := Fin.ext e1.symm
    first
      | refine (put0 _ _ _ _).trans (chunk m c t _ p _ (fun k => ?_) _)
      | refine (put1 _ _ _ _).trans (chunk m c t _ p _ (fun k => ?_) _)
      | refine (put2 _ _ _ _).trans (chunk m c t _ p _ (fun k => ?_) _)
      | refine (put3 _ _ _ _).trans (chunk m c t _ p _ (fun k => ?_) _)
    pointwise
    exact congrArg (fun r : Fin 1024 => (iblk m c 0 t : FVec Ideal S1024x2048 .f32) (ix2 r k))
      (Fin.ext (by first | exact e0.symm | simpa using e0.symm))

/-- The scratch holds the normalised rows at every point. -/
theorem scratch (c : Dev nD) (t : Fin cfg0.N) (p : Fin 1024) (l : Fin 2048) :
    (outsAt0 m c t.val t.isLt).2 (ix2 p l)
      = XN (m ((c : Thread nD τ).loc main_arg0)) (m ((c : Thread nD τ).loc main_arg1)) (row t p) l := by
  rw [Pipeline.eq_of_write_hold_apply (fun n h => (outsAt0 m c n h).2) 3
    (fun t => fun i => XN (m ((c : Thread nD τ).loc main_arg0)) (m ((c : Thread nD τ).loc main_arg1)) (row t (i 0)) (i 1))
    (fun t h i => by idx_vars i; exact scratch_A m c t h i0 i1)
    (fun t h i => by rw [outsAt0_B m c t h (by omega)]; rfl) t (ix2 p l)]
  have e : row ⟨3 * (t.val / 3), Pipeline.run_start_lt t⟩ p = row t p := Fin.ext (by simp only [row]; omega)
  exact congrArg (fun r => XN (m ((c : Thread nD τ).loc main_arg0)) (m ((c : Thread nD τ).loc main_arg1)) r l) e

/-- Normalised rows through a point's block of the projection, scaled by its columns' factors. -/
theorem proj (c : Dev nD) (t : Fin cfg0.N) (p : Fin 1024) (q : Fin 1792) (f : Fin 2048 → EReal)
    (hf : ∀ l, f l = XN (m ((c : Thread nD τ).loc main_arg0)) (m ((c : Thread nD τ).loc main_arg1)) (row t p) l) :
    (∑ l : Fin 2048, f l * (show FVec Ideal S1x2048x1792 .bf16 from X0_2 m c t) (ix3 0 l q))
        * (show FVec Ideal S1x1792 .f32 from iblk m c 3 t) (ix2 0 q)
      = P (m ((c : Thread nD τ).loc main_arg0)) (m ((c : Thread nD τ).loc main_arg1)) (m ((c : Thread nD τ).loc main_arg2))
          (row t p) (col t q) := by
  have e2 (l : Fin 2048) : (show FVec Ideal S1x2048x1792 .bf16 from X0_2 m c t) (ix3 0 l q) = _ := blk2 m c t l q
  have e3 : (show FVec Ideal S1x1792 .f32 from iblk m c 3 t) (ix2 0 q) = _ := blk3 m c t q
  simp only [hf, e2, e3]
  rfl

theorem out_A (c : Dev nD) (t : Fin cfg0.N) (ht : t.val % 3 = 0) (p : Fin 1024) (q : Fin 1792) :
    (outsAt0 m c t.val t.isLt).1 (ix2 p q)
      = P (m ((c : Thread nD τ).loc main_arg0)) (m ((c : Thread nD τ).loc main_arg1)) (m ((c : Thread nD τ).loc main_arg2))
          (row t p) (col t q) := by
  rw [outsAt0_A m c t ht (by omega)]
  frame_out
  canon_tiles x e
  all_goals
    idx_vars x
    obtain rfl : x1 = q := Fin.ext e1.symm
    first
      | refine (dot0 _ _ _ _ _ _).trans (proj m c t p _ _ fun l => (norm0 _ _ _ _).trans (chunk m c t _ p _ (fun k => ?_) _))
      | refine (dot1 _ _ _ _ _ _ _ _).trans (proj m c t p _ _ fun l => (norm1 _ _ _ _).trans (chunk m c t _ p _ (fun k => ?_) _))
      | refine (dot2 _ _ _ _ _).trans (proj m c t p _ _ fun l => (norm2 _ _ _ _).trans (chunk m c t _ p _ (fun k => ?_) _))
      | refine (dot3 _ _ _ _ _ _).trans (proj m c t p _ _ fun l => (norm3 _ _ _ _).trans (chunk m c t _ p _ (fun k => ?_) _))
    pointwise
    exact congrArg (fun r : Fin 1024 => (iblk m c 0 t : FVec Ideal S1024x2048 .f32) (ix2 r k))
      (Fin.ext (by first | exact e0.symm | simpa using e0.symm))

theorem out_B (c : Dev nD) (t : Fin cfg0.N) (ht : ¬ t.val % 3 = 0) (p : Fin 1024) (q : Fin 1792) :
    (outsAt0 m c t.val t.isLt).1 (ix2 p q)
      = P (m ((c : Thread nD τ).loc main_arg0)) (m ((c : Thread nD τ).loc main_arg1)) (m ((c : Thread nD τ).loc main_arg2))
          (row t p) (col t q) := by
  have hs := scratch m c t
  rw [outsAt0_B m c t ht (by omega)] at hs ⊢
  frame_out
  exact (dotB _ _ _ _ _).trans
    (proj m c t p q _ fun l => (congrFun (Memref.IsWhole.read_unread _ _) _).trans (hs p l))

/-- The array the call leaves. -/
theorem final (c : Dev nD) : (dats m 0 c).arrAt 4 cfg0.N
    = OUT (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  have e : (outsAt0 m c t.val t.isLt).1 (ix2 y0 y1)
      = OUT (m ((c : Thread nD τ).loc main_arg0)) (m ((c : Thread nD τ).loc main_arg1)) (m ((c : Thread nD τ).loc main_arg2))
          (ix2 (row t y0) (col t y1)) := by
    by_cases h : t.val % 3 = 0
    · exact out_A m c t h y0 y1
    · exact out_B m c t h y0 y1
  refine e.trans (congrArg _ ?_)
  blk_ext [idx t]

end Cert.Kernel4Ideal.Qkv
-- ==== Proof.Qkv.Ref.lean ====
/-
  The input projection reference's result, read at an index.
-/
module

public import proofs.«01_k».proof.Proof.Gen.Reference4Ideal.Run
public import proofs.«01_k».proof.Proof.Qkv.Spec

@[expose] public section

set_option maxRecDepth 16384

noncomputable section

open Idealize.ShloMosaic Idealize.ShloMosaic.TcCoe Idealize.SL.Sem
open scoped BigOperators

namespace Cert.Reference4Ideal.Qkv

open Cert.Reference4Ideal Cert.Reference4Ideal.Gen Cert.Reference4Ideal.Value Cert.Qkv
open Cert.Ffn (Rows Gains XN RN)

/-- The reference's normalised rows. -/
def rN (a0 : FVec Ideal S32768x2048 .f32) (a1 : FVec Ideal S2x2048 .f32) : FVec Ideal S32768x2048 .f32 :=
  mulf (mulf a0 (broadcastInDim S32768x2048 ![0, 1] bcast_S32768x1_S32768x2048_0_1 (Host.rsqrt (addf (Host.divf (broadcastInDim S32768x1 ![0] bcast_S32768_S32768x1_0 (Host.reduceAdd (mulf a0 a0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ (extractStridedSlice S1x2048 ![1, 0] a1 slices_S2x2048_S1x2048_1_0) shapeCasts_S1x2048_S2048)))

/-- The reference's whole projection. -/
def rD (xn : FVec Ideal S32768x2048 .f32) (a2 : FVec Ideal S2x2048x13568 .f32) : FVec Ideal S32768x13568 .f32 :=
  Host.dotGeneral dot_S32768x2048_S2048x13568_S32768x13568_1_0_0_1_n_n none xn (shapeCast _ (extractStridedSlice S1x2048x13568 ![1, 0, 0] a2 slices_S2x2048x13568_S1x2048x13568_1_0_0) shapeCasts_S1x2048x13568_S2048x13568)

/-- The reference's branch columns, the queries scaled. -/
def rO (d : FVec Ideal S32768x13568 .f32) : FVec Ideal S32768x5376 .bf16 :=
  truncf .bf16 ((concatenate S32768x5376 1 [⟨S32768x512, ((mulf (extractStridedSlice S32768x512 ![0, 0] (extractStridedSlice S32768x5376 ![0, 0] d slices_S32768x13568_S32768x5376_0_0) slices_S32768x5376_S32768x512_0_0) (broadcastInDim S32768x512 ![] bcast_S_S32768x512 (constant S_ .f32 0x3E38AA3B#32))) : (⟨S32768x512, .f32⟩ : BufTy).Contents (Elt Ideal))⟩, ⟨S32768x1024, ((extractStridedSlice S32768x1024 ![0, 512] (extractStridedSlice S32768x5376 ![0, 0] d slices_S32768x13568_S32768x5376_0_0) slices_S32768x5376_S32768x1024_0_512) : (⟨S32768x1024, .f32⟩ : BufTy).Contents (Elt Ideal))⟩, ⟨S32768x512, ((mulf (extractStridedSlice S32768x512 ![0, 1536] (extractStridedSlice S32768x5376 ![0, 0] d slices_S32768x13568_S32768x5376_0_0) slices_S32768x5376_S32768x512_0_1536) (broadcastInDim S32768x512 ![] bcast_S_S32768x512 (constant S_ .f32 0x3E38AA3B#32))) : (⟨S32768x512, .f32⟩ : BufTy).Contents (Elt Ideal))⟩, ⟨S32768x1024, ((extractStridedSlice S32768x1024 ![0, 2048] (extractStridedSlice S32768x5376 ![0, 0] d slices_S32768x13568_S32768x5376_0_0) slices_S32768x5376_S32768x1024_0_2048) : (⟨S32768x1024, .f32⟩ : BufTy).Contents (Elt Ideal))⟩, ⟨S32768x512, ((mulf (extractStridedSlice S32768x512 ![0, 3072] (extractStridedSlice S32768x5376 ![0, 0] d slices_S32768x13568_S32768x5376_0_0) slices_S32768x5376_S32768x512_0_3072) (broadcastInDim S32768x512 ![] bcast_S_S32768x512 (constant S_ .f32 0x3E38AA3B#32))) : (⟨S32768x512, .f32⟩ : BufTy).Contents (Elt Ideal))⟩, ⟨S32768x1792, ((extractStridedSlice S32768x1792 ![0, 3584] (extractStridedSlice S32768x5376 ![0, 0] d slices_S32768x13568_S32768x5376_0_0) slices_S32768x5376_S32768x1792_0_3584) : (⟨S32768x1792, .f32⟩ : BufTy).Contents (Elt Ideal))⟩] concatenates_S32768x512_S32768x1024_S32768x512_S32768x1024_S32768x512_S32768x1792_S32768x5376_d1 : (⟨S32768x5376, .f32⟩ : BufTy).Contents (Elt Ideal))) bitsLt_bf16_f32

theorem rN_at (a0 : FVec Ideal S32768x2048 .f32) (a1 : FVec Ideal S2x2048 .f32) (r : Fin 32768) (l : Fin 2048) :
    rN a0 a1 (ix2 r l) = XN a0 a1 r l := by
  pointwise [rN, XN, RN]

theorem rD_at (xn : FVec Ideal S32768x2048 .f32) (a2 : FVec Ideal S2x2048x13568 .f32) (r : Fin 32768) (j : Fin 13568) :
    rD xn a2 (ix2 r j) = ∑ l : Fin 2048, xn (ix2 r l) * a2 (ix3 1 l j) := by
  pointwise [rD]

theorem rO_at (d : FVec Ideal S32768x13568 .f32) (r : Fin 32768) (j : Fin 5376) :
    rO d (ix2 r j) = d (ix2 r ⟨j.val, by omega⟩) * scale j.val := by
  pointwise [rO]
  have hd {a b : Fin 13568} (h : a.val = b.val) : d (ix2 r a) = d (ix2 r b) := by rw [Fin.ext h]
  have yes (h : query j.val) : scale j.val = Ideal.ofBits .f32 0x3E38AA3B#32 := if_pos h
  have no (h : ¬ query j.val) : scale j.val = 1 := if_neg h
  have hj := j.isLt
  split_ifs
  all_goals
    first
      | refine (congrArg (· * _) (hd ?_)).trans (congrArg (_ * ·) (yes ?_)).symm
        · first | rfl | (dsimp only; omega)
        · unfold query; omega
      | rw [no (by unfold query; omega), mul_one]; exact hd (by first | rfl | (dsimp only; omega))

variable (m : (ℓ : Loc nD τ sig) → Buf (Elt Ideal) ℓ)

/-- The reference's result is the function the kernel's array was shown to be. -/
theorem result (c : Dev nD) : res_main_v32 m c = OUT (m ((c.tc : Thread nD τ).loc main_arg0)) (m ((c.tc : Thread nD τ).loc main_arg1)) (m ((c.tc : Thread nD τ).loc main_arg2)) := by
  have e : res_main_v32 m c = rO (rD (rN (m ((c.tc : Thread nD τ).loc main_arg0)) (m ((c.tc : Thread nD τ).loc main_arg1))) (m ((c.tc : Thread nD τ).loc main_arg2))) := rfl
  rw [e]
  funext j
  idx_vars j
  rw [rO_at, rD_at]
  simp only [rN_at]
  rfl

end Cert.Reference4Ideal.Qkv
-- ==== Proof.Conv.Spec.lean ====
/-
  The gated convolution over the extended reals, as a function of its arrays.
-/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Conv

abbrev Cols : Shape := ⟨3, ![8, 4096, 5376]⟩
abbrev Taps : Shape := ⟨4, ![2, 3, 1, 512]⟩
abbrev Outs : Shape := ⟨3, ![8, 4096, 512]⟩

/-- One entry of the gated input: the input gate's column times the value's. -/
def U (Q : FVec Ideal Cols .bf16) (b : Fin 8) (s : Fin 4096) (c : Fin 512) : EReal :=
  Q (ix3 b s ⟨4352 + c.val, by omega⟩) * Q (ix3 b s ⟨4864 + c.val, by omega⟩)

/-- The gated input some rows earlier, nothing before the sequence's first row. -/
def back (u : Fin 4096 → EReal) (n : ℕ) (s : Fin 4096) : EReal :=
  if n ≤ s.val then u ⟨s.val - n, by omega⟩ else 0

/-- One entry of the result: the output gate's column times the three taps' sum. -/
def Y (w u : EReal) (w1 u1 w0 u0 g : EReal) : EReal := g * (w * u + w1 * u1 + w0 * u0)

/-- The call's result array. -/
def OUT (Q : FVec Ideal Cols .bf16) (W : FVec Ideal Taps .f32) : FVec Ideal Outs .bf16 := fun i =>
  Y (W (ix4 1 2 0 (i 2))) (U Q (i 0) (i 1) (i 2)) (W (ix4 1 1 0 (i 2))) (back (fun s => U Q (i 0) s (i 2)) 1 (i 1))
    (W (ix4 1 0 0 (i 2))) (back (fun s => U Q (i 0) s (i 2)) 2 (i 1)) (Q (ix3 (i 0) (i 1) ⟨3840 + (i 2).val, by have : (i 2).val < 512 := (i 2).isLt; omega⟩))

end Cert.Conv
-- ==== Proof.Conv.Final.lean ====
/-
  The gated convolution's call over the extended reals: what its one store leaves, and the result array.
-/
module

public import proofs.«01_k».proof.Proof.Gen.Kernel5Ideal.Frame
public import proofs.«01_k».proof.Proof.Conv.Spec

@[expose] public section

set_option maxRecDepth 16384

noncomputable section

open Idealize.ShloMosaic Idealize.ShloMosaic.TcCoe Idealize.SL.Sem
open scoped BigOperators

namespace Cert.Kernel5Ideal.Conv

open Cert.Kernel5Ideal Cert.Kernel5Ideal.Gen Cert.Conv

/-- A tap on rows rolled round the block, those that came round the end masked off, is the tap on the rows before. -/
theorem tap (w : EReal) (u : Fin 4096 → EReal) (n : ℕ) (hn : n ≤ 2) (s : Fin 4096) (h : (s.val + 4096 - n) % 4096 < 4096) :
    Scalar.select (IntOp.cmpi .sge (BitVec.ofNat 32 s.val) (BitVec.ofNat 32 n)) (w * u ⟨(s.val + 4096 - n) % 4096, h⟩) (0 : EReal)
      = w * back u n s := by
  unfold back Scalar.select
  have e : IntOp.cmpi .sge (BitVec.ofNat 32 s.val) (BitVec.ofNat 32 n) = 1#1 ↔ n ≤ s.val := by word_cmp
  by_cases hs : n ≤ s.val
  · rw [if_pos (show _ = (1 : BitVec 1) from e.mpr hs), if_pos hs]
    exact congrArg (fun x => w * u x) (Fin.ext (by dsimp only; omega))
  · rw [if_neg (show ¬ _ = (1 : BitVec 1) from fun he => hs (e.mp he)), if_neg hs, mul_zero]

/-- The computed block read at an index. -/
theorem pay_at (xc xh xb : FVec Ideal S1x4096x128 .bf16) (w2 w1 w0 : FVec Ideal S1x128 .f32) (s : Fin 4096) (l : Fin 128) :
    k0_pay1 (F := Ideal) (k0_pay2 (F := Ideal) xc xh w2 w1 w0 xb) (ix3 0 s l) = Y (w2 (ix2 0 l)) (xc (ix3 0 s l) * xh (ix3 0 s l))
      (w1 (ix2 0 l)) (back (fun s => xc (ix3 0 s l) * xh (ix3 0 s l)) 1 s)
      (w0 (ix2 0 l)) (back (fun s => xc (ix3 0 s l) * xh (ix3 0 s l)) 2 s) (xb (ix3 0 s l)) := by
  rw [Y, ← tap _ _ 1 (by omega) s (by omega), ← tap _ _ 2 (by omega) s (by omega)]
  pointwise [k0_pay1, k0_pay2]

variable (m : (ℓ : Loc nD τ sig) → Buf (Elt Ideal) ℓ)

/-- Where each window sits at grid point `t`. -/
theorem idx : ∀ t : Fin cfg0.N, win0_0.index t = ![0, t.val % 4]
    ∧ win0_1.index t = ![t.val / 4, 0, 30 + t.val % 4]
    ∧ win0_2.index t = ![t.val / 4, 0, 34 + t.val % 4]
    ∧ win0_3.index t = ![t.val / 4, 0, 38 + t.val % 4]
    ∧ win0_4.index t = ![t.val / 4, 0, t.val % 4]
    ∧ t.val / 4 < 8 :=
  (by decide +kernel : ∀ t : Fin grid0.N, _)

/-- The sequence that point `t`'s blocks come from. -/
abbrev sq (t : Fin cfg0.N) : Fin 8 := ⟨t.val / 4, (idx t).2.2.2.2.2⟩

/-- The channel that lane `l` of point `t`'s blocks is. -/
abbrev ch (t : Fin cfg0.N) (l : Fin 128) : Fin 512 := ⟨t.val % 4 * 128 + l.val, by omega⟩

theorem blk0 (c : Dev nD) (t : Fin cfg0.N) (k : Fin 3) (l : Fin 128) :
    (iblk m c 0 t : FVec Ideal S3x128 .f32) (ix2 k l) = m ((c : Thread nD τ).loc main_arg1) (ix4 1 k 0 (ch t l)) := by
  blk_simp [iblk, idx t]; entry_read; pointwise; blk_ext [idx t]

theorem blk1 (c : Dev nD) (t : Fin cfg0.N) (s : Fin 4096) (l : Fin 128) :
    (iblk m c 1 t : FVec Ideal S1x4096x128 .bf16) (ix3 0 s l)
      = m ((c : Thread nD τ).loc main_arg0) (ix3 (sq t) s ⟨3840 + (ch t l).val, by omega⟩) := by
  blk_ext [iblk, V, idx t]

theorem blk2 (c : Dev nD) (t : Fin cfg0.N) (s : Fin 4096) (l : Fin 128) :
    (iblk m c 2 t : FVec Ideal S1x4096x128 .bf16) (ix3 0 s l)
      = m ((c : Thread nD τ).loc main_arg0) (ix3 (sq t) s ⟨4352 + (ch t l).val, by omega⟩) := by
  blk_ext [iblk, V, idx t]

theorem blk3 (c : Dev nD) (t : Fin cfg0.N) (s : Fin 4096) (l : Fin 128) :
    (iblk m c 3 t : FVec Ideal S1x4096x128 .bf16) (ix3 0 s l)
      = m ((c : Thread nD τ).loc main_arg0) (ix3 (sq t) s ⟨4864 + (ch t l).val, by omega⟩) := by
  blk_ext [iblk, V, idx t]

/-- What point `t` stores, over its taps' rows. -/
theorem store_at (c : Dev nD) (t : Fin cfg0.N) (w2 w1 w0 : FVec Ideal S1x128 .f32)
    (h2 : ∀ l : Fin 128, w2 (ix2 0 l) = m ((c : Thread nD τ).loc main_arg1) (ix4 1 2 0 (ch t l)))
    (h1 : ∀ l : Fin 128, w1 (ix2 0 l) = m ((c : Thread nD τ).loc main_arg1) (ix4 1 1 0 (ch t l)))
    (h0 : ∀ l : Fin 128, w0 (ix2 0 l) = m ((c : Thread nD τ).loc main_arg1) (ix4 1 0 0 (ch t l))) (s : Fin 4096) (l : Fin 128) :
    k0_pay1 (F := Ideal) (k0_pay2 (F := Ideal) (iblk m c 2 t) (iblk m c 3 t) w2 w1 w0 (iblk m c 1 t)) (ix3 0 s l)
      = OUT (m ((c : Thread nD τ).loc main_arg0)) (m ((c : Thread nD τ).loc main_arg1)) (ix3 (sq t) s (ch t l)) := by
  rw [pay_at]
  simp only [h2, h1, h0, blk1, blk2, blk3]
  rfl

/-- The array the call leaves. -/
theorem final (c : Dev nD) : (dats m 0 c).arrAt 4 cfg0.N
    = OUT (m ((c : Thread nD τ).loc main_arg0)) (m ((c : Thread nD τ).loc main_arg1)) := by
  refine (dats m 0 c).arrAt_eq_of_covers 4 _ (by decide +kernel) fun t hf y => ?_
  blk_simp
  rw [after0_4]
  frame_out
  idx_vars y
  obtain rfl : y0 = 0 := Subsingleton.elim _ _
  refine (store_at m c t _ _ _ (fun l => ?_) (fun l => ?_) (fun l => ?_) _ _).trans ?_
  · pointwise; exact (blk0 m c t _ _).trans (by blk_ext)
  · pointwise; exact (blk0 m c t _ _).trans (by blk_ext)
  · pointwise; exact (blk0 m c t _ _).trans (by blk_ext)
  · refine congrArg _ ?_
    blk_ext [idx t]

end Cert.Kernel5Ideal.Conv
-- ==== Proof.Conv.Ref.lean ====
/-
  The gated convolution reference's result, read at an index.
-/
module

public import proofs.«01_k».proof.Proof.Gen.Reference5Ideal.Run
public import proofs.«01_k».proof.Proof.Conv.Spec

@[expose] public section

set_option maxRecDepth 16384

noncomputable section

open Idealize.ShloMosaic Idealize.ShloMosaic.TcCoe Idealize.SL.Sem
open scoped BigOperators

namespace Cert.Reference5Ideal.Conv

open Cert.Reference5Ideal Cert.Reference5Ideal.Gen Cert.Reference5Ideal.Value Cert.Conv

/-- The gated input under two rows of zeros. -/
def rP (a0 : FVec Ideal S8x4096x5376 .bf16) : FVec Ideal S8x4098x512 .f32 :=
  pad S8x4098x512 ![0, 2, 0] ![0, 0, 0] ![0, 0, 0] (mulf (extf .f32 (extractStridedSlice S8x4096x512 ![0, 0, 4352] a0 slices_S8x4096x5376_S8x4096x512_0_0_4352) bitsLt_bf16_f32) (extf .f32 (extractStridedSlice S8x4096x512 ![0, 0, 4864] a0 slices_S8x4096x5376_S8x4096x512_0_0_4864) bitsLt_bf16_f32)) (sitofp .f32 (constantI S_ 32 0#32)) pads_S8x4096x512_S8x4098x512_000_200_000 h_S_

/-- The reference's result from the padded input. -/
def rO (a0 : FVec Ideal S8x4096x5376 .bf16) (p : FVec Ideal S8x4098x512 .f32) (a1 : FVec Ideal S2x3x1x512 .f32) : FVec Ideal S8x4096x512 .bf16 :=
  truncf .bf16 (mulf (extf .f32 (extractStridedSlice S8x4096x512 ![0, 0, 3840] a0 slices_S8x4096x5376_S8x4096x512_0_0_3840) bitsLt_bf16_f32) (addf (addf (addf (broadcastInDim S8x4096x512 ![] bcast_S_S8x4096x512 (constant S_ .f32 0x00000000#32)) (mulf (extractStridedSlice S8x4096x512 ![0, 0, 0] p slices_S8x4098x512_S8x4096x512_0_0_0) (broadcastInDim S8x4096x512 ![0, 1, 2] bcast_S1x1x512_S8x4096x512_0_1_2 (broadcastInDim S1x1x512 ![2] bcast_S512_S1x1x512_2 (shapeCast _ (extractStridedSlice S1x1x1x512 ![1, 0, 0, 0] a1 slices_S2x3x1x512_S1x1x1x512_1_0_0_0) shapeCasts_S1x1x1x512_S512))))) (mulf (extractStridedSlice S8x4096x512 ![0, 1, 0] p slices_S8x4098x512_S8x4096x512_0_1_0) (broadcastInDim S8x4096x512 ![0, 1, 2] bcast_S1x1x512_S8x4096x512_0_1_2 (broadcastInDim S1x1x512 ![2] bcast_S512_S1x1x512_2 (shapeCast _ (extractStridedSlice S1x1x1x512 ![1, 1, 0, 0] a1 slices_S2x3x1x512_S1x1x1x512_1_1_0_0) shapeCasts_S1x1x1x512_S512))))) (mulf (extractStridedSlice S8x4096x512 ![0, 2, 0] p slices_S8x4098x512_S8x4096x512_0_2_0) (broadcastInDim S8x4096x512 ![0, 1, 2] bcast_S1x1x512_S8x4096x512_0_1_2 (broadcastInDim S1x1x512 ![2] bcast_S512_S1x1x512_2 (shapeCast _ (extractStridedSlice S1x1x1x512 ![1, 2, 0, 0] a1 slices_S2x3x1x512_S1x1x1x512_1_2_0_0) shapeCasts_S1x1x1x512_S512)))))) bitsLt_bf16_f32

theorem rP_at (a0 : FVec Ideal S8x4096x5376 .bf16) (b : Fin 8) (s : Fin 4098) (c : Fin 512) :
    rP a0 (ix3 b s c) = if h : 2 ≤ s.val then U a0 b ⟨s.val - 2, by omega⟩ c else 0 := by
  have z : (FloatOps.sitofp FTy.f32 0#32 : Ideal .f32) = (0 : EReal) := by
    simp [FloatOps.sitofp]
  pointwise [rP, U]
  by_cases h : 2 ≤ s.val
  · rw [dif_pos ⟨h, by omega⟩, dif_pos h]
  · rw [dif_neg (fun hh => h hh.1), dif_neg h, z]

theorem rO_at (a0 : FVec Ideal S8x4096x5376 .bf16) (p : FVec Ideal S8x4098x512 .f32) (a1 : FVec Ideal S2x3x1x512 .f32)
    (b : Fin 8) (s : Fin 4096) (c : Fin 512) : rO a0 p a1 (ix3 b s c) = a0 (ix3 b s ⟨3840 + c.val, by omega⟩)
      * (0 + p (ix3 b ⟨s.val, by omega⟩ c) * a1 (ix4 1 0 0 c) + p (ix3 b ⟨1 + s.val, by omega⟩ c) * a1 (ix4 1 1 0 c)
        + p (ix3 b ⟨2 + s.val, by omega⟩ c) * a1 (ix4 1 2 0 c)) := by
  pointwise [rO]

/-- Three products summed, turned round. -/
theorem turn (u0 w0 u1 w1 u2 w2 : EReal) : u0 * w0 + u1 * w1 + u2 * w2 = w2 * u2 + w1 * u1 + w0 * u0 := by ac_rfl

theorem back_at (a0 : FVec Ideal S8x4096x5376 .bf16) (b : Fin 8) (s : Fin 4096) (c : Fin 512) (n j : ℕ) (hn : n + j = 2)
    (h : j + s.val < 4098) : rP a0 (ix3 b ⟨j + s.val, h⟩ c) = back (fun s => U a0 b s c) n s := by
  rw [rP_at, back]
  by_cases hs : n ≤ s.val
  · rw [dif_pos (by dsimp only; omega), if_pos hs]
    exact congrArg (fun x => U a0 b x c) (Fin.ext (by dsimp only; omega))
  · rw [dif_neg (by dsimp only; omega), if_neg hs]

theorem rO_eq (a0 : FVec Ideal S8x4096x5376 .bf16) (a1 : FVec Ideal S2x3x1x512 .f32) : rO a0 (rP a0) a1 = OUT a0 a1 := by
  funext j
  idx_vars j
  rw [rO_at]
  have e0 : rP a0 (ix3 j0 ⟨j1.val, by omega⟩ j2) = back (fun s => U a0 j0 s j2) 2 j1 :=
    (congrArg (fun x => rP a0 (ix3 j0 x j2)) (Fin.ext (Nat.zero_add _).symm)).trans
      (back_at a0 j0 j1 j2 2 0 rfl (by omega))
  have e2 : back (fun s => U a0 j0 s j2) 0 j1 = U a0 j0 j1 j2 := rfl
  rw [e0, back_at a0 j0 j1 j2 1 1 rfl (by omega), back_at a0 j0 j1 j2 0 2 rfl (by omega), e2, zero_add]
  exact congrArg _ (turn _ _ _ _ _ _)

variable (m : (ℓ : Loc nD τ sig) → Buf (Elt Ideal) ℓ)

/-- The reference's result is the function the kernel's array was shown to be. -/
theorem result (c : Dev nD) : rO (m ((c.tc : Thread nD τ).loc main_arg0)) (rP (m ((c.tc : Thread nD τ).loc main_arg0))) (m ((c.tc : Thread nD τ).loc main_arg1))
    = OUT (m ((c.tc : Thread nD τ).loc main_arg0)) (m ((c.tc : Thread nD τ).loc main_arg1)) := rO_eq _ _

end Cert.Reference5Ideal.Conv
-- ==== Proof.Swa.Fill.lean ====
/-
  The sliding-window attention's guarded stores: at a batch's first tile the body stores the batch's values transposed.
-/
module

public import proofs.«01_k».proof.Proof.Gen.Kernel6Ideal.Frame
public import proofs.«01_k».proof.Proof.Gen.Kernel6Ideal.Skeleton
public import Idealize.ShloMosaic.Lib.ValueIdx
public import Idealize.ShloMosaic.Lib.Pipeline.ValueKit
public import Idealize.ShloMosaic.Lib.WholeRead

@[expose] public section

set_option maxRecDepth 16384

noncomputable section

namespace Cert.Kernel6Ideal.Swa

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The tile is its batch's first. -/
abbrev atFirst (i : grid0.Coords) : Prop := (Scalar.cmpi .ne (Scalar.extui (Scalar.cmpi .eq (BitVec.ofNat 32 (i 1).val) 0#32)) 0#32) = 1#1

/-- There are 32 points, four tiles a batch: the tile is the first at the points ≡ 0 (mod 4). -/
theorem atFirst_iff : ∀ t : Fin cfg0.N, atFirst (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [atFirst, e1]
    word_cmp
   : ∀ t : Fin grid0.N, atFirst (grid0.coords t) ↔ t.val % 4 = 0)

/-- What the first tile stores in the scratch: row block `t` of the batch's values, transposed. -/
noncomputable def vt (x4 : Vec F S1x4096x128 .bf16) : Vec F S32x128x128 .bf16 := fun j =>
  k0_pay2 (F := F) (fun y => x4 (ValueIdx.ix3 (y 0) (⟨128 * (j 0).val + (y 1).val, by have h0 : (j 0).val < 32 := (j 0).isLt; have h1 : (y 1).val < 128 := (y 1).isLt; omega⟩) (y 2))) (ValueIdx.ix3 0 (j 1) (j 2))

/-- The scratch a tile reads: what it stores there when it is its batch's first, what it finds there otherwise. -/
noncomputable def scr (i : grid0.Coords) (x4 : Vec F S1x4096x128 .bf16) (xs : Vec F S32x128x128 .bf16) : Vec F S32x128x128 .bf16 :=
  open Classical in if atFirst i then vt x4 else xs

/-- A row block's transpose is `vt`'s there. -/
theorem vt_tile {M : Memref sig .tc .vmem S1x4096x128 .bf16} (h : M.IsWhole) (x4 : Vec F S1x4096x128 .bf16) (k : ℕ) (hk : k < 32)
    (inb : ∀ a, (![0, 128 * k, 0] : Fin 3 → ℕ) a + S1x128x128.size a ≤ S1x4096x128.size a) (y : S32x128x128.Idx) :
    View.TileAt (Val := Elt F) y ![k, 0, 0] S1x128x128.size
      (k0_pay2 (M.view.readAt (Elt F) (Rect.unit (s := S1x4096x128) ![0, 128 * k, 0] S1x128x128.size inb).toLoadRect (h.unread x4))) (vt x4 y) := by
  intro x hx
  have h0 : (y 0).val = k + (x 0).val := hx 0
  have h1 : (y 1).val = 0 + (x 1).val := hx 1
  have h2 : (y 2).val = 0 + (x 2).val := hx 2
  have hx0 : (x 0).val < 1 := (x 0).isLt
  unfold vt
  congr 1
  · funext z
    rw [h.readAt_unread]
    congr 1; funext a; apply Fin.ext
    have hz : (z 0).val < 1 := (z 0).isLt
    match a with
    | ⟨0, _⟩ => show 0 + 1 * (z 0).val = (z 0).val; omega
    | ⟨1, _⟩ => show 128 * k + 1 * (z 1).val = 128 * (y 0).val + (z 1).val; omega
    | ⟨2, _⟩ => show 0 + 1 * (z 2).val = (z 2).val; omega
  · funext a; apply Fin.ext
    match a with
    | ⟨0, _⟩ => show (x 0).val = 0; omega
    | ⟨1, _⟩ => show (x 1).val = (y 1).val; omega
    | ⟨2, _⟩ => show (x 2).val = (y 2).val; omega

/-- Whole contents after a list of stores that cover the shape, each holding `X` where it lies: `X`'s. -/
theorem writes_eq_unread {s : Shape} {e : EltTy} {M : Memref sig .tc .vmem s e} (h : M.IsWhole) (f : M.view.ty.Contents (Elt F))
    (L : List (View.Piece (Elt F) s e)) (X : Vec F s e) (hc : ∀ y, ∃ p ∈ L, y ∈ p.1.set) (ha : ∀ y, View.AllAt L y (X y)) :
    M.view.writes (Elt F) f L = h.unread X :=
  h.eq_unread (by
    rw [View.read_writes_eq_canon _ _ _ hc]
    funext y; exact View.canon_eq_of_allAt L y (X y) (hc y) (ha y))

/-- The guarded stores of the scratch. -/
noncomputable def fillProg (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x1024x512 .bf16) (harg7 : arg7.IsWhole) (arg8 : Memref sig .tc .vmem S32x128x128 .bf16) (harg8 : arg8.IsWhole) : Prog (TpuEff nD τ sig (Elt F) Λ₀ .tc) PUnit :=
  if k0_h1 : atFirst i then do
    k0_part1 i arg2 harg2 arg3 harg3 arg4 harg4 arg5 harg5 arg6 harg6 arg7 harg7 arg8 harg8
    k0_part2 i arg2 harg2 arg3 harg3 arg4 harg4 arg5 harg5 arg6 harg6 arg7 harg7 arg8 harg8
    k0_part3 i arg2 harg2 arg3 harg3 arg4 harg4 arg5 harg5 arg6 harg6 arg7 harg7 arg8 harg8
    k0_part4 i arg2 harg2 arg3 harg3 arg4 harg4 arg5 harg5 arg6 harg6 arg7 harg7 arg8 harg8
    k0_part5 i arg2 harg2 arg3 harg3 arg4 harg4 arg5 harg5 arg6 harg6 arg7 harg7 arg8 harg8
    k0_part6 i arg2 harg2 arg3 harg3 arg4 harg4 arg5 harg5 arg6 harg6 arg7 harg7 arg8 harg8
    k0_part7 i arg2 harg2 arg3 harg3 arg4 harg4 arg5 harg5 arg6 harg6 arg7 harg7 arg8 harg8
    k0_part8 i arg2 harg2 arg3 harg3 arg4 harg4 arg5 harg5 arg6 harg6 arg7 harg7 arg8 harg8
    pure ⟨⟩
  else do
    pure ⟨⟩

/-- What follows the guarded stores in their part: the first load of the keys. -/
noncomputable def afterFill (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x1024x512 .bf16) (harg7 : arg7.IsWhole) (arg8 : Memref sig .tc .vmem S32x128x128 .bf16) (harg8 : arg8.IsWhole) :
    Prog (TpuEff nD τ sig (Elt F) Λ₀ .tc) (Σ' (arg1 : BitVec 32) (v22 : FVec F S128x512 .f32) (v23 : IVec S128x512 1) (v24 : IVec S128x512 1) (v25 : FVec F S64x128 .f32) (v27 : BitVec 32), FVec F S128x128 .bf16) := do
  let v33 : Vec F S1x128x128 .bf16 ← Prog.lift (.load arg5 (Rect.unit (s := S1x4096x128) (k0_off1 i 0#32) S1x128x128.size (k0_off1_inb i 0)).toLoadRect (View.loadsAt_vmem h_S1x128x128))
  pure ⟨BitVec.ofNat 32 (i 1).val, k0_pay35 (F := F), k0_pay36, k0_pay37, k0_pay38 (F := F), Scalar.addi (Scalar.muli (BitVec.ofNat 32 (i 1).val) 8#32) 0#32, k0_pay39 v33⟩

set_option maxRecDepth 65536 in
/-- The part that holds the guarded stores is the stores, then the first load. -/
theorem part9_eq (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x1024x512 .bf16) (harg7 : arg7.IsWhole) (arg8 : Memref sig .tc .vmem S32x128x128 .bf16) (harg8 : arg8.IsWhole) :
    k0_part9 (F := F) i arg2 harg2 arg3 harg3 arg4 harg4 arg5 harg5 arg6 harg6 arg7 harg7 arg8 harg8 = (fillProg (F := F) i arg2 harg2 arg3 harg3 arg4 harg4 arg5 harg5 arg6 harg6 arg7 harg7 arg8 harg8 >>= fun _ => afterFill (F := F) i arg2 harg2 arg3 harg3 arg4 harg4 arg5 harg5 arg6 harg6 arg7 harg7 arg8 harg8) := by
  rw [k0_part9_eq_skeleton]
  unfold fillProg k0_part9_skel
  by_cases hc : atFirst i
  · refine (dif_pos hc).trans ?_
    rw [dif_pos hc]
    simp only [bind_assoc]
    rfl
  · refine (dif_neg hc).trans ?_
    rw [dif_neg hc]
    rfl

set_option maxHeartbeats 4000000 in
/-- The guarded stores of the scratch, run: they leave `scr`. -/
theorem fill_run (c : Dev nD) (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x1024x512 .bf16) (harg7 : arg7.IsWhole) (arg8 : Memref sig .tc .vmem S32x128x128 .bf16) (harg8 : arg8.IsWhole) (x4 : Vec F S1x4096x128 .bf16) (xs : Vec F S32x128x128 .bf16) (E : Set ℕ) (K : PUnit → sProp 𝕄) :
    iprop((arg6.view.loc (c : Thread nD τ) ↦[arg6.view.set]{fullShare} harg6.unread x4) ∗ (arg8.view.loc (c : Thread nD τ) ↦[arg8.view.set]{fullShare} harg8.unread xs)
        ∗ (iprop((arg6.view.loc (c : Thread nD τ) ↦[arg6.view.set]{fullShare} harg6.unread x4) ∗ (arg8.view.loc (c : Thread nD τ) ↦[arg8.view.set]{fullShare} harg8.unread (scr i x4 xs))) -∗ K ⟨⟩))
      ⊢ wp frame (wpE (defs₀ (F := F)) Variants.none c none) E (fillProg (F := F) i arg2 harg2 arg3 harg3 arg4 harg4 arg5 harg5 arg6 harg6 arg7 harg7 arg8 harg8) K := by
  by_cases hc : atFirst i
  · rw [show scr i x4 xs = vt x4 from if_pos hc]
    unfold fillProg; rw [dif_pos hc]
    iintro ⟨H4, HS, Hk⟩
    sl_exec
    sl_step
    iapply Hk
    isplitl [H4]; · iexact H4
    rw [writes_eq_unread harg8 (harg8.unread xs) _ (vt x4) ?hc ?ha]
    · iexact HS
    case hc => exact View.cover_of_tiledL _ S1x128x128.size (by sl_kernel_rfl)
    case ha =>
      intro y
      refine View.allAt_cons_unit _ _ _ _ _ (vt_tile harg6 x4 31 (by decide) inb_S1x4096x128_S1x128x128_0_3968_0 y) ?_
      refine View.allAt_cons_unit _ _ _ _ _ (vt_tile harg6 x4 30 (by decide) inb_S1x4096x128_S1x128x128_0_3840_0 y) ?_
      refine View.allAt_cons_unit _ _ _ _ _ (vt_tile harg6 x4 29 (by decide) inb_S1x4096x128_S1x128x128_0_3712_0 y) ?_
      refine View.allAt_cons_unit _ _ _ _ _ (vt_tile harg6 x4 28 (by decide) inb_S1x4096x128_S1x128x128_0_3584_0 y) ?_
      refine View.allAt_cons_unit _ _ _ _ _ (vt_tile harg6 x4 27 (by decide) inb_S1x4096x128_S1x128x128_0_3456_0 y) ?_
      refine View.allAt_cons_unit _ _ _ _ _ (vt_tile harg6 x4 26 (by decide) inb_S1x4096x128_S1x128x128_0_3328_0 y) ?_
      refine View.allAt_cons_unit _ _ _ _ _ (vt_tile harg6 x4 25 (by decide) inb_S1x4096x128_S1x128x128_0_3200_0 y) ?_
      refine View.allAt_cons_unit _ _ _ _ _ (vt_tile harg6 x4 24 (by decide) inb_S1x4096x128_S1x128x128_0_3072_0 y) ?_
      refine View.allAt_cons_unit _ _ _ _ _ (vt_tile harg6 x4 23 (by decide) inb_S1x4096x128_S1x128x128_0_2944_0 y) ?_
      refine View.allAt_cons_unit _ _ _ _ _ (vt_tile harg6 x4 22 (by decide) inb_S1x4096x128_S1x128x128_0_2816_0 y) ?_
      refine View.allAt_cons_unit _ _ _ _ _ (vt_tile harg6 x4 21 (by decide) inb_S1x4096x128_S1x128x128_0_2688_0 y) ?_
      refine View.allAt_cons_unit _ _ _ _ _ (vt_tile harg6 x4 20 (by decide) inb_S1x4096x128_S1x128x128_0_2560_0 y) ?_
      refine View.allAt_cons_unit _ _ _ _ _ (vt_tile harg6 x4 19 (by decide) inb_S1x4096x128_S1x128x128_0_2432_0 y) ?_
      refine View.allAt_cons_unit _ _ _ _ _ (vt_tile harg6 x4 18 (by decide) inb_S1x4096x128_S1x128x128_0_2304_0 y) ?_
      refine View.allAt_cons_unit _ _ _ _ _ (vt_tile harg6 x4 17 (by decide) inb_S1x4096x128_S1x128x128_0_2176_0 y) ?_
      refine View.allAt_cons_unit _ _ _ _ _ (vt_tile harg6 x4 16 (by decide) inb_S1x4096x128_S1x128x128_0_2048_0 y) ?_
      refine View.allAt_cons_unit _ _ _ _ _ (vt_tile harg6 x4 15 (by decide) inb_S1x4096x128_S1x128x128_0_1920_0 y) ?_
      refine View.allAt_cons_unit _ _ _ _ _ (vt_tile harg6 x4 14 (by decide) inb_S1x4096x128_S1x128x128_0_1792_0 y) ?_
      refine View.allAt_cons_unit _ _ _ _ _ (vt_tile harg6 x4 13 (by decide) inb_S1x4096x128_S1x128x128_0_1664_0 y) ?_
      refine View.allAt_cons_unit _ _ _ _ _ (vt_tile harg6 x4 12 (by decide) inb_S1x4096x128_S1x128x128_0_1536_0 y) ?_
      refine View.allAt_cons_unit _ _ _ _ _ (vt_tile harg6 x4 11 (by decide) inb_S1x4096x128_S1x128x128_0_1408_0 y) ?_
      refine View.allAt_cons_unit _ _ _ _ _ (vt_tile harg6 x4 10 (by decide) inb_S1x4096x128_S1x128x128_0_1280_0 y) ?_
      refine View.allAt_cons_unit _ _ _ _ _ (vt_tile harg6 x4 9 (by decide) inb_S1x4096x128_S1x128x128_0_1152_0 y) ?_
      refine View.allAt_cons_unit _ _ _ _ _ (vt_tile harg6 x4 8 (by decide) inb_S1x4096x128_S1x128x128_0_1024_0 y) ?_
      refine View.allAt_cons_unit _ _ _ _ _ (vt_tile harg6 x4 7 (by decide) inb_S1x4096x128_S1x128x128_0_896_0 y) ?_
      refine View.allAt_cons_unit _ _ _ _ _ (vt_tile harg6 x4 6 (by decide) inb_S1x4096x128_S1x128x128_0_768_0 y) ?_
      refine View.allAt_cons_unit _ _ _ _ _ (vt_tile harg6 x4 5 (by decide) inb_S1x4096x128_S1x128x128_0_640_0 y) ?_
      refine View.allAt_cons_unit _ _ _ _ _ (vt_tile harg6 x4 4 (by decide) inb_S1x4096x128_S1x128x128_0_512_0 y) ?_
      refine View.allAt_cons_unit _ _ _ _ _ (vt_tile harg6 x4 3 (by decide) inb_S1x4096x128_S1x128x128_0_384_0 y) ?_
      refine View.allAt_cons_unit _ _ _ _ _ (vt_tile harg6 x4 2 (by decide) inb_S1x4096x128_S1x128x128_0_256_0 y) ?_
      refine View.allAt_cons_unit _ _ _ _ _ (vt_tile harg6 x4 1 (by decide) inb_S1x4096x128_S1x128x128_0_128_0 y) ?_
      refine View.allAt_cons_unit _ _ _ _ _ (vt_tile harg6 x4 0 (by decide) inb_S1x4096x128_S1x128x128_0_0_0 y) ?_
      exact View.allAt_nil _ _
  · rw [show scr i x4 xs = xs from if_neg hc]; unfold fillProg; rw [dif_neg hc]
    iintro ⟨H4, HS, Hk⟩
    sl_step
    iapply Hk
    isplitl [H4]; · iexact H4
    iexact HS

end Cert.Kernel6Ideal.Swa

end
-- ==== Proof.Swa.Run.lean ====
/-
  The sliding-window attention's body, run from whole buffers, the guarded stores of the transposed values taken whole.
-/
module

public import proofs.«01_k».proof.Proof.Gen.Kernel6Ideal.Frame
public import proofs.«01_k».proof.Proof.Gen.Kernel6Ideal.Skeleton
public import proofs.«01_k».proof.Proof.Swa.Fill
public import Idealize.ShloMosaic.Lib.Pipeline.ValueKit
public import Idealize.ShloMosaic.Lib.WholeRead

@[expose] public section

set_option maxRecDepth 16384

noncomputable section

namespace Cert.Kernel6Ideal.Swa

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a tile: the pieces it leaves in the output's buffer, the transposed values it reads being `xr`, with its triple. -/
noncomputable def run (c : Dev nD) (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x1024x512 .bf16) (harg7 : arg7.IsWhole) (arg8 : Memref sig .tc .vmem S32x128x128 .bf16) (harg8 : arg8.IsWhole)
    (x0 : Vec F S2x1x512 .f32) (x1 : Vec F S2x1x512 .f32) (x2 : Vec F S1x1024x512 .bf16) (x3 : Vec F S1x4096x128 .bf16) (x4 : Vec F S1x4096x128 .bf16) (xr : Vec F S32x128x128 .bf16) :
    { L5 : List (View.Piece (Elt F) S1x1024x512 .bf16) //
      ∀ (xs : Vec F S32x128x128 .bf16) (hxs : scr i x4 xs = xr) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xr) -∗ K ⟨⟩))
          ⊢ wp frame (wpE (defs₀ (F := F)) Variants.none c none) E (cc0_swa i arg2 harg2 arg3 harg3 arg4 harg4 arg5 harg5 arg6 harg6 arg7 harg7 arg8 harg8) K } := by
  refine ⟨?_, fun xs hxs E K => ?run⟩
  case run =>
    simp only [cc0_swa_eq_skeleton]; unfold cc0_swa_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    rw [part9_eq]

    rw [wp_bind, wp_bind]
    iapply (fill_run c i arg2 harg2 arg3 harg3 arg4 harg4 arg5 harg5 arg6 harg6 arg7 harg7 arg8 harg8 x4 xs)
    isplitl [H4]; · iexact H4
    isplitl [HS]; · iexact HS
    rw [hxs]
    iintro ⟨H4, HS⟩
    unfold afterFill
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS

end Cert.Kernel6Ideal.Swa

end
-- ==== Proof.Swa.Frame.lean ====
/-
  The sliding-window attention's launch: every point's body, the transposed values carried in the scratch from a batch's
  first tile to its others.
-/
module

public import proofs.«01_k».proof.Proof.Gen.Kernel6Ideal.Frame
public import proofs.«01_k».proof.Proof.Gen.Kernel6Ideal.Skeleton
public import proofs.«01_k».proof.Proof.Swa.Run
public import Idealize.ShloMosaic.Lib.Claim
public import Idealize.ShloMosaic.Lib.Pipeline.ValueKit
public import Idealize.ShloMosaic.Lib.WholeRead

@[expose] public section

set_option maxRecDepth 16384

noncomputable section

namespace Cert.Kernel6Ideal.Swa

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pieces cover the output's block. -/
theorem run_cover (c : Dev nD) (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x1024x512 .bf16) (harg7 : arg7.IsWhole) (arg8 : Memref sig .tc .vmem S32x128x128 .bf16) (harg8 : arg8.IsWhole)
    (x0 : Vec F S2x1x512 .f32) (x1 : Vec F S2x1x512 .f32) (x2 : Vec F S1x1024x512 .bf16) (x3 : Vec F S1x4096x128 .bf16) (x4 : Vec F S1x4096x128 .bf16) (xr : Vec F S32x128x128 .bf16) (y : S1x1024x512.Idx) :
    ∃ p ∈ (run c i arg2 harg2 arg3 harg3 arg4 harg4 arg5 harg5 arg6 harg6 arg7 harg7 arg8 harg8 x0 x1 x2 x3 x4 xr).1, y ∈ p.1.set :=
  View.cover_of_tiledL (run c i arg2 harg2 arg3 harg3 arg4 harg4 arg5 harg5 arg6 harg6 arg7 harg7 arg8 harg8 x0 x1 x2 x3 x4 xr).1 S1x128x512.size (by sl_kernel_rfl) y

/-- The first point of the batch of point `n`. -/
def firstOf (n : ℕ) : Fin cfg0.N := ⟨4 * (n / 4) % 32, by rw [show cfg0.N = 32 from N_0]; omega⟩

/-- What the scratch holds after point `n`: the transposed values of its batch. -/
noncomputable def held (c : Dev nD) (n : ℕ) : Vec F S32x128x128 .bf16 := vt (iblk m c 4 (firstOf n))

/-- What the body leaves in the output's buffer at point `t`. -/
noncomputable def outAt (c : Dev nD) (t : Fin cfg0.N) : Vec F S1x1024x512 .bf16 :=
  View.canon (run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (iblk m c 0 t) (iblk m c 1 t) (X0_2 m c t) (iblk m c 3 t) (iblk m c 4 t) (held m c t.val)).1

/-- The scratch between the points: at anything before the first, then at its batch's transposed values. -/
def PhiS (c : Dev nD) : (n : ℕ) → n ≤ cfg0.N → sProp 𝕄
  | 0, _ => Pipeline.ΦA spec0 c
  | n + 1, _ => iprop(owns (c : Thread nD τ) (Memref.whole cc0_scratch0) fullShare (held m c n) ∗ (∃ r, prngReg c r))

/-- Before the first point. -/
theorem PhiS_zero (c : Dev nD) (n : ℕ) (h : n ≤ cfg0.N) (hz : n = 0) : PhiS m c n h = Pipeline.ΦA spec0 c := by
  subst hz; rfl

/-- Before any other. -/
theorem PhiS_pos (c : Dev nD) (n : ℕ) (h : n ≤ cfg0.N) (hz : n ≠ 0) :
    PhiS m c n h = iprop(owns (c : Thread nD τ) (Memref.whole cc0_scratch0) fullShare (held m c (n - 1)) ∗ (∃ r, prngReg c r)) := by
  cases n with
  | zero => exact absurd rfl hz
  | succ n => rfl

/-- The scratch and the generator's register, each at something, are the class's invariant. -/
theorem PhiA_eq (c : Dev nD) :
    (Pipeline.ΦA spec0 c : sProp 𝕄)
      = iprop((∃ d, owns (c : Thread nD τ) (Memref.whole cc0_scratch0 : Memref sig .tc .vmem S32x128x128 .bf16) fullShare d) ∗ (∃ r, prngReg c r)) := by
  unfold Pipeline.ΦA; rw [scopedRest0_eq]; simp only [owns_whole]; try rfl

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => outAt m c t
  Φ t := PhiS m c t.val (Nat.le_of_lt_succ t.isLt)
  q w := Pipeline.shareOf spec0 w
  owed _ := 0

/-- Its arrays are what the region finds. -/
theorem A_eq (c : Dev nD) (w : Fin cfg0.W) : (dats m 0 c).A w = V m c (Pipeline.arrRef spec0 w) := by
  dsimp only [dats]

/-- The scratch's state before a point is the one after the point before. -/
theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0's buffer holds after the body. -/
theorem after_0 (c : Dev nD) (t : Fin cfg0.N) : (dats m 0 c).after 0 t = iblk m c 0 t := by dsimp only [dats]
/-- What window 1's buffer holds after the body. -/
theorem after_1 (c : Dev nD) (t : Fin cfg0.N) : (dats m 0 c).after 1 t = iblk m c 1 t := by dsimp only [dats]
/-- What window 2's buffer holds after the body. -/
theorem after_2 (c : Dev nD) (t : Fin cfg0.N) : (dats m 0 c).after 2 t = X0_2 m c t := by dsimp only [dats]
/-- What window 3's buffer holds after the body. -/
theorem after_3 (c : Dev nD) (t : Fin cfg0.N) : (dats m 0 c).after 3 t = iblk m c 3 t := by dsimp only [dats]
/-- What window 4's buffer holds after the body. -/
theorem after_4 (c : Dev nD) (t : Fin cfg0.N) : (dats m 0 c).after 4 t = iblk m c 4 t := by dsimp only [dats]
/-- What window 5's buffer holds after the body. -/
theorem after_5 (c : Dev nD) (t : Fin cfg0.N) : (dats m 0 c).after 5 t = outAt m c t := by dsimp only [dats]
/-- What window 0's buffer holds before the body. -/
theorem before_0 (c : Dev nD) (t : Fin cfg0.N) (d) : (dats m 0 c).before 0 t d = iblk m c 0 t :=
  before0_0_of m (dats m 0 c) (A_eq m c 0) (after_0 m c) t d
/-- What window 1's buffer holds before the body. -/
theorem before_1 (c : Dev nD) (t : Fin cfg0.N) (d) : (dats m 0 c).before 1 t d = iblk m c 1 t :=
  before0_1_of m (dats m 0 c) (A_eq m c 1) (after_1 m c) t d
/-- What window 2's buffer holds before the body. -/
theorem before_2 (c : Dev nD) (t : Fin cfg0.N) (d) : (dats m 0 c).before 2 t d = X0_2 m c t :=
  before0_2_of m (dats m 0 c) (A_eq m c 2) (after_2 m c) t d
/-- What window 3's buffer holds before the body. -/
theorem before_3 (c : Dev nD) (t : Fin cfg0.N) (d) : (dats m 0 c).before 3 t d = iblk m c 3 t :=
  before0_3_of m (dats m 0 c) (A_eq m c 3) (after_3 m c) t d
/-- What window 4's buffer holds before the body. -/
theorem before_4 (c : Dev nD) (t : Fin cfg0.N) (d) : (dats m 0 c).before 4 t d = iblk m c 4 t :=
  before0_4_of m (dats m 0 c) (A_eq m c 4) (after_4 m c) t d

/-- What the body is called with, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
/-- The body at a point, the scratch found at `xs`. -/
theorem sound_at (c : Dev nD) (t : Fin cfg0.N) (xs : Vec F S32x128x128 .bf16) (hxs : scr (grid0.coords t) (iblk m c 4 t) xs = held m c t.val) :
    iprop(owns (c : Thread nD τ) (Memref.whole cc0_scratch0) fullShare xs ∗ (∃ r, prngReg c r) ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
      ⊢ wp frame (wpE (defs₀ (F := F)) Variants.none c none) Set.univ (bodyAt0 t) (fun _ => bodyPost m c t) := by
  unfold bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = iprop(owns (c : Thread nD τ) (Memref.whole cc0_scratch0) fullShare (held m c t.val) ∗ (∃ r, prngReg c r)) from rfl]
  unfold outAt
  iintro ⟨HS, Hg, Ho, ⟨%d0, H0⟩, ⟨%d1, H1⟩, ⟨%d2, H2⟩, ⟨%d3, H3⟩, ⟨%d4, H4⟩, ⟨%d5, H5⟩⟩
  iapply ((run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (iblk m c 0 t) (iblk m c 1 t) (X0_2 m c t) (iblk m c 3 t) (iblk m c 4 t) (held m c t.val)).2 xs hxs Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%f, H5⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  unfold owns
  iexists ((st0_5 t).view.writes (Elt F) f (run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (iblk m c 0 t) (iblk m c 1 t) (X0_2 m c t) (iblk m c 3 t) (iblk m c 4 t) (held m c t.val)).1); isplitr
  · ipureintro
    exact View.read_writes_eq_canon (st0_5 t).view f _ (run_cover c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (iblk m c 0 t) (iblk m c 1 t) (X0_2 m c t) (iblk m c 3 t) (iblk m c 4 t) (held m c t.val))
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hfirst : t.val % 4 = 0 → ∀ xs, scr (grid0.coords t) (iblk m c 4 t) xs = held m c t.val := fun h xs => by
    unfold scr held
    rw [if_pos ((atFirst_iff t).mpr h)]
    rw [show firstOf t.val = t from Fin.ext (by show 4 * (t.val / 4) % 32 = t.val; omega)]
  unfold bodyPre
  rw [Phi_castSucc m c t]
  by_cases hz : t.val = 0
  · rw [show PhiS m c t.val (Nat.le_of_lt t.isLt) = _ from PhiS_zero m c _ _ hz, PhiA_eq]
    iintro ⟨⟨⟨%xs, HS⟩, Hg⟩, Hr⟩
    iapply (sound_at m c t xs (hfirst (by omega) xs))
    isplitl [HS]; · iexact HS
    isplitl [Hg]; · iexact Hg
    iexact Hr
  · rw [show PhiS m c t.val (Nat.le_of_lt t.isLt) = _ from PhiS_pos m c _ _ hz]
    iintro ⟨⟨HS, Hg⟩, Hr⟩
    iapply (sound_at m c t (held m c (t.val - 1)) ?hx)
    case hx =>
      by_cases h : t.val % 4 = 0
      · exact hfirst h _
      · unfold scr
        rw [if_neg (fun h' => h ((atFirst_iff t).mp h'))]
        unfold held
        rw [show firstOf (t.val - 1) = firstOf t.val from Fin.ext (by show 4 * ((t.val - 1) / 4) % 32 = 4 * (t.val / 4) % 32; omega)]
    isplitl [HS]; · iexact HS
    isplitl [Hg]; · iexact Hg
    iexact Hr

/-- The body table's row at a point is the body there. -/
theorem row_eq (t : Fin cfg0.N) :
    defs₀ (F := F) .tc cfg0.body (cfg0.bodyArgs t (cfg0.slots t)) = bodyAt0 t := by
  unfold defs₀; rw [Defs.onTc_tc]

/-- The pipeline's obligation on the body. -/
theorem body_ok (c : Dev nD) : BodyObligation (dats (F := F) m 0 c) (defs₀ (F := F)) Variants.none () Set.univ := fun t => by
  rw [bigSep_W0, bigSep_W0, row_eq]
  exact triple_restated (sound_body m c t) rfl .rfl fun _ => .rfl

/-- After the last point the scratch is forgotten. -/
theorem Phi_last (c : Dev nD) : (dats m 0 c).Φ (Fin.last cfg0.N) ⊢ (Pipeline.ΦA spec0 c : sProp 𝕄) := by
  rw [show (dats m 0 c).Φ (Fin.last cfg0.N) = _ from PhiS_pos m c (Fin.last cfg0.N).val (Nat.le_of_lt_succ (Fin.last cfg0.N).isLt)
    (by rw [show (Fin.last cfg0.N).val = 32 from N_0]; decide), PhiA_eq]
  iintro ⟨HS, Hg⟩
  isplitl [HS]; · iexists _; iexact HS
  iexact Hg

set_option backward.isDefEq.respectTransparency.types false in
set_option maxHeartbeats 800000 in
/-- The launch, with every counter at zero at the end. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := A_eq m)
    (hin := fun c => .rfl) (hout := fun c => Phi_last m c)

/-- The launch. -/
theorem run_main : θ_run defs (onTc (τ := τ) (main (F := F))) (s₀ m ρ) (Pipeline.FramePost cfgs (dats m) 0 (V m)) :=
  (θ_run defs _ _).mono (fun _ h => h.1) (run_quiet m ρ)

/-- The sliding-window program's frame: the argument arrays end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.Kernel6Ideal.Swa

end
-- ==== Proof.Swa.Pieces.lean ====
/-
  The pieces the sliding-window attention's body stores: each the same function of its block of queries and of the keys
  and values of that block and of the one before.
-/
module

public import proofs.«01_k».proof.Proof.Gen.Kernel6Ideal.Frame
public import proofs.«01_k».proof.Proof.Gen.Kernel6Ideal.Skeleton
public import proofs.«01_k».proof.Proof.Swa.Run
public import Idealize.ShloMosaic.Lib.Claim
public import Idealize.ShloMosaic.Lib.Pipeline.ValueKit
public import Idealize.ShloMosaic.Lib.WholeRead

@[expose] public section

set_option maxRecDepth 16384

noncomputable section

namespace Cert.Kernel6Ideal.Swa

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The scores of the first four heads against a block of keys. -/
def sA (q : Vec F S1x128x512 .bf16) (k : Vec F S1x128x128 .bf16) : FVec F S128x512 .f32 := k0_pay44 k0_pay38 k q

/-- The scores of the last four heads. -/
def sB (q : Vec F S1x128x512 .bf16) (k : Vec F S1x128x128 .bf16) : FVec F S128x512 .f32 := k0_pay47 k0_pay38 k q

/-- The weights' sum, from the scores against the block's own keys and the previous block's. -/
def den (sl sk : Vec F S1x1x512 .f32) (sc sp : FVec F S128x512 .f32) (b : BitVec 32) : FVec F S1x512 .f32 :=
  k0_pay123 (k0_pay113 sk) (k0_pay115 k0_pay35 k0_pay36 sc sl) (k0_pay116 k0_pay37 b) (k0_pay117 k0_pay35 sp sl) (k0_pay118 sl)

/-- The weights of the block's own keys. -/
def wC (sl sk : Vec F S1x1x512 .f32) (sc sp : FVec F S128x512 .f32) (b : BitVec 32) : FVec F S128x512 .bf16 :=
  k0_pay124 (k0_pay113 sk) (k0_pay115 k0_pay35 k0_pay36 sc sl) (k0_pay116 k0_pay37 b) (k0_pay117 k0_pay35 sp sl) (k0_pay118 sl)

/-- The weights of the previous block's keys. -/
def wP (sl sk : Vec F S1x1x512 .f32) (sc sp : FVec F S128x512 .f32) (b : BitVec 32) : FVec F S128x512 .bf16 :=
  k0_pay125 (k0_pay113 sk) (k0_pay115 k0_pay35 k0_pay36 sc sl) (k0_pay116 k0_pay37 b) (k0_pay117 k0_pay35 sp sl) (k0_pay118 sl)

/-- The first four heads' results, transposed. -/
def oA (sl sk : Vec F S1x1x512 .f32) (q : Vec F S1x128x512 .bf16) (kc kp vc vp : Vec F S1x128x128 .bf16) (b : BitVec 32) : FVec F S64x512 .f32 :=
  k0_pay328 (den sl sk (sA q kc) (sA q kp) b) (wC sl sk (sA q kc) (sA q kp) b) (wP sl sk (sA q kc) (sA q kp) b) vc vp

/-- The last four heads' results, transposed. -/
def oB (sl sk : Vec F S1x1x512 .f32) (q : Vec F S1x128x512 .bf16) (kc kp vc vp : Vec F S1x128x128 .bf16) (b : BitVec 32) : FVec F S64x512 .f32 :=
  k0_pay329 (den sl sk (sB q kc) (sB q kp) b) (wC sl sk (sB q kc) (sB q kp) b) (wP sl sk (sB q kc) (sB q kp) b) vc vp

/-- A block of the output. -/
def blkOut (sl0 sl1 sk0 sk1 : Vec F S1x1x512 .f32) (q : Vec F S1x128x512 .bf16) (kc kp vc vp : Vec F S1x128x128 .bf16) (b : BitVec 32) : FVec F S1x128x512 .bf16 :=
  k0_pay1 (oA sl0 sk0 q kc kp vc vp b) (oB sl1 sk1 q kc kp vc vp b)

/-- Block `r` of a tile's number. -/
def blkNo (i : grid0.Coords) (r : Fin 8) : BitVec 32 :=
  Scalar.addi (Scalar.muli (BitVec.ofNat 32 (i 1).val) 8#32) (BitVec.ofNat 32 r.val)

set_option maxHeartbeats 4000000 in
/-- Block 0's piece. -/
theorem piece0 (c : Dev nD) (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg8 : Memref sig .tc .vmem S32x128x128 .bf16) (harg8 : arg8.IsWhole)
    (x0 : Vec F S2x1x512 .f32) (x1 : Vec F S2x1x512 .f32) (x2 : Vec F S1x1024x512 .bf16) (x3 : Vec F S1x4096x128 .bf16) (xr : Vec F S32x128x128 .bf16) :
    run.sl.v1335 c i arg2 harg2 arg3 harg3 arg4 harg4 arg5 harg5 arg8 harg8 x0 x1 x2 x3 xr
      = blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 0, 0] S1x128x512.size inb_S1x1024x512_S1x128x512_0_0_0).toLoadRect (harg4.unread x2)) (arg5.view.readAt (Elt F) (Rect.unit (s := S1x4096x128) (k0_off1 i 0#32) S1x128x128.size (k0_off1_inb i 0)).toLoadRect (harg5.unread x3)) (arg5.view.readAt (Elt F) (Rect.unit (s := S1x4096x128) (k0_off2 i 0#32) S1x128x128.size (k0_off2_inb i 0)).toLoadRect (harg5.unread x3)) (arg8.view.readAt (Elt F) (Rect.unit (s := S32x128x128) (k0_off3 i 0#32) S1x128x128.size (k0_off3_inb i 0)).toLoadRect (harg8.unread xr)) (arg8.view.readAt (Elt F) (Rect.unit (s := S32x128x128) (k0_off4 i 0#32) S1x128x128.size (k0_off4_inb i 0)).toLoadRect (harg8.unread xr)) (blkNo i 0) := rfl

set_option maxHeartbeats 4000000 in
/-- Block 1's piece. -/
theorem piece1 (c : Dev nD) (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg8 : Memref sig .tc .vmem S32x128x128 .bf16) (harg8 : arg8.IsWhole)
    (x0 : Vec F S2x1x512 .f32) (x1 : Vec F S2x1x512 .f32) (x2 : Vec F S1x1024x512 .bf16) (x3 : Vec F S1x4096x128 .bf16) (xr : Vec F S32x128x128 .bf16) :
    run.sl.v1349 c i arg2 harg2 arg3 harg3 arg4 harg4 arg5 harg5 arg8 harg8 x0 x1 x2 x3 xr
      = blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 128, 0] S1x128x512.size inb_S1x1024x512_S1x128x512_0_128_0).toLoadRect (harg4.unread x2)) (arg5.view.readAt (Elt F) (Rect.unit (s := S1x4096x128) (k0_off1 i 1#32) S1x128x128.size (k0_off1_inb i 1)).toLoadRect (harg5.unread x3)) (arg5.view.readAt (Elt F) (Rect.unit (s := S1x4096x128) (k0_off2 i 1#32) S1x128x128.size (k0_off2_inb i 1)).toLoadRect (harg5.unread x3)) (arg8.view.readAt (Elt F) (Rect.unit (s := S32x128x128) (k0_off3 i 1#32) S1x128x128.size (k0_off3_inb i 1)).toLoadRect (harg8.unread xr)) (arg8.view.readAt (Elt F) (Rect.unit (s := S32x128x128) (k0_off4 i 1#32) S1x128x128.size (k0_off4_inb i 1)).toLoadRect (harg8.unread xr)) (blkNo i 1) := rfl

set_option maxHeartbeats 4000000 in
/-- Block 2's piece. -/
theorem piece2 (c : Dev nD) (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg8 : Memref sig .tc .vmem S32x128x128 .bf16) (harg8 : arg8.IsWhole)
    (x0 : Vec F S2x1x512 .f32) (x1 : Vec F S2x1x512 .f32) (x2 : Vec F S1x1024x512 .bf16) (x3 : Vec F S1x4096x128 .bf16) (xr : Vec F S32x128x128 .bf16) :
    run.sl.v1363 c i arg2 harg2 arg3 harg3 arg4 harg4 arg5 harg5 arg8 harg8 x0 x1 x2 x3 xr
      = blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 256, 0] S1x128x512.size inb_S1x1024x512_S1x128x512_0_256_0).toLoadRect (harg4.unread x2)) (arg5.view.readAt (Elt F) (Rect.unit (s := S1x4096x128) (k0_off1 i 2#32) S1x128x128.size (k0_off1_inb i 2)).toLoadRect (harg5.unread x3)) (arg5.view.readAt (Elt F) (Rect.unit (s := S1x4096x128) (k0_off2 i 2#32) S1x128x128.size (k0_off2_inb i 2)).toLoadRect (harg5.unread x3)) (arg8.view.readAt (Elt F) (Rect.unit (s := S32x128x128) (k0_off3 i 2#32) S1x128x128.size (k0_off3_inb i 2)).toLoadRect (harg8.unread xr)) (arg8.view.readAt (Elt F) (Rect.unit (s := S32x128x128) (k0_off4 i 2#32) S1x128x128.size (k0_off4_inb i 2)).toLoadRect (harg8.unread xr)) (blkNo i 2) := rfl

set_option maxHeartbeats 4000000 in
/-- Block 3's piece. -/
theorem piece3 (c : Dev nD) (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg8 : Memref sig .tc .vmem S32x128x128 .bf16) (harg8 : arg8.IsWhole)
    (x0 : Vec F S2x1x512 .f32) (x1 : Vec F S2x1x512 .f32) (x2 : Vec F S1x1024x512 .bf16) (x3 : Vec F S1x4096x128 .bf16) (xr : Vec F S32x128x128 .bf16) :
    run.sl.v1377 c i arg2 harg2 arg3 harg3 arg4 harg4 arg5 harg5 arg8 harg8 x0 x1 x2 x3 xr
      = blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 384, 0] S1x128x512.size inb_S1x1024x512_S1x128x512_0_384_0).toLoadRect (harg4.unread x2)) (arg5.view.readAt (Elt F) (Rect.unit (s := S1x4096x128) (k0_off1 i 3#32) S1x128x128.size (k0_off1_inb i 3)).toLoadRect (harg5.unread x3)) (arg5.view.readAt (Elt F) (Rect.unit (s := S1x4096x128) (k0_off2 i 3#32) S1x128x128.size (k0_off2_inb i 3)).toLoadRect (harg5.unread x3)) (arg8.view.readAt (Elt F) (Rect.unit (s := S32x128x128) (k0_off3 i 3#32) S1x128x128.size (k0_off3_inb i 3)).toLoadRect (harg8.unread xr)) (arg8.view.readAt (Elt F) (Rect.unit (s := S32x128x128) (k0_off4 i 3#32) S1x128x128.size (k0_off4_inb i 3)).toLoadRect (harg8.unread xr)) (blkNo i 3) := rfl

set_option maxHeartbeats 4000000 in
/-- Block 4's piece. -/
theorem piece4 (c : Dev nD) (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg8 : Memref sig .tc .vmem S32x128x128 .bf16) (harg8 : arg8.IsWhole)
    (x0 : Vec F S2x1x512 .f32) (x1 : Vec F S2x1x512 .f32) (x2 : Vec F S1x1024x512 .bf16) (x3 : Vec F S1x4096x128 .bf16) (xr : Vec F S32x128x128 .bf16) :
    run.sl.v1391 c i arg2 harg2 arg3 harg3 arg4 harg4 arg5 harg5 arg8 harg8 x0 x1 x2 x3 xr
      = blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 512, 0] S1x128x512.size inb_S1x1024x512_S1x128x512_0_512_0).toLoadRect (harg4.unread x2)) (arg5.view.readAt (Elt F) (Rect.unit (s := S1x4096x128) (k0_off1 i 4#32) S1x128x128.size (k0_off1_inb i 4)).toLoadRect (harg5.unread x3)) (arg5.view.readAt (Elt F) (Rect.unit (s := S1x4096x128) (k0_off2 i 4#32) S1x128x128.size (k0_off2_inb i 4)).toLoadRect (harg5.unread x3)) (arg8.view.readAt (Elt F) (Rect.unit (s := S32x128x128) (k0_off3 i 4#32) S1x128x128.size (k0_off3_inb i 4)).toLoadRect (harg8.unread xr)) (arg8.view.readAt (Elt F) (Rect.unit (s := S32x128x128) (k0_off4 i 4#32) S1x128x128.size (k0_off4_inb i 4)).toLoadRect (harg8.unread xr)) (blkNo i 4) := rfl

set_option maxHeartbeats 4000000 in
/-- Block 5's piece. -/
theorem piece5 (c : Dev nD) (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg8 : Memref sig .tc .vmem S32x128x128 .bf16) (harg8 : arg8.IsWhole)
    (x0 : Vec F S2x1x512 .f32) (x1 : Vec F S2x1x512 .f32) (x2 : Vec F S1x1024x512 .bf16) (x3 : Vec F S1x4096x128 .bf16) (xr : Vec F S32x128x128 .bf16) :
    run.sl.v1405 c i arg2 harg2 arg3 harg3 arg4 harg4 arg5 harg5 arg8 harg8 x0 x1 x2 x3 xr
      = blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 640, 0] S1x128x512.size inb_S1x1024x512_S1x128x512_0_640_0).toLoadRect (harg4.unread x2)) (arg5.view.readAt (Elt F) (Rect.unit (s := S1x4096x128) (k0_off1 i 5#32) S1x128x128.size (k0_off1_inb i 5)).toLoadRect (harg5.unread x3)) (arg5.view.readAt (Elt F) (Rect.unit (s := S1x4096x128) (k0_off2 i 5#32) S1x128x128.size (k0_off2_inb i 5)).toLoadRect (harg5.unread x3)) (arg8.view.readAt (Elt F) (Rect.unit (s := S32x128x128) (k0_off3 i 5#32) S1x128x128.size (k0_off3_inb i 5)).toLoadRect (harg8.unread xr)) (arg8.view.readAt (Elt F) (Rect.unit (s := S32x128x128) (k0_off4 i 5#32) S1x128x128.size (k0_off4_inb i 5)).toLoadRect (harg8.unread xr)) (blkNo i 5) := rfl

set_option maxHeartbeats 4000000 in
/-- Block 6's piece. -/
theorem piece6 (c : Dev nD) (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg8 : Memref sig .tc .vmem S32x128x128 .bf16) (harg8 : arg8.IsWhole)
    (x0 : Vec F S2x1x512 .f32) (x1 : Vec F S2x1x512 .f32) (x2 : Vec F S1x1024x512 .bf16) (x3 : Vec F S1x4096x128 .bf16) (xr : Vec F S32x128x128 .bf16) :
    run.sl.v1419 c i arg2 harg2 arg3 harg3 arg4 harg4 arg5 harg5 arg8 harg8 x0 x1 x2 x3 xr
      = blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 768, 0] S1x128x512.size inb_S1x1024x512_S1x128x512_0_768_0).toLoadRect (harg4.unread x2)) (arg5.view.readAt (Elt F) (Rect.unit (s := S1x4096x128) (k0_off1 i 6#32) S1x128x128.size (k0_off1_inb i 6)).toLoadRect (harg5.unread x3)) (arg5.view.readAt (Elt F) (Rect.unit (s := S1x4096x128) (k0_off2 i 6#32) S1x128x128.size (k0_off2_inb i 6)).toLoadRect (harg5.unread x3)) (arg8.view.readAt (Elt F) (Rect.unit (s := S32x128x128) (k0_off3 i 6#32) S1x128x128.size (k0_off3_inb i 6)).toLoadRect (harg8.unread xr)) (arg8.view.readAt (Elt F) (Rect.unit (s := S32x128x128) (k0_off4 i 6#32) S1x128x128.size (k0_off4_inb i 6)).toLoadRect (harg8.unread xr)) (blkNo i 6) := rfl

set_option maxHeartbeats 4000000 in
/-- Block 7's piece. -/
theorem piece7 (c : Dev nD) (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg8 : Memref sig .tc .vmem S32x128x128 .bf16) (harg8 : arg8.IsWhole)
    (x0 : Vec F S2x1x512 .f32) (x1 : Vec F S2x1x512 .f32) (x2 : Vec F S1x1024x512 .bf16) (x3 : Vec F S1x4096x128 .bf16) (xr : Vec F S32x128x128 .bf16) :
    k0_pay1 (run.sl.v1306 c i arg2 harg2 arg3 harg3 arg4 harg4 arg5 harg5 arg8 harg8 x0 x1 x2 x3 xr) (run.sl.v1321 c i arg2 harg2 arg3 harg3 arg4 harg4 arg5 harg5 arg8 harg8 x0 x1 x2 x3 xr)
      = blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 896, 0] S1x128x512.size inb_S1x1024x512_S1x128x512_0_896_0).toLoadRect (harg4.unread x2)) (arg5.view.readAt (Elt F) (Rect.unit (s := S1x4096x128) (k0_off1 i 7#32) S1x128x128.size (k0_off1_inb i 7)).toLoadRect (harg5.unread x3)) (arg5.view.readAt (Elt F) (Rect.unit (s := S1x4096x128) (k0_off2 i 7#32) S1x128x128.size (k0_off2_inb i 7)).toLoadRect (harg5.unread x3)) (arg8.view.readAt (Elt F) (Rect.unit (s := S32x128x128) (k0_off3 i 7#32) S1x128x128.size (k0_off3_inb i 7)).toLoadRect (harg8.unread xr)) (arg8.view.readAt (Elt F) (Rect.unit (s := S32x128x128) (k0_off4 i 7#32) S1x128x128.size (k0_off4_inb i 7)).toLoadRect (harg8.unread xr)) (blkNo i 7) := rfl

set_option maxHeartbeats 4000000 in
/-- The pieces, last stored first. -/
theorem pieces (c : Dev nD) (i : grid0.Coords) (arg2 : Memref sig .tc .vmem S2x1x512 .f32) (harg2 : arg2.IsWhole) (arg3 : Memref sig .tc .vmem S2x1x512 .f32) (harg3 : arg3.IsWhole) (arg4 : Memref sig .tc .vmem S1x1024x512 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x1024x512 .bf16) (harg7 : arg7.IsWhole) (arg8 : Memref sig .tc .vmem S32x128x128 .bf16) (harg8 : arg8.IsWhole)
    (x0 : Vec F S2x1x512 .f32) (x1 : Vec F S2x1x512 .f32) (x2 : Vec F S1x1024x512 .bf16) (x3 : Vec F S1x4096x128 .bf16) (x4 : Vec F S1x4096x128 .bf16) (xr : Vec F S32x128x128 .bf16) :
    (run c i arg2 harg2 arg3 harg3 arg4 harg4 arg5 harg5 arg6 harg6 arg7 harg7 arg8 harg8 x0 x1 x2 x3 x4 xr).1 = [
      ⟨Rect.unit (s := S1x1024x512) ![0, 896, 0] S1x128x512.size inb_S1x1024x512_S1x128x512_0_896_0, blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 896, 0] S1x128x512.size inb_S1x1024x512_S1x128x512_0_896_0).toLoadRect (harg4.unread x2)) (arg5.view.readAt (Elt F) (Rect.unit (s := S1x4096x128) (k0_off1 i 7#32) S1x128x128.size (k0_off1_inb i 7)).toLoadRect (harg5.unread x3)) (arg5.view.readAt (Elt F) (Rect.unit (s := S1x4096x128) (k0_off2 i 7#32) S1x128x128.size (k0_off2_inb i 7)).toLoadRect (harg5.unread x3)) (arg8.view.readAt (Elt F) (Rect.unit (s := S32x128x128) (k0_off3 i 7#32) S1x128x128.size (k0_off3_inb i 7)).toLoadRect (harg8.unread xr)) (arg8.view.readAt (Elt F) (Rect.unit (s := S32x128x128) (k0_off4 i 7#32) S1x128x128.size (k0_off4_inb i 7)).toLoadRect (harg8.unread xr)) (blkNo i 7)⟩,
      ⟨Rect.unit (s := S1x1024x512) ![0, 768, 0] S1x128x512.size inb_S1x1024x512_S1x128x512_0_768_0, blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 768, 0] S1x128x512.size inb_S1x1024x512_S1x128x512_0_768_0).toLoadRect (harg4.unread x2)) (arg5.view.readAt (Elt F) (Rect.unit (s := S1x4096x128) (k0_off1 i 6#32) S1x128x128.size (k0_off1_inb i 6)).toLoadRect (harg5.unread x3)) (arg5.view.readAt (Elt F) (Rect.unit (s := S1x4096x128) (k0_off2 i 6#32) S1x128x128.size (k0_off2_inb i 6)).toLoadRect (harg5.unread x3)) (arg8.view.readAt (Elt F) (Rect.unit (s := S32x128x128) (k0_off3 i 6#32) S1x128x128.size (k0_off3_inb i 6)).toLoadRect (harg8.unread xr)) (arg8.view.readAt (Elt F) (Rect.unit (s := S32x128x128) (k0_off4 i 6#32) S1x128x128.size (k0_off4_inb i 6)).toLoadRect (harg8.unread xr)) (blkNo i 6)⟩,
      ⟨Rect.unit (s := S1x1024x512) ![0, 640, 0] S1x128x512.size inb_S1x1024x512_S1x128x512_0_640_0, blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 640, 0] S1x128x512.size inb_S1x1024x512_S1x128x512_0_640_0).toLoadRect (harg4.unread x2)) (arg5.view.readAt (Elt F) (Rect.unit (s := S1x4096x128) (k0_off1 i 5#32) S1x128x128.size (k0_off1_inb i 5)).toLoadRect (harg5.unread x3)) (arg5.view.readAt (Elt F) (Rect.unit (s := S1x4096x128) (k0_off2 i 5#32) S1x128x128.size (k0_off2_inb i 5)).toLoadRect (harg5.unread x3)) (arg8.view.readAt (Elt F) (Rect.unit (s := S32x128x128) (k0_off3 i 5#32) S1x128x128.size (k0_off3_inb i 5)).toLoadRect (harg8.unread xr)) (arg8.view.readAt (Elt F) (Rect.unit (s := S32x128x128) (k0_off4 i 5#32) S1x128x128.size (k0_off4_inb i 5)).toLoadRect (harg8.unread xr)) (blkNo i 5)⟩,
      ⟨Rect.unit (s := S1x1024x512) ![0, 512, 0] S1x128x512.size inb_S1x1024x512_S1x128x512_0_512_0, blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 512, 0] S1x128x512.size inb_S1x1024x512_S1x128x512_0_512_0).toLoadRect (harg4.unread x2)) (arg5.view.readAt (Elt F) (Rect.unit (s := S1x4096x128) (k0_off1 i 4#32) S1x128x128.size (k0_off1_inb i 4)).toLoadRect (harg5.unread x3)) (arg5.view.readAt (Elt F) (Rect.unit (s := S1x4096x128) (k0_off2 i 4#32) S1x128x128.size (k0_off2_inb i 4)).toLoadRect (harg5.unread x3)) (arg8.view.readAt (Elt F) (Rect.unit (s := S32x128x128) (k0_off3 i 4#32) S1x128x128.size (k0_off3_inb i 4)).toLoadRect (harg8.unread xr)) (arg8.view.readAt (Elt F) (Rect.unit (s := S32x128x128) (k0_off4 i 4#32) S1x128x128.size (k0_off4_inb i 4)).toLoadRect (harg8.unread xr)) (blkNo i 4)⟩,
      ⟨Rect.unit (s := S1x1024x512) ![0, 384, 0] S1x128x512.size inb_S1x1024x512_S1x128x512_0_384_0, blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 384, 0] S1x128x512.size inb_S1x1024x512_S1x128x512_0_384_0).toLoadRect (harg4.unread x2)) (arg5.view.readAt (Elt F) (Rect.unit (s := S1x4096x128) (k0_off1 i 3#32) S1x128x128.size (k0_off1_inb i 3)).toLoadRect (harg5.unread x3)) (arg5.view.readAt (Elt F) (Rect.unit (s := S1x4096x128) (k0_off2 i 3#32) S1x128x128.size (k0_off2_inb i 3)).toLoadRect (harg5.unread x3)) (arg8.view.readAt (Elt F) (Rect.unit (s := S32x128x128) (k0_off3 i 3#32) S1x128x128.size (k0_off3_inb i 3)).toLoadRect (harg8.unread xr)) (arg8.view.readAt (Elt F) (Rect.unit (s := S32x128x128) (k0_off4 i 3#32) S1x128x128.size (k0_off4_inb i 3)).toLoadRect (harg8.unread xr)) (blkNo i 3)⟩,
      ⟨Rect.unit (s := S1x1024x512) ![0, 256, 0] S1x128x512.size inb_S1x1024x512_S1x128x512_0_256_0, blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 256, 0] S1x128x512.size inb_S1x1024x512_S1x128x512_0_256_0).toLoadRect (harg4.unread x2)) (arg5.view.readAt (Elt F) (Rect.unit (s := S1x4096x128) (k0_off1 i 2#32) S1x128x128.size (k0_off1_inb i 2)).toLoadRect (harg5.unread x3)) (arg5.view.readAt (Elt F) (Rect.unit (s := S1x4096x128) (k0_off2 i 2#32) S1x128x128.size (k0_off2_inb i 2)).toLoadRect (harg5.unread x3)) (arg8.view.readAt (Elt F) (Rect.unit (s := S32x128x128) (k0_off3 i 2#32) S1x128x128.size (k0_off3_inb i 2)).toLoadRect (harg8.unread xr)) (arg8.view.readAt (Elt F) (Rect.unit (s := S32x128x128) (k0_off4 i 2#32) S1x128x128.size (k0_off4_inb i 2)).toLoadRect (harg8.unread xr)) (blkNo i 2)⟩,
      ⟨Rect.unit (s := S1x1024x512) ![0, 128, 0] S1x128x512.size inb_S1x1024x512_S1x128x512_0_128_0, blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 128, 0] S1x128x512.size inb_S1x1024x512_S1x128x512_0_128_0).toLoadRect (harg4.unread x2)) (arg5.view.readAt (Elt F) (Rect.unit (s := S1x4096x128) (k0_off1 i 1#32) S1x128x128.size (k0_off1_inb i 1)).toLoadRect (harg5.unread x3)) (arg5.view.readAt (Elt F) (Rect.unit (s := S1x4096x128) (k0_off2 i 1#32) S1x128x128.size (k0_off2_inb i 1)).toLoadRect (harg5.unread x3)) (arg8.view.readAt (Elt F) (Rect.unit (s := S32x128x128) (k0_off3 i 1#32) S1x128x128.size (k0_off3_inb i 1)).toLoadRect (harg8.unread xr)) (arg8.view.readAt (Elt F) (Rect.unit (s := S32x128x128) (k0_off4 i 1#32) S1x128x128.size (k0_off4_inb i 1)).toLoadRect (harg8.unread xr)) (blkNo i 1)⟩,
      ⟨Rect.unit (s := S1x1024x512) ![0, 0, 0] S1x128x512.size inb_S1x1024x512_S1x128x512_0_0_0, blkOut (arg2.view.readAt (Elt F) (Rect.unit (s := S2x1x512) ![0, 0, 0] S1x1x512.size inb_S2x1x512_S1x1x512_0_0_0).toLoadRect (harg2.unread x0)) (arg2.view.readAt (Elt F) (Rect.unit (s := S2x1x512) ![1, 0, 0] S1x1x512.size inb_S2x1x512_S1x1x512_1_0_0).toLoadRect (harg2.unread x0)) (arg3.view.readAt (Elt F) (Rect.unit (s := S2x1x512) ![0, 0, 0] S1x1x512.size inb_S2x1x512_S1x1x512_0_0_0).toLoadRect (harg3.unread x1)) (arg3.view.readAt (Elt F) (Rect.unit (s := S2x1x512) ![1, 0, 0] S1x1x512.size inb_S2x1x512_S1x1x512_1_0_0).toLoadRect (harg3.unread x1)) (arg4.view.readAt (Elt F) (Rect.unit (s := S1x1024x512) ![0, 0, 0] S1x128x512.size inb_S1x1024x512_S1x128x512_0_0_0).toLoadRect (harg4.unread x2)) (arg5.view.readAt (Elt F) (Rect.unit (s := S1x4096x128) (k0_off1 i 0#32) S1x128x128.size (k0_off1_inb i 0)).toLoadRect (harg5.unread x3)) (arg5.view.readAt (Elt F) (Rect.unit (s := S1x4096x128) (k0_off2 i 0#32) S1x128x128.size (k0_off2_inb i 0)).toLoadRect (harg5.unread x3)) (arg8.view.readAt (Elt F) (Rect.unit (s := S32x128x128) (k0_off3 i 0#32) S1x128x128.size (k0_off3_inb i 0)).toLoadRect (harg8.unread xr)) (arg8.view.readAt (Elt F) (Rect.unit (s := S32x128x128) (k0_off4 i 0#32) S1x128x128.size (k0_off4_inb i 0)).toLoadRect (harg8.unread xr)) (blkNo i 0)⟩] := by
  delta run
  dsimp only
  rw [← piece0, ← piece1, ← piece2, ← piece3, ← piece4, ← piece5, ← piece6, ← piece7]

end Cert.Kernel6Ideal.Swa

end
-- ==== Proof.Swa.Spec.lean ====
/-
  Sliding-window attention of one query over the reals: its result from the scores, and the same result whatever number
  is taken off all the exponents.
-/
module

public import Idealize.ShloMosaic.Lib.Pointwise

@[expose] public section

set_option maxRecDepth 16384

noncomputable section

open Idealize.ShloMosaic
open scoped BigOperators

namespace Cert.SwaSpec

/-- The weight of key `k` of the query's own block: keys up to the query's own place count. -/
def wC (l : Fin 128 → ℝ) (μ : ℝ) (r k : Fin 128) : ℝ := if k.val ≤ r.val then Real.exp (l k - μ) else 0

/-- The weight of key `k` of the block before, if there is one: keys after the query's own place count. -/
def wP (l : Fin 128 → ℝ) (μ : ℝ) (has : Prop) [Decidable has] (r k : Fin 128) : ℝ :=
  if r.val < k.val ∧ has then Real.exp (l k - μ) else 0

/-- The weights' sum, the sink's with them. -/
def total (lc lp : Fin 128 → ℝ) (z μ : ℝ) (has : Prop) [Decidable has] (r : Fin 128) : ℝ :=
  (∑ k, wC lc μ r k) + (∑ k, wP lp μ has r k) + Real.exp (z - μ)

/-- The weighted sum of the values. -/
def mixed (lc lp vc vp : Fin 128 → ℝ) (μ : ℝ) (has : Prop) [Decidable has] (r : Fin 128) : ℝ :=
  (∑ k, vc k * wC lc μ r k) + ∑ k, vp k * wP lp μ has r k

/-- One query's result. -/
def attend (lc lp vc vp : Fin 128 → ℝ) (z : ℝ) (has : Prop) [Decidable has] (r : Fin 128) : ℝ :=
  mixed lc lp vc vp 0 has r / total lc lp z 0 has r

theorem wC_shift (l : Fin 128 → ℝ) (μ : ℝ) (r k : Fin 128) : wC l μ r k = wC l 0 r k * Real.exp (-μ) := by
  unfold wC
  split
  · rw [← Real.exp_add]; congr 1; ring
  · rw [zero_mul]

theorem wP_shift (l : Fin 128 → ℝ) (μ : ℝ) (has : Prop) [Decidable has] (r k : Fin 128) :
    wP l μ has r k = wP l 0 has r k * Real.exp (-μ) := by
  unfold wP
  split
  · rw [← Real.exp_add]; congr 1; ring
  · rw [zero_mul]

theorem wC_nonneg (l : Fin 128 → ℝ) (μ : ℝ) (r k : Fin 128) : 0 ≤ wC l μ r k := by
  unfold wC; split
  · exact (Real.exp_pos _).le
  · exact le_rfl

theorem wP_nonneg (l : Fin 128 → ℝ) (μ : ℝ) (has : Prop) [Decidable has] (r k : Fin 128) : 0 ≤ wP l μ has r k := by
  unfold wP; split
  · exact (Real.exp_pos _).le
  · exact le_rfl

theorem total_pos (lc lp : Fin 128 → ℝ) (z μ : ℝ) (has : Prop) [Decidable has] (r : Fin 128) : 0 < total lc lp z μ has r := by
  have h1 := Finset.sum_nonneg fun k (_ : k ∈ Finset.univ) => wC_nonneg lc μ r k
  have h2 := Finset.sum_nonneg fun k (_ : k ∈ Finset.univ) => wP_nonneg lp μ has r k
  have h3 := Real.exp_pos (z - μ)
  unfold total
  linarith

theorem total_shift (lc lp : Fin 128 → ℝ) (z μ : ℝ) (has : Prop) [Decidable has] (r : Fin 128) :
    total lc lp z μ has r = total lc lp z 0 has r * Real.exp (-μ) := by
  unfold total
  rw [add_mul, add_mul, Finset.sum_mul, Finset.sum_mul]
  simp only [wC_shift lc μ, wP_shift lp μ]
  rw [← Real.exp_add]
  congr 2; ring

theorem mixed_shift (lc lp vc vp : Fin 128 → ℝ) (μ : ℝ) (has : Prop) [Decidable has] (r : Fin 128) :
    mixed lc lp vc vp μ has r = mixed lc lp vc vp 0 has r * Real.exp (-μ) := by
  unfold mixed
  rw [add_mul, Finset.sum_mul, Finset.sum_mul]
  simp only [wC_shift lc μ, wP_shift lp μ, mul_assoc]

/-- Whatever is taken off the exponents, the result is the same. -/
theorem attend_shift (lc lp vc vp : Fin 128 → ℝ) (z μ : ℝ) (has : Prop) [Decidable has] (r : Fin 128) :
    mixed lc lp vc vp μ has r / total lc lp z μ has r = attend lc lp vc vp z has r := by
  rw [mixed_shift, total_shift, attend, mul_div_mul_right _ _ (Real.exp_pos _).ne']

/-- The weights divided first, the values summed after: the same result. -/
theorem attend_each (lc lp vc vp : Fin 128 → ℝ) (z μ : ℝ) (has : Prop) [Decidable has] (r : Fin 128) :
    (∑ k, vp k * (wP lp μ has r k / total lc lp z μ has r)) + ∑ k, vc k * (wC lc μ r k / total lc lp z μ has r)
      = attend lc lp vc vp z has r := by
  rw [← attend_shift lc lp vc vp z μ has r, mixed, add_div, Finset.sum_div, Finset.sum_div, add_comm]
  simp only [mul_div_assoc]

/-- A real in the extended reals, summed. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of reals by a positive one. -/
theorem div_coe (x y : ℝ) (hy : 0 < y) : Ideal.div (x : EReal) (y : EReal) = ((x / y : ℝ) : EReal) := by
  rw [Ideal.div, if_neg (by exact_mod_cast hy.ne'), div_eq_mul_inv, EReal.coe_mul, EReal.coe_inv]

/-- A two's power is an exponential. -/
theorem exp2_real (x : ℝ) : Ideal.exp2 (x : EReal) = ((Real.exp (Real.log 2 * x) : ℝ) : EReal) := by
  rw [Ideal.exp2_coe]
  exact congrArg _ (Real.rpow_def_of_pos (by norm_num) x)

/-- The largest of numbers none of which is above all the others is itself below the top. -/
theorem fold_lt {ι : Type} (s : Finset ι) (f : ι → EReal) (hf : ∀ k, f k ≠ ⊤) : s.fold max ⊥ f < ⊤ := by
  classical
  induction s using Finset.induction_on with
  | empty => rw [Finset.fold_empty]; exact bot_lt_top
  | insert a s ha ih => rw [Finset.fold_insert ha]; exact max_lt (lt_top_iff_ne_top.mpr (hf a)) ih

/-- A largest of numbers none of which is above all the others together, and of a real one, is a real. -/
theorem max_real (f g : Fin 128 → EReal) (z : ℝ) (hf : ∀ k, f k ≠ ⊤) (hg : ∀ k, g k ≠ ⊤) :
    ∃ μ : ℝ, max (max (Finset.univ.fold max ⊥ f) (Finset.univ.fold max ⊥ g)) (z : EReal) = (μ : EReal) := by
  have h1 : Finset.univ.fold max ⊥ f < ⊤ := fold_lt _ _ hf
  have h2 : Finset.univ.fold max ⊥ g < ⊤ := fold_lt _ _ hg
  have h3 : max (max (Finset.univ.fold max ⊥ f) (Finset.univ.fold max ⊥ g)) (z : EReal) < ⊤ :=
    max_lt (max_lt h1 h2) (EReal.coe_lt_top z)
  have h4 : (⊥ : EReal) < max (max (Finset.univ.fold max ⊥ f) (Finset.univ.fold max ⊥ g)) (z : EReal) :=
    lt_max_of_lt_right (EReal.bot_lt_coe z)
  exact ⟨_, (EReal.coe_toReal h3.ne h4.ne').symm⟩

/-- The same of one run of numbers. -/
theorem max_real1 {n : ℕ} (f : Fin n → EReal) (z : ℝ) (hf : ∀ k, f k ≠ ⊤) :
    ∃ μ : ℝ, max (Finset.univ.fold max ⊥ f) (z : EReal) = (μ : EReal) := by
  have h1 : Finset.univ.fold max ⊥ f < ⊤ := fold_lt _ _ hf
  have h3 : max (Finset.univ.fold max ⊥ f) (z : EReal) < ⊤ := max_lt h1 (EReal.coe_lt_top z)
  have h4 : (⊥ : EReal) < max (Finset.univ.fold max ⊥ f) (z : EReal) := lt_max_of_lt_right (EReal.bot_lt_coe z)
  exact ⟨_, (EReal.coe_toReal h3.ne h4.ne').symm⟩

theorem bits_ninf : Ideal.ofBits .f32 0xFF800000#32 = (⊥ : EReal) := by simp [Ideal.ofBits, Ideal.ieee]
theorem bits_128 : Ideal.ofBits .f32 0x43000000#32 = ((128 : ℝ) : EReal) := by
  simp [Ideal.ofBits, Ideal.ieee, -EReal.coe_mul]; norm_num
theorem bits_8 : Ideal.ofBits .f32 0x41000000#32 = ((8 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_16 : Ideal.ofBits .f32 0x41800000#32 = ((16 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_n8 : Ideal.ofBits .f32 0xC1000000#32 = ((-8 : ℝ) : EReal) := by
  simp [Ideal.ofBits, Ideal.ieee, -EReal.coe_mul]; norm_num

/-- A head's slope. -/
def SL (h : Fin 8) : ℝ := Real.rpow 2 (-8 * (1 + (h.val : ℝ)) / 16)

/-- Two to the head's power, as it is computed, is its slope. -/
theorem slope_eq (h : Fin 8) : Ideal.pow (Ideal.ofBits .f32 0x40000000#32)
    (Ideal.div (Ideal.ofBits .f32 0xC1000000#32 * (1 + ((h.val : ℝ) : EReal))) (Ideal.ofBits .f32 0x41800000#32)) = (SL h : EReal) := by
  rw [bits_2, bits_n8, bits_16, show (1 : EReal) = ((1 : ℝ) : EReal) from rfl, ← EReal.coe_add, ← EReal.coe_mul, div_coe _ _ (by norm_num), Ideal.pow_coe_coe]
  rfl

/-- The scores of one query against a block's keys, the query in units of two's powers. -/
def score (q : Fin 64 → ℝ) (k : Fin 128 → Fin 64 → ℝ) (s : ℝ) (r : Fin 128) (off : ℝ) (j : Fin 128) : ℝ :=
  Real.log 2 * (∑ d, k j d * q d) - s * ((r.val : ℝ) - (j.val : ℝ) + off)

/-- Two finite halves of a row of weights, joined: the sums over both. -/
theorem two_sum {M : Type} [AddCommMonoid M] (f : Fin 256 → M) :
    ∑ k, f k = (∑ k : Fin 128, f ⟨k.val, by omega⟩) + ∑ k : Fin 128, f ⟨128 + k.val, by omega⟩ :=
  Fin.sum_univ_two_halves 128 128 rfl f

/-- A largest of numbers below the top is below the top. -/
theorem reduce_ne_top {s t u : Shape} {axes : List (Fin s.rank)} (x : s.Idx → EReal) (init : u.Idx → EReal) (h : s.ReducesTo axes t)
    (hu : 0 < u.numel) (j : t.Idx) (hx : ∀ i, x i ≠ ⊤) (hi : ∀ i, init i = ⊥) : Host.reduce max x init h hu j ≠ ⊤ := by
  rw [Host.reduce_eq_fold, hi]
  exact (fold_lt _ _ hx).ne

/-- A sum over the last of six axes. -/
theorem sum_last {n0 n1 n2 n3 n4 n5 : ℕ} (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal) (a : Fin n0) (b : Fin n1) (c : Fin n2) (d : Fin n3) (e : Fin n4) :
    Ideal.hostReduceAdd h v init (ix5 a b c d e) = init + ∑ k : Fin n5, v (ix6 a b c d e k) := by
  refine congrArg (init + ·) (Finset.sum_filter_eq_sum_of_fiber _ (fun k : Fin n5 => ix6 a b c d e k) (fun _ _ q => congrFun q 5) (fun i => ?_) v)
  constructor
  · intro q
    refine ⟨i 5, ?_⟩
    funext w; apply Fin.ext
    have q0 := congrArg Fin.val (congrFun q 0)
    have q1 := congrArg Fin.val (congrFun q 1)
    have q2 := congrArg Fin.val (congrFun q 2)
    have q3 := congrArg Fin.val (congrFun q 3)
    have q4 := congrArg Fin.val (congrFun q 4)
    match w with
    | ⟨0, _⟩ => exact q0.symm
    | ⟨1, _⟩ => exact q1.symm
    | ⟨2, _⟩ => exact q2.symm
    | ⟨3, _⟩ => exact q3.symm
    | ⟨4, _⟩ => exact q4.symm
    | ⟨5, _⟩ => rfl
  · rintro ⟨k, rfl⟩
    funext w
    apply Fin.ext
    match w with
    | ⟨0, _⟩ => rfl
    | ⟨1, _⟩ => rfl
    | ⟨2, _⟩ => rfl
    | ⟨3, _⟩ => rfl
    | ⟨4, _⟩ => rfl

/-- The real at row `i`, column `e` of a sequence's projections. -/
def AT (a0 : (⟨3, ![8, 4096, 5376]⟩ : Shape).Idx → EReal) (b : Fin 8) (i e : ℕ) : ℝ :=
  (a0 (ix3 b (Fin.ofNat 4096 i) (Fin.ofNat 5376 e))).toReal

/-- Of finite projections the real is the entry. -/
theorem AT_eq (a0 : (⟨3, ![8, 4096, 5376]⟩ : Shape).Idx → EReal) (h0 : ∀ y, a0 y ≠ ⊤ ∧ a0 y ≠ ⊥) (b : Fin 8) (i : Fin 4096) (e : Fin 5376)
    (i' e' : ℕ) (hi : i.val = i') (he : e.val = e') : a0 (ix3 b i e) = (AT a0 b i' e' : EReal) := by
  subst hi he
  have e1 : Fin.ofNat 4096 i.val = i := Fin.ext (Nat.mod_eq_of_lt i.isLt)
  have e2 : Fin.ofNat 5376 e.val = e := Fin.ext (Nat.mod_eq_of_lt e.isLt)
  rw [AT, e1, e2, EReal.coe_toReal (h0 _).1 (h0 _).2]

/-- The scores of query `s` of head `h` against the keys of block `n`. -/
def sc (a0 : (⟨3, ![8, 4096, 5376]⟩ : Shape).Idx → EReal) (b : Fin 8) (s : ℕ) (h : Fin 8) (n : ℕ) (off : ℝ) : Fin 128 → ℝ :=
  score (fun d => AT a0 b s (3072 + 64 * h.val + d.val)) (fun j d => AT a0 b (128 * n + j.val) (3584 + 64 * (h.val / 4) + d.val))
    (SL h) ⟨s % 128, Nat.mod_lt _ (by norm_num)⟩ off

/-- Coordinate `d` of block `n`'s values for head `h`. -/
def vl (a0 : (⟨3, ![8, 4096, 5376]⟩ : Shape).Idx → EReal) (b : Fin 8) (h : Fin 8) (d n : ℕ) : Fin 128 → ℝ :=
  fun j => AT a0 b (128 * n + j.val) (3712 + 64 * (h.val / 4) + d)

/-- The array: query `s` of head `h`, coordinate `d` of its result, the projected rows and the sinks given. -/
def OUT (a0 : (⟨3, ![8, 4096, 5376]⟩ : Shape).Idx → EReal) (a1 : (⟨2, ![2, 8]⟩ : Shape).Idx → EReal) :
    (⟨3, ![8, 4096, 512]⟩ : Shape).Idx → EReal := fun y =>
  let b : Fin 8 := y 0
  let s : Fin 4096 := y 1
  let c : Fin 512 := y 2
  let h : Fin 8 := ⟨c.val / 64, by omega⟩
  ((attend (sc a0 b s.val h (s.val / 128) 0) (sc a0 b s.val h (s.val / 128 - 1) 128)
    (vl a0 b h (c.val % 64) (s.val / 128)) (vl a0 b h (c.val % 64) (s.val / 128 - 1))
    (a1 (ix2 1 h)).toReal (0 < s.val / 128) ⟨s.val % 128, Nat.mod_lt _ (by norm_num)⟩ : ℝ) : EReal)

end Cert.SwaSpec

end
-- ==== Proof.Swa.Value.lean ====
/-
  The sliding-window body read at an index: the scores, the masks, the weights, the results.
-/
module

public import proofs.«01_k».proof.Proof.Swa.Pieces
public import proofs.«01_k».proof.Proof.Swa.Spec
public import Idealize.ShloMosaic.Lib.Pointwise

@[expose] public section

set_option maxRecDepth 16384

noncomputable section

namespace Cert.Kernel6Ideal.Swa

open Cert.Kernel6Ideal Cert.Kernel6Ideal.Gen
open Idealize.ShloMosaic Idealize.ShloMosaic.TcCoe Idealize.SL.Sem
open scoped BigOperators

/-- Equal coordinates, equal entries. -/
theorem at3 {n0 n1 n2 : ℕ} {A : Type} (q : (⟨3, ![n0, n1, n2]⟩ : Shape).Idx → A) {a a' : Fin n0} {b b' : Fin n1} {c c' : Fin n2}
    (ha : a.val = a'.val) (hb : b.val = b'.val) (hc : c.val = c'.val) : q (ix3 a b c) = q (ix3 a' b' c') := by
  rw [Fin.ext ha, Fin.ext hb, Fin.ext hc]

theorem at2 {n0 n1 : ℕ} {A : Type} (q : (⟨2, ![n0, n1]⟩ : Shape).Idx → A) {a a' : Fin n0} {b b' : Fin n1}
    (ha : a.val = a'.val) (hb : b.val = b'.val) : q (ix2 a b) = q (ix2 a' b') := by
  rw [Fin.ext ha, Fin.ext hb]

/-- The first four heads' queries, transposed, one beside the other, nothing in the lower half. -/
theorem qA_at (q : Vec Ideal S1x128x512 .bf16) (e : Fin 128) (c : Fin 512) :
    k0_pay42 (k0_pay38 (F := Ideal)) q (ix2 e c)
      = if h : e.val < 64 then q (ix3 0 ⟨c.val % 128, by omega⟩ ⟨64 * (c.val / 128) + e.val, by omega⟩) else 0 := by
  pointwise [k0_pay42, k0_pay41, k0_pay38]
  by_cases h : e.val < 64
  · simp only [dif_pos h]
    by_cases h1 : c.val < 128
    · rw [dif_pos h1]
      exact at3 q rfl (by dsimp only; omega) (by dsimp only; omega)
    rw [dif_neg h1]
    by_cases h2 : c.val - 128 < 128
    · rw [dif_pos h2]
      exact at3 q rfl (by dsimp only; omega) (by dsimp only; omega)
    rw [dif_neg h2]
    by_cases h3 : c.val - 128 - 128 < 128
    · rw [dif_pos h3]
      exact at3 q rfl (by dsimp only; omega) (by dsimp only; omega)
    rw [dif_neg h3]
    exact at3 q rfl (by dsimp only; omega) (by dsimp only; omega)
  · simp only [dif_neg h]
    split <;> (try rfl) <;> split <;> (try rfl) <;> split <;> rfl

/-- The last four heads' queries, transposed, one beside the other, nothing in the upper half. -/
theorem qB_at (q : Vec Ideal S1x128x512 .bf16) (e : Fin 128) (c : Fin 512) :
    k0_pay45 (k0_pay38 (F := Ideal)) q (ix2 e c)
      = if h : e.val < 64 then 0 else q (ix3 0 ⟨c.val % 128, by omega⟩ ⟨256 + 64 * (c.val / 128) + (e.val - 64), by omega⟩) := by
  pointwise [k0_pay45, k0_pay41, k0_pay38]
  by_cases h : e.val < 64
  · simp only [dif_pos h]
    split <;> (try rfl) <;> split <;> (try rfl) <;> split <;> rfl
  · simp only [dif_neg h]
    by_cases h1 : c.val < 128
    · rw [dif_pos h1]
      exact at3 q rfl (by dsimp only; omega) (by dsimp only; omega)
    rw [dif_neg h1]
    by_cases h2 : c.val - 128 < 128
    · rw [dif_pos h2]
      exact at3 q rfl (by dsimp only; omega) (by dsimp only; omega)
    rw [dif_neg h2]
    by_cases h3 : c.val - 128 - 128 < 128
    · rw [dif_pos h3]
      exact at3 q rfl (by dsimp only; omega) (by dsimp only; omega)
    rw [dif_neg h3]
    exact at3 q rfl (by dsimp only; omega) (by dsimp only; omega)

/-- The first four heads' scores. -/
theorem sA_at (q : Vec Ideal S1x128x512 .bf16) (k : Vec Ideal S1x128x128 .bf16) (m : Fin 128) (c : Fin 512) :
    sA q k (ix2 m c) = ∑ d : Fin 64, k (ix3 0 m ⟨d.val, by omega⟩) * q (ix3 0 ⟨c.val % 128, by omega⟩ ⟨64 * (c.val / 128) + d.val, by omega⟩) := by
  pointwise [sA, k0_pay44, k0_pay40]
  rw [Fin.sum_univ_two_halves 64 64 rfl]
  simp only [qA_at]
  rw [Finset.sum_eq_zero (s := Finset.univ) (f := fun d : Fin 64 => _ * dite (64 + _ < 64) _ _)]
  · rw [add_zero]
    exact Finset.sum_congr rfl fun d _ => by rw [dif_pos d.isLt]
  · intro d _
    rw [dif_neg (by omega), mul_zero]

/-- The last four heads' scores. -/
theorem sB_at (q : Vec Ideal S1x128x512 .bf16) (k : Vec Ideal S1x128x128 .bf16) (m : Fin 128) (c : Fin 512) :
    sB q k (ix2 m c) = ∑ d : Fin 64, k (ix3 0 m ⟨64 + d.val, by omega⟩) * q (ix3 0 ⟨c.val % 128, by omega⟩ ⟨256 + 64 * (c.val / 128) + d.val, by omega⟩) := by
  pointwise [sB, k0_pay47, k0_pay40]
  rw [Fin.sum_univ_two_halves 64 64 rfl]
  simp only [qB_at]
  rw [Finset.sum_eq_zero]
  · rw [zero_add]
    exact Finset.sum_congr rfl fun d _ => by
      rw [dif_neg (by omega)]
      exact congrArg _ (at3 q rfl rfl (by dsimp only; omega))
  · intro d _
    rw [dif_pos d.isLt, mul_zero]

/-- A column's query. -/
theorem pay34_at (k : Fin 128) (c : Fin 512) : k0_pay34 (ix2 k c) = BitVec.ofNat 32 (c.val % 128) := by
  pointwise [k0_pay34]
  revert c
  decide +kernel

/-- A difference of two places as a word. -/
theorem word_sub : ∀ r k : Fin 128, (IntOp.subi (BitVec.ofNat 32 r.val) (BitVec.ofNat 32 k.val)).toInt = (r.val : ℤ) - (k.val : ℤ) := by
  decide +kernel

theorem word_le : ∀ k r : Fin 128, IntOp.cmpi .sle (BitVec.ofNat 32 k.val) (BitVec.ofNat 32 r.val) = if k.val ≤ r.val then 1#1 else 0#1 := by
  decide +kernel

theorem word_gt : ∀ k r : Fin 128, IntOp.cmpi .sgt (BitVec.ofNat 32 k.val) (BitVec.ofNat 32 r.val) = if r.val < k.val then 1#1 else 0#1 := by
  decide +kernel

theorem sub_real (r k : Fin 128) : (FloatOps.sitofp FTy.f32 (IntOp.subi (BitVec.ofNat 32 r.val) (BitVec.ofNat 32 k.val)) : Ideal .f32)
    = (((r.val : ℝ) - (k.val : ℝ) : ℝ) : EReal) := by
  simp only [FloatOps.sitofp, word_sub]
  norm_num

theorem sel_if {A : Type} (p : Prop) [Decidable p] (x y : A) : Scalar.select (if p then 1#1 else 0#1) x y = if p then x else y := by
  by_cases h : p <;> simp [Scalar.select, h]

theorem and_if (p q : Prop) [Decidable p] [Decidable q] :
    IntOp.andi (if p then 1#1 else 0#1) (if q then 1#1 else 0#1) = if p ∧ q then 1#1 else 0#1 := by
  by_cases hp : p <;> by_cases hq : q <;> simp [IntOp.andi, hp, hq]

/-- The named constants. -/
theorem log2e : (Named.named κ "log2_e" 0x3FB8AA3B#32 : Ideal .f32) = (((Real.log 2)⁻¹ : ℝ) : EReal) := by
  simp [Named.named, κ]

theorem maskv : (Named.named κ "mask" 0xF149F2CA#32 : Ideal .f32) = (⊥ : EReal) := by
  simp [Named.named, κ]

/-- A column of scores against the block's own keys, masked. -/
theorem p115_at (sl : Vec Ideal S1x1x512 .f32) (sc : FVec Ideal S128x512 .f32) (k : Fin 128) (c : Fin 512) (a s : ℝ)
    (ha : sc (ix2 k c) = (a : EReal)) (hs : sl (ix3 0 0 c) = (s : EReal)) :
    k0_pay115 k0_pay35 k0_pay36 sc sl (ix2 k c)
      = if k.val ≤ c.val % 128 then ((a - s * (Real.log 2)⁻¹ * (((c.val % 128 : ℕ) : ℝ) - (k.val : ℝ)) : ℝ) : EReal) else ⊥ := by
  pointwise [k0_pay115, k0_pay114, k0_pay112, k0_pay35, k0_pay36]
  rw [pay34_at, ha, hs, log2e, maskv, word_le k ⟨c.val % 128, by omega⟩, sub_real ⟨c.val % 128, by omega⟩ k, sel_if]
  split
  · push_cast
    rfl
  · rfl

/-- A column of scores against the keys of the block before, masked. -/
theorem p119_at (sl : Vec Ideal S1x1x512 .f32) (sp : FVec Ideal S128x512 .f32) (b : BitVec 32) (has : Prop) [Decidable has]
    (hb : Scalar.cmpi .sgt b 0#32 = if has then 1#1 else 0#1) (k : Fin 128) (c : Fin 512) (a s : ℝ)
    (ha : sp (ix2 k c) = (a : EReal)) (hs : sl (ix3 0 0 c) = (s : EReal)) :
    k0_pay119 (k0_pay116 k0_pay37 b) (k0_pay117 k0_pay35 sp sl) (k0_pay118 sl) (ix2 k c)
      = if c.val % 128 < k.val ∧ has then ((a - s * (Real.log 2)⁻¹ * (((c.val % 128 : ℕ) : ℝ) - (k.val : ℝ)) - s * (Real.log 2)⁻¹ * 128 : ℝ) : EReal) else ⊥ := by
  pointwise [k0_pay119, k0_pay116, k0_pay117, k0_pay118, k0_pay114, k0_pay112, k0_pay35, k0_pay37]
  rw [pay34_at, ha, hs, log2e, maskv, hb, word_gt k ⟨c.val % 128, by omega⟩, sub_real ⟨c.val % 128, by omega⟩ k, and_if, sel_if,
    SwaSpec.bits_128]
  split
  · push_cast
    rfl
  · rfl

theorem p113_at (sk : Vec Ideal S1x1x512 .f32) (c : Fin 512) (z : ℝ) (hz : sk (ix3 0 0 c) = (z : EReal)) :
    k0_pay113 sk (ix2 0 c) = ((z * (Real.log 2)⁻¹ : ℝ) : EReal) := by
  pointwise [k0_pay113]
  rw [hz, log2e, EReal.coe_mul]

theorem p120_at (a1 : FVec Ideal S1x512 .f32) (a2 : FVec Ideal S128x512 .f32) (a3 : IVec S128x512 1) (a4 : FVec Ideal S128x512 .f32)
    (a5 : FVec Ideal S1x512 .f32) (c : Fin 512) : k0_pay120 (F := Ideal) a1 a2 a3 a4 a5 (ix2 0 c)
      = max (max (Finset.univ.fold max ⊥ fun x => a2 (ix2 x c)) (Finset.univ.fold max ⊥ fun x => k0_pay119 a3 a4 a5 (ix2 x c))) (a1 (ix2 0 c)) := by
  pointwise [k0_pay120]
  rw [SwaSpec.bits_ninf]

theorem p121_at (a1 : FVec Ideal S1x512 .f32) (a2 : FVec Ideal S128x512 .f32) (a3 : IVec S128x512 1) (a4 : FVec Ideal S128x512 .f32)
    (a5 : FVec Ideal S1x512 .f32) (k : Fin 128) (c : Fin 512) : k0_pay121 (F := Ideal) a1 a2 a3 a4 a5 (ix2 k c)
      = Ideal.exp2 (a2 (ix2 k c) - k0_pay120 a1 a2 a3 a4 a5 (ix2 0 c)) := by
  pointwise [k0_pay121]
  rfl

theorem p122_at (a1 : FVec Ideal S1x512 .f32) (a2 : FVec Ideal S128x512 .f32) (a3 : IVec S128x512 1) (a4 : FVec Ideal S128x512 .f32)
    (a5 : FVec Ideal S1x512 .f32) (k : Fin 128) (c : Fin 512) : k0_pay122 (F := Ideal) a1 a2 a3 a4 a5 (ix2 k c)
      = Ideal.exp2 (k0_pay119 a3 a4 a5 (ix2 k c) - k0_pay120 a1 a2 a3 a4 a5 (ix2 0 c)) := by
  pointwise [k0_pay122]
  rfl

theorem p123_at (a1 : FVec Ideal S1x512 .f32) (a2 : FVec Ideal S128x512 .f32) (a3 : IVec S128x512 1) (a4 : FVec Ideal S128x512 .f32)
    (a5 : FVec Ideal S1x512 .f32) (c : Fin 512) : k0_pay123 (F := Ideal) a1 a2 a3 a4 a5 (ix2 0 c)
      = ((∑ k, k0_pay121 a1 a2 a3 a4 a5 (ix2 k c)) + ∑ k, k0_pay122 a1 a2 a3 a4 a5 (ix2 k c))
        + Ideal.exp2 (a1 (ix2 0 c) - k0_pay120 a1 a2 a3 a4 a5 (ix2 0 c)) := by
  pointwise [k0_pay123]
  rfl

/-- The scores of the block's own keys in natural units. -/
def lC (a : Fin 128 → ℝ) (s : ℝ) (r : Fin 128) (k : Fin 128) : ℝ := Real.log 2 * a k - s * ((r.val : ℝ) - (k.val : ℝ) + 0)

/-- The scores of the keys of the block before in natural units. -/
def lP (a : Fin 128 → ℝ) (s : ℝ) (r : Fin 128) (k : Fin 128) : ℝ := Real.log 2 * a k - s * ((r.val : ℝ) - (k.val : ℝ) + 128)

theorem exp2_if (p : Prop) [Decidable p] (x M y : ℝ) (h : Real.log 2 * (x - M) = y) :
    Ideal.exp2 ((if p then (x : EReal) else ⊥) - (M : EReal)) = ((if p then Real.exp y else 0 : ℝ) : EReal) := by
  by_cases hp : p
  · rw [if_pos hp, if_pos hp, ← EReal.coe_sub, SwaSpec.exp2_real, h]
  · rw [if_neg hp, if_neg hp, EReal.bot_sub, Ideal.exp2_bot, EReal.coe_zero]

theorem log2_pos : Real.log 2 ≠ 0 := (Real.log_pos (by norm_num)).ne'

/-- The weights of one column and their sum, a number taken off all the exponents. -/
theorem weights (sl sk : Vec Ideal S1x1x512 .f32) (sc sp : FVec Ideal S128x512 .f32) (b : BitVec 32) (has : Prop) [Decidable has]
    (hb : Scalar.cmpi .sgt b 0#32 = if has then 1#1 else 0#1) (c : Fin 512) (a p : Fin 128 → ℝ) (s z : ℝ)
    (ha : ∀ k, sc (ix2 k c) = (a k : EReal)) (hp : ∀ k, sp (ix2 k c) = (p k : EReal))
    (hs : sl (ix3 0 0 c) = (s : EReal)) (hz : sk (ix3 0 0 c) = (z : EReal)) (r : Fin 128) (hr : r.val = c.val % 128) :
    ∃ μ : ℝ, (∀ k, wC sl sk sc sp b (ix2 k c) = (SwaSpec.wC (lC a s r) μ r k : EReal))
      ∧ (∀ k, wP sl sk sc sp b (ix2 k c) = (SwaSpec.wP (lP p s r) μ has r k : EReal))
      ∧ den sl sk sc sp b (ix2 0 c) = (SwaSpec.total (lC a s r) (lP p s r) z μ has r : EReal) := by
  have e1 := fun k => p115_at sl sc k c (a k) s (ha k) hs
  have e2 := fun k => p119_at sl sp b has hb k c (p k) s (hp k) hs
  have e3 := p113_at sk c z hz
  obtain ⟨M, hM⟩ : ∃ M : ℝ, k0_pay120 (k0_pay113 sk) (k0_pay115 k0_pay35 k0_pay36 sc sl) (k0_pay116 k0_pay37 b) (k0_pay117 k0_pay35 sp sl) (k0_pay118 sl) (ix2 0 c) = (M : EReal) := by
    rw [p120_at, e3]
    refine SwaSpec.max_real _ _ _ (fun k => ?_) (fun k => ?_)
    · rw [e1]; split
      · exact EReal.coe_ne_top _
      · exact bot_ne_top
    · rw [e2]; split
      · exact EReal.coe_ne_top _
      · exact bot_ne_top
  have hl := log2_pos
  have f1 : ∀ k, k0_pay121 (k0_pay113 sk) (k0_pay115 k0_pay35 k0_pay36 sc sl) (k0_pay116 k0_pay37 b) (k0_pay117 k0_pay35 sp sl) (k0_pay118 sl) (ix2 k c) = (SwaSpec.wC (lC a s r) (Real.log 2 * M) r k : EReal) := by
    intro k
    rw [p121_at, hM, e1, exp2_if _ _ _ (lC a s r k - Real.log 2 * M), SwaSpec.wC, hr]
    rw [lC, hr]
    field_simp
    ring
  have f2 : ∀ k, k0_pay122 (k0_pay113 sk) (k0_pay115 k0_pay35 k0_pay36 sc sl) (k0_pay116 k0_pay37 b) (k0_pay117 k0_pay35 sp sl) (k0_pay118 sl) (ix2 k c) = (SwaSpec.wP (lP p s r) (Real.log 2 * M) has r k : EReal) := by
    intro k
    rw [p122_at, hM, e2, exp2_if _ _ _ (lP p s r k - Real.log 2 * M), SwaSpec.wP, hr]
    rw [lP, hr]
    field_simp
    ring
  refine ⟨Real.log 2 * M, fun k => ?_, fun k => ?_, ?_⟩
  · rw [← f1]
    pointwise [wC, k0_pay124]
  · rw [← f2]
    pointwise [wP, k0_pay125]
  · have e4 : Real.log 2 * (z * (Real.log 2)⁻¹ - M) = z - Real.log 2 * M := by field_simp
    rw [den, p123_at, e3, hM, Finset.sum_congr rfl fun k _ => f1 k, Finset.sum_congr rfl fun k _ => f2 k, ← EReal.coe_sub,
      SwaSpec.exp2_real, e4, SwaSpec.total, EReal.coe_add, EReal.coe_add, SwaSpec.coe_sum, SwaSpec.coe_sum]

theorem oA_at (sl sk : Vec Ideal S1x1x512 .f32) (q : Vec Ideal S1x128x512 .bf16) (kc kp vc vp : Vec Ideal S1x128x128 .bf16) (b : BitVec 32) (d : Fin 64) (c : Fin 512) :
    oA sl sk q kc kp vc vp b (ix2 d c) = Ideal.div
      ((∑ k, vc (ix3 0 ⟨d.val, by omega⟩ k) * wC sl sk (sA q kc) (sA q kp) b (ix2 k c)) + ∑ k, vp (ix3 0 ⟨d.val, by omega⟩ k) * wP sl sk (sA q kc) (sA q kp) b (ix2 k c))
      (den sl sk (sA q kc) (sA q kp) b (ix2 0 c)) := by
  pointwise [oA, k0_pay328]

theorem oB_at (sl sk : Vec Ideal S1x1x512 .f32) (q : Vec Ideal S1x128x512 .bf16) (kc kp vc vp : Vec Ideal S1x128x128 .bf16) (b : BitVec 32) (d : Fin 64) (c : Fin 512) :
    oB sl sk q kc kp vc vp b (ix2 d c) = Ideal.div
      ((∑ k, vc (ix3 0 ⟨64 + d.val, by omega⟩ k) * wC sl sk (sB q kc) (sB q kp) b (ix2 k c)) + ∑ k, vp (ix3 0 ⟨64 + d.val, by omega⟩ k) * wP sl sk (sB q kc) (sB q kp) b (ix2 k c))
      (den sl sk (sB q kc) (sB q kp) b (ix2 0 c)) := by
  pointwise [oB, k0_pay329]

set_option maxHeartbeats 4000000 in
/-- The eight heads' results side by side. -/
theorem heads_at (A B : FVec Ideal S64x512 .f32) (r : Fin 128) (c : Fin 512) :
    k0_pay1 A B (ix3 0 r c) = if h : c.val < 256 then A (ix2 ⟨c.val % 64, by omega⟩ ⟨128 * (c.val / 64) + r.val, by omega⟩)
      else B (ix2 ⟨c.val % 64, by omega⟩ ⟨128 * (c.val / 64 - 4) + r.val, by omega⟩) := by
  pointwise [k0_pay1]
  by_cases h0 : c.val < 64
  · rw [dif_pos h0, dif_pos (by omega)]
    exact at2 _ (by dsimp only; omega) (by dsimp only; omega)
  rw [dif_neg h0]
  by_cases h1 : c.val - 64 < 64
  · rw [dif_pos h1, dif_pos (by omega)]
    exact at2 _ (by dsimp only; omega) (by dsimp only; omega)
  rw [dif_neg h1]
  by_cases h2 : c.val - 64 - 64 < 64
  · rw [dif_pos h2, dif_pos (by omega)]
    exact at2 _ (by dsimp only; omega) (by dsimp only; omega)
  rw [dif_neg h2]
  by_cases h3 : c.val - 64 - 64 - 64 < 64
  · rw [dif_pos h3, dif_pos (by omega)]
    exact at2 _ (by dsimp only; omega) (by dsimp only; omega)
  rw [dif_neg h3]
  by_cases h4 : c.val - 64 - 64 - 64 - 64 < 64
  · rw [dif_pos h4, dif_neg (by omega)]
    exact at2 _ (by dsimp only; omega) (by dsimp only; omega)
  rw [dif_neg h4]
  by_cases h5 : c.val - 64 - 64 - 64 - 64 - 64 < 64
  · rw [dif_pos h5, dif_neg (by omega)]
    exact at2 _ (by dsimp only; omega) (by dsimp only; omega)
  rw [dif_neg h5]
  by_cases h6 : c.val - 64 - 64 - 64 - 64 - 64 - 64 < 64
  · rw [dif_pos h6, dif_neg (by omega)]
    exact at2 _ (by dsimp only; omega) (by dsimp only; omega)
  rw [dif_neg h6]
  rw [dif_neg (by omega)]
  exact at2 _ (by dsimp only; omega) (by dsimp only; omega)

/-- A weighted sum of values over the weights' sum, from their values. -/
theorem ratio (f g w v : Fin 128 → EReal) (t : EReal) (vc vp : Fin 128 → ℝ) (lc lp : Fin 128 → ℝ) (z μ : ℝ) (has : Prop) [Decidable has] (r : Fin 128)
    (hf : ∀ k, f k = (vc k : EReal)) (hg : ∀ k, g k = (vp k : EReal)) (hw : ∀ k, w k = (SwaSpec.wC lc μ r k : EReal))
    (hv : ∀ k, v k = (SwaSpec.wP lp μ has r k : EReal)) (ht : t = (SwaSpec.total lc lp z μ has r : EReal)) :
    Ideal.div ((∑ k, f k * w k) + ∑ k, g k * v k) t = ((SwaSpec.attend lc lp vc vp z has r : ℝ) : EReal) := by
  simp only [hf, hg, hw, hv, ht, ← EReal.coe_mul, ← SwaSpec.coe_sum, ← EReal.coe_add]
  rw [SwaSpec.div_coe _ _ (SwaSpec.total_pos _ _ _ _ _ _), ← SwaSpec.attend_shift lc lp vc vp z μ has r, SwaSpec.mixed]

/-- A sum of products of reals. -/
theorem dot_real {n : ℕ} (f g : Fin n → EReal) (a b : Fin n → ℝ) (hf : ∀ d, f d = (a d : EReal)) (hg : ∀ d, g d = (b d : EReal)) :
    (∑ d, f d * g d) = ((∑ d, a d * b d : ℝ) : EReal) := by
  simp only [hf, hg, ← EReal.coe_mul, ← SwaSpec.coe_sum]

/-- A block's output from real loads. -/
theorem blkOut_val (sl0 sl1 sk0 sk1 : Vec Ideal S1x1x512 .f32) (q : Vec Ideal S1x128x512 .bf16) (kc kp vc vp : Vec Ideal S1x128x128 .bf16) (b : BitVec 32)
    (has : Prop) [Decidable has] (hb : Scalar.cmpi .sgt b 0#32 = if has then 1#1 else 0#1)
    (s z : Fin 8 → ℝ) (qr : Fin 128 → Fin 512 → ℝ) (kcr kpr vcr vpr : Fin 128 → Fin 128 → ℝ)
    (hs0 : ∀ x : Fin 512, sl0 (ix3 0 0 x) = (s ⟨x.val / 128, by omega⟩ : EReal)) (hs1 : ∀ x : Fin 512, sl1 (ix3 0 0 x) = (s ⟨4 + x.val / 128, by omega⟩ : EReal))
    (hz0 : ∀ x : Fin 512, sk0 (ix3 0 0 x) = (z ⟨x.val / 128, by omega⟩ : EReal)) (hz1 : ∀ x : Fin 512, sk1 (ix3 0 0 x) = (z ⟨4 + x.val / 128, by omega⟩ : EReal))
    (hq : ∀ r e, q (ix3 0 r e) = (qr r e : EReal)) (hkc : ∀ m e, kc (ix3 0 m e) = (kcr m e : EReal)) (hkp : ∀ m e, kp (ix3 0 m e) = (kpr m e : EReal))
    (hvc : ∀ e m, vc (ix3 0 e m) = (vcr e m : EReal)) (hvp : ∀ e m, vp (ix3 0 e m) = (vpr e m : EReal))
    (r : Fin 128) (c : Fin 512) :
    blkOut sl0 sl1 sk0 sk1 q kc kp vc vp b (ix3 0 r c)
      = ((SwaSpec.attend
          (SwaSpec.score (fun d => qr r ⟨64 * (c.val / 64) + d.val, by omega⟩) (fun j d => kcr j ⟨64 * (c.val / 256) + d.val, by omega⟩) (s ⟨c.val / 64, by omega⟩) r 0)
          (SwaSpec.score (fun d => qr r ⟨64 * (c.val / 64) + d.val, by omega⟩) (fun j d => kpr j ⟨64 * (c.val / 256) + d.val, by omega⟩) (s ⟨c.val / 64, by omega⟩) r 128)
          (vcr ⟨64 * (c.val / 256) + c.val % 64, by omega⟩) (vpr ⟨64 * (c.val / 256) + c.val % 64, by omega⟩)
          (z ⟨c.val / 64, by omega⟩) has r : ℝ) : EReal) := by
  rw [blkOut, heads_at]
  by_cases h : c.val < 256
  · rw [dif_pos h, oA_at]
    have eh : (⟨(128 * (c.val / 64) + r.val) / 128, by omega⟩ : Fin 8) = ⟨c.val / 64, by omega⟩ := Fin.ext (by dsimp only; omega)
    obtain ⟨μ, w1, w2, w3⟩ := weights sl0 sk0 (sA q kc) (sA q kp) b has hb ⟨128 * (c.val / 64) + r.val, by omega⟩ _ _ _ _
      (fun k => (sA_at q kc k _).trans (dot_real _ _ _ _ (fun d => hkc _ _) (fun d => hq _ _)))
      (fun k => (sA_at q kp k _).trans (dot_real _ _ _ _ (fun d => hkp _ _) (fun d => hq _ _)))
      (hs0 _) (hz0 _) r (by dsimp only; omega)
    rw [ratio _ _ _ _ _ _ _ _ _ _ _ _ _ (fun k => hvc _ _) (fun k => hvp _ _) w1 w2 w3]
    refine congrArg _ ?_
    have e1 : ∀ d : Fin 64, qr ⟨(128 * (c.val / 64) + r.val) % 128, by omega⟩ ⟨64 * ((128 * (c.val / 64) + r.val) / 128) + d.val, by omega⟩ = qr r ⟨64 * (c.val / 64) + d.val, by omega⟩ := fun d => by
      congr 1 <;> ext <;> dsimp only <;> omega
    have e2 : ∀ d : Fin 64, (⟨64 * (c.val / 256) + d.val, by omega⟩ : Fin 128) = ⟨d.val, by omega⟩ := fun d => Fin.ext (by dsimp only; omega)
    have e3 : (⟨64 * (c.val / 256) + c.val % 64, by omega⟩ : Fin 128) = ⟨c.val % 64, by omega⟩ := Fin.ext (by dsimp only; omega)
    simp only [eh, e1, e2, e3]
    rfl
  · rw [dif_neg h, oB_at]
    have eh : (⟨4 + (128 * (c.val / 64 - 4) + r.val) / 128, by omega⟩ : Fin 8) = ⟨c.val / 64, by omega⟩ := Fin.ext (by dsimp only; omega)
    obtain ⟨μ, w1, w2, w3⟩ := weights sl1 sk1 (sB q kc) (sB q kp) b has hb ⟨128 * (c.val / 64 - 4) + r.val, by omega⟩ _ _ _ _
      (fun k => (sB_at q kc k _).trans (dot_real _ _ _ _ (fun d => hkc _ _) (fun d => hq _ _)))
      (fun k => (sB_at q kp k _).trans (dot_real _ _ _ _ (fun d => hkp _ _) (fun d => hq _ _)))
      (hs1 _) (hz1 _) r (by dsimp only; omega)
    rw [ratio _ _ _ _ _ _ _ _ _ _ _ _ _ (fun k => hvc _ _) (fun k => hvp _ _) w1 w2 w3]
    refine congrArg _ ?_
    have e1 : ∀ d : Fin 64, qr ⟨(128 * (c.val / 64 - 4) + r.val) % 128, by omega⟩ ⟨256 + 64 * ((128 * (c.val / 64 - 4) + r.val) / 128) + d.val, by omega⟩ = qr r ⟨64 * (c.val / 64) + d.val, by omega⟩ := fun d => by
      congr 1 <;> ext <;> dsimp only <;> omega
    have e2 : ∀ d : Fin 64, (⟨64 * (c.val / 256) + d.val, by omega⟩ : Fin 128) = ⟨64 + d.val, by omega⟩ := fun d => Fin.ext (by dsimp only; omega)
    have e3 : (⟨64 * (c.val / 256) + c.val % 64, by omega⟩ : Fin 128) = ⟨64 + c.val % 64, by omega⟩ := Fin.ext (by dsimp only; omega)
    simp only [eh, e1, e2, e3]
    rfl

end Cert.Kernel6Ideal.Swa

end
-- ==== Proof.Swa.Out.lean ====
/-
  The sliding window's array at an entry, its row given as a block and a place in it.
-/
module

public import proofs.«01_k».proof.Proof.Swa.Spec

@[expose] public section

noncomputable section

namespace Cert.SwaSpec

open Idealize.ShloMosaic
open scoped BigOperators

/-- The entry of query `r` of block `n`, column `c`. -/
def ATT (a0 : (⟨3, ![8, 4096, 5376]⟩ : Shape).Idx → EReal) (a1 : (⟨2, ![2, 8]⟩ : Shape).Idx → EReal) (b : Fin 8) (n : ℕ) (r : Fin 128) (c : Fin 512) : ℝ :=
  attend
    (score (fun d => AT a0 b (128 * n + r.val) (3072 + (64 * (c.val / 64) + d.val))) (fun j d => AT a0 b (128 * n + j.val) (3584 + (64 * (c.val / 256) + d.val)))
      (SL ⟨c.val / 64, by omega⟩) r 0)
    (score (fun d => AT a0 b (128 * n + r.val) (3072 + (64 * (c.val / 64) + d.val))) (fun j d => AT a0 b (128 * (n - 1) + j.val) (3584 + (64 * (c.val / 256) + d.val)))
      (SL ⟨c.val / 64, by omega⟩) r 128)
    (fun j => AT a0 b (128 * n + j.val) (3712 + (64 * (c.val / 256) + c.val % 64)))
    (fun j => AT a0 b (128 * (n - 1) + j.val) (3712 + (64 * (c.val / 256) + c.val % 64)))
    (a1 (ix2 1 ⟨c.val / 64, by omega⟩)).toReal (0 < n) r

/-- The array there. -/
theorem OUT_of (a0 : (⟨3, ![8, 4096, 5376]⟩ : Shape).Idx → EReal) (a1 : (⟨2, ![2, 8]⟩ : Shape).Idx → EReal) (b : Fin 8) (s : Fin 4096) (c : Fin 512)
    (n : ℕ) (r : Fin 128) (hs : s.val = 128 * n + r.val) : OUT a0 a1 (ix3 b s c) = (ATT a0 a1 b n r c : EReal) := by
  have g1 : c.val / 64 / 4 = c.val / 256 := by omega
  have hr : r = ⟨s.val % 128, Nat.mod_lt _ (by norm_num)⟩ := Fin.ext (by dsimp only; omega)
  have hn : n = s.val / 128 := by omega
  subst hr hn
  have hs' : 128 * (s.val / 128) + s.val % 128 = s.val := hs.symm
  show ((attend
    (score (fun d => AT a0 b s.val (3072 + 64 * (c.val / 64) + d.val)) (fun j d => AT a0 b (128 * (s.val / 128) + j.val) (3584 + 64 * (c.val / 64 / 4) + d.val)) _ _ 0)
    (score (fun d => AT a0 b s.val (3072 + 64 * (c.val / 64) + d.val)) (fun j d => AT a0 b (128 * (s.val / 128 - 1) + j.val) (3584 + 64 * (c.val / 64 / 4) + d.val)) _ _ 128)
    (fun j => AT a0 b (128 * (s.val / 128) + j.val) (3712 + 64 * (c.val / 64 / 4) + c.val % 64))
    (fun j => AT a0 b (128 * (s.val / 128 - 1) + j.val) (3712 + 64 * (c.val / 64 / 4) + c.val % 64)) _ _ _ : ℝ) : EReal) = _
  simp only [g1, add_assoc, ATT, hs']
  rfl

end Cert.SwaSpec

end
-- ==== Proof.Swa.Final.lean ====
/-
  The sliding-window call over the extended reals: where its blocks come from, what a point stores, and the result array.
-/
module

public import proofs.«01_k».proof.Proof.Swa.Value
public import proofs.«01_k».proof.Proof.Swa.Frame
public import proofs.«01_k».proof.Proof.Swa.Out
public import Idealize.ShloMosaic.Lib.WholeRead

@[expose] public section

set_option maxRecDepth 16384

noncomputable section

namespace Cert.Kernel6Ideal.Swa

open Cert.Kernel6Ideal Cert.Kernel6Ideal.Gen
open Idealize.ShloMosaic Idealize.ShloMosaic.TcCoe Idealize.SL.Sem
open scoped BigOperators

variable (m : (ℓ : Loc nD τ sig) → Buf (Elt Ideal) ℓ)

/-- A load through a whole buffer, read at the place it comes from. -/
theorem rd {sp : Space} {e : EltTy} {n0 n1 n2 k0 k1 k2 : ℕ} {M : Memref sig .tc sp ⟨3, ![n0, n1, n2]⟩ e} (h : M.IsWhole)
    (X : (⟨3, ![n0, n1, n2]⟩ : Shape).Idx → Elt Ideal e) (off : Fin 3 → ℕ) (inb) (o0 o1 o2 : ℕ) (ho : off = ![o0, o1, o2])
    (x0 : Fin k0) (x1 : Fin k1) (x2 : Fin k2) (y0 : Fin n0) (y1 : Fin n1) (y2 : Fin n2)
    (e0 : y0.val = o0 + x0.val) (e1 : y1.val = o1 + x1.val) (e2 : y2.val = o2 + x2.val) :
    M.view.readAt (Elt Ideal) (Rect.unit (s := ⟨3, ![n0, n1, n2]⟩) off ![k0, k1, k2] inb).toLoadRect (h.unread X) (ix3 x0 x1 x2)
      = X (ix3 y0 y1 y2) := by
  subst ho
  refine (h.readAt_unread X _ _).trans (congrArg X (funext fun a => Fin.ext ?_))
  match a with
  | ⟨0, _⟩ => show o0 + 1 * x0.val = y0.val; omega
  | ⟨1, _⟩ => show o1 + 1 * x1.val = y1.val; omega
  | ⟨2, _⟩ => show o2 + 1 * x2.val = y2.val; omega

/-- Where each window sits at grid point `t`. -/
theorem idx : ∀ t : Fin cfg0.N, win0_0.index t = ![0, 0, 0]
    ∧ win0_1.index t = ![0, 0, 0]
    ∧ win0_2.index t = ![t.val / 4, t.val % 4, 6]
    ∧ win0_3.index t = ![t.val / 4, 0, 28]
    ∧ win0_4.index t = ![t.val / 4, 0, 29]
    ∧ win0_5.index t = ![t.val / 4, t.val % 4, 0]
    ∧ t.val / 4 < 8 :=
  (by decide +kernel : ∀ t : Fin grid0.N, _)

/-- Where the blocks of keys and values start. -/
theorem offs : ∀ t : Fin cfg0.N, ∀ r : Fin 8, k0_off1 (grid0.coords t) (BitVec.ofNat 32 r.val) = ![0, 128 * (8 * (t.val % 4) + r.val), 0]
    ∧ k0_off2 (grid0.coords t) (BitVec.ofNat 32 r.val) = ![0, 128 * (8 * (t.val % 4) + r.val - 1), 0]
    ∧ k0_off3 (grid0.coords t) (BitVec.ofNat 32 r.val) = ![8 * (t.val % 4) + r.val, 0, 0]
    ∧ k0_off4 (grid0.coords t) (BitVec.ofNat 32 r.val) = ![8 * (t.val % 4) + r.val - 1, 0, 0]
    ∧ Scalar.cmpi .sgt (blkNo (grid0.coords t) r) 0#32 = if 0 < 8 * (t.val % 4) + r.val then 1#1 else 0#1 :=
  (by decide +kernel : ∀ t : Fin grid0.N, _)

/-- The sequence that point `t`'s blocks come from. -/
abbrev sq (t : Fin cfg0.N) : Fin 8 := ⟨t.val / 4, (idx t).2.2.2.2.2.2⟩

theorem blk1 (c : Dev nD) (t : Fin cfg0.N) (g : Fin 2) (x : Fin 512) :
    (iblk m c 1 t : FVec Ideal S2x1x512 .f32) (ix3 g 0 x) = m ((c : Thread nD τ).loc main_arg1) (ix2 1 ⟨4 * g.val + x.val / 128, by omega⟩) := by
  blk_simp [iblk, idx t]; entry_read; pointwise; blk_ext [idx t]

/-- A small number's word is the number. -/
theorem small (n : ℕ) (h : n < 8) : FloatOps.sitofp (F := Ideal) .f32 (BitVec.ofNat 32 n) = ((n : ℝ) : EReal) := by
  have e : (BitVec.ofNat 32 n).toInt = (n : ℤ) := by
    rw [BitVec.toInt_eq_toNat_of_lt (by simp only [BitVec.toNat_ofNat]; omega), BitVec.toNat_ofNat, Nat.mod_eq_of_lt (by omega)]
  show (((BitVec.ofNat 32 n).toInt : ℝ) : EReal) = _
  rw [e]; norm_cast

theorem blk0 (c : Dev nD) (t : Fin cfg0.N) (g : Fin 2) (x : Fin 512) :
    (iblk m c 0 t : FVec Ideal S2x1x512 .f32) (ix3 g 0 x) = (SwaSpec.SL ⟨4 * g.val + x.val / 128, by omega⟩ : EReal) := by
  blk_simp [iblk, idx t]; entry_read; pointwise
  refine Eq.trans ?_ (SwaSpec.slope_eq ⟨4 * g.val + x.val / 128, by omega⟩)
  refine congrArg (fun n => Ideal.pow (Ideal.ofBits .f32 0x40000000#32) (Ideal.div (Ideal.ofBits .f32 0xC1000000#32 * (1 + n)) (Ideal.ofBits .f32 0x41800000#32))) ?_
  refine (congrArg (fun n => FloatOps.sitofp (F := Ideal) .f32 (BitVec.ofNat 32 n)) (?_ : _ = 4 * g.val + x.val / 128)).trans ?_
  · have e0 : (((View.whole main_v15).slice (win0_0.rect t)).emb (ix3 g 0 x) 0).val = g.val := by
      show win0_0.index t 0 * 2 + 1 * g.val = g.val
      rw [(idx t).1]; simp
    have e2 : (((View.whole main_v15).slice (win0_0.rect t)).emb (ix3 g 0 x) 2).val = x.val := by
      show win0_0.index t 2 * 512 + 1 * x.val = x.val
      rw [(idx t).1]; simp
    rw [e0, e2, Nat.mul_comm]
  · exact small _ (by omega)

theorem blk2 (c : Dev nD) (t : Fin cfg0.N) (s : Fin 1024) (l : Fin 512) :
    (X0_2 m c t : FVec Ideal S1x1024x512 .bf16) (ix3 0 s l)
      = m ((c : Thread nD τ).loc main_arg0) (ix3 (sq t) ⟨1024 * (t.val % 4) + s.val, by omega⟩ ⟨3072 + l.val, by omega⟩) := by
  unfold X0_2 Pipeline.Window.fill
  rw [dif_pos (moved0_2 t _)]
  blk_ext [iblk, V, idx t]

theorem blk3 (c : Dev nD) (t : Fin cfg0.N) (s : Fin 4096) (l : Fin 128) :
    (iblk m c 3 t : FVec Ideal S1x4096x128 .bf16) (ix3 0 s l)
      = m ((c : Thread nD τ).loc main_arg0) (ix3 (sq t) s ⟨3584 + l.val, by omega⟩) := by
  blk_ext [iblk, V, idx t]

theorem blk4 (c : Dev nD) (t : Fin cfg0.N) (s : Fin 4096) (l : Fin 128) :
    (iblk m c 4 t : FVec Ideal S1x4096x128 .bf16) (ix3 0 s l)
      = m ((c : Thread nD τ).loc main_arg0) (ix3 (sq t) s ⟨3712 + l.val, by omega⟩) := by
  blk_ext [iblk, V, idx t]

/-- A block's transpose. -/
theorem turn (x : FVec Ideal S1x128x128 .bf16) (d n : Fin 128) : k0_pay2 (F := Ideal) x (ix3 0 d n) = x (ix3 0 n d) := by
  pointwise [k0_pay2]

theorem held_at (c : Dev nD) (t : Fin cfg0.N) (j : Fin 32) (d n : Fin 128) :
    (held m c t.val : FVec Ideal S32x128x128 .bf16) (ix3 j d n)
      = m ((c : Thread nD τ).loc main_arg0) (ix3 (sq t) ⟨128 * j.val + n.val, by omega⟩ ⟨3712 + d.val, by omega⟩) := by
  refine (turn _ d n).trans ((blk4 m c (firstOf t.val) ⟨128 * j.val + n.val, by omega⟩ d).trans ?_)
  have e : sq (firstOf t.val) = sq t := Fin.ext (by show 4 * (t.val / 4) % 32 / 4 = t.val / 4; have := t.isLt; have : cfg0.N = 32 := N_0; omega)
  rw [e]

/-- What a point stores for its block `r`. -/
theorem store_at (c : Dev nD) (h0 : ∀ y, m ((c : Thread nD τ).loc main_arg0) y ≠ (⊤ : EReal) ∧ m ((c : Thread nD τ).loc main_arg0) y ≠ (⊥ : EReal))
    (h1 : ∀ y, m ((c : Thread nD τ).loc main_arg1) y ≠ (⊤ : EReal) ∧ m ((c : Thread nD τ).loc main_arg1) y ≠ (⊥ : EReal))
    (t : Fin cfg0.N) (r : Fin 8) (sl0 sl1 sk0 sk1 : Vec Ideal S1x1x512 .f32) (q : Vec Ideal S1x128x512 .bf16) (kc kp vc vp : Vec Ideal S1x128x128 .bf16)
    (hs0 : ∀ x : Fin 512, sl0 (ix3 0 0 x) = (iblk m c 0 t : FVec Ideal S2x1x512 .f32) (ix3 0 0 x))
    (hs1 : ∀ x : Fin 512, sl1 (ix3 0 0 x) = (iblk m c 0 t : FVec Ideal S2x1x512 .f32) (ix3 1 0 x))
    (hz0 : ∀ x : Fin 512, sk0 (ix3 0 0 x) = (iblk m c 1 t : FVec Ideal S2x1x512 .f32) (ix3 0 0 x))
    (hz1 : ∀ x : Fin 512, sk1 (ix3 0 0 x) = (iblk m c 1 t : FVec Ideal S2x1x512 .f32) (ix3 1 0 x))
    (hq : ∀ (i : Fin 128) (e : Fin 512), q (ix3 0 i e) = (X0_2 m c t : FVec Ideal S1x1024x512 .bf16) (ix3 0 ⟨128 * r.val + i.val, by omega⟩ e))
    (hkc : ∀ i e : Fin 128, kc (ix3 0 i e) = (iblk m c 3 t : FVec Ideal S1x4096x128 .bf16) (ix3 0 ⟨128 * (8 * (t.val % 4) + r.val) + i.val, by omega⟩ e))
    (hkp : ∀ i e : Fin 128, kp (ix3 0 i e) = (iblk m c 3 t : FVec Ideal S1x4096x128 .bf16) (ix3 0 ⟨128 * (8 * (t.val % 4) + r.val - 1) + i.val, by omega⟩ e))
    (hvc : ∀ e i : Fin 128, vc (ix3 0 e i) = (held m c t.val : FVec Ideal S32x128x128 .bf16) (ix3 ⟨8 * (t.val % 4) + r.val, by omega⟩ e i))
    (hvp : ∀ e i : Fin 128, vp (ix3 0 e i) = (held m c t.val : FVec Ideal S32x128x128 .bf16) (ix3 ⟨8 * (t.val % 4) + r.val - 1, by omega⟩ e i))
    (i : Fin 128) (l : Fin 512) :
    blkOut sl0 sl1 sk0 sk1 q kc kp vc vp (blkNo (grid0.coords t) r) (ix3 0 i l)
      = SwaSpec.OUT (m ((c : Thread nD τ).loc main_arg0)) (m ((c : Thread nD τ).loc main_arg1))
          (ix3 (sq t) ⟨128 * (8 * (t.val % 4) + r.val) + i.val, by omega⟩ l) := by
  have hA := fun b i e i' e' => SwaSpec.AT_eq (m ((c : Thread nD τ).loc main_arg0)) h0 b i e i' e'
  have hz : ∀ h : Fin 8, m ((c : Thread nD τ).loc main_arg1) (ix2 1 h) = ((m ((c : Thread nD τ).loc main_arg1) (ix2 1 h) : EReal).toReal : EReal) :=
    fun h => (EReal.coe_toReal (h1 _).1 (h1 _).2).symm
  refine (blkOut_val sl0 sl1 sk0 sk1 q kc kp vc vp _ (0 < 8 * (t.val % 4) + r.val) (offs t r).2.2.2.2 SwaSpec.SL
    (fun h => (m ((c : Thread nD τ).loc main_arg1) (ix2 1 h) : EReal).toReal)
    (fun i e => SwaSpec.AT (m ((c : Thread nD τ).loc main_arg0)) (sq t) (128 * (8 * (t.val % 4) + r.val) + i.val) (3072 + e.val))
    (fun i e => SwaSpec.AT (m ((c : Thread nD τ).loc main_arg0)) (sq t) (128 * (8 * (t.val % 4) + r.val) + i.val) (3584 + e.val))
    (fun i e => SwaSpec.AT (m ((c : Thread nD τ).loc main_arg0)) (sq t) (128 * (8 * (t.val % 4) + r.val - 1) + i.val) (3584 + e.val))
    (fun e i => SwaSpec.AT (m ((c : Thread nD τ).loc main_arg0)) (sq t) (128 * (8 * (t.val % 4) + r.val) + i.val) (3712 + e.val))
    (fun e i => SwaSpec.AT (m ((c : Thread nD τ).loc main_arg0)) (sq t) (128 * (8 * (t.val % 4) + r.val - 1) + i.val) (3712 + e.val))
    (fun x => (hs0 x).trans ((blk0 m c t 0 x).trans (congrArg (fun h => (SwaSpec.SL h : EReal)) (Fin.ext (by show 4 * 0 + x.val / 128 = _; dsimp only; omega)))))
    (fun x => (hs1 x).trans ((blk0 m c t 1 x).trans (congrArg (fun h => (SwaSpec.SL h : EReal)) (Fin.ext (by show 4 * 1 + x.val / 128 = _; dsimp only)))))
    (fun x => (hz0 x).trans ((blk1 m c t 0 x).trans ((hz _).trans (congrArg (fun h => ((m ((c : Thread nD τ).loc main_arg1) (ix2 1 h) : EReal).toReal : EReal)) (Fin.ext (by show 4 * 0 + x.val / 128 = _; dsimp only; omega))))))
    (fun x => (hz1 x).trans ((blk1 m c t 1 x).trans ((hz _).trans (congrArg (fun h => ((m ((c : Thread nD τ).loc main_arg1) (ix2 1 h) : EReal).toReal : EReal)) (Fin.ext (by show 4 * 1 + x.val / 128 = _; dsimp only))))))
    (fun i e => (hq i e).trans ((blk2 m c t _ _).trans (hA _ _ _ _ _ (by dsimp only; omega) (by dsimp only))))
    (fun i e => (hkc i e).trans ((blk3 m c t _ _).trans (hA _ _ _ _ _ (by dsimp only) (by dsimp only))))
    (fun i e => (hkp i e).trans ((blk3 m c t _ _).trans (hA _ _ _ _ _ (by dsimp only) (by dsimp only))))
    (fun e i => (hvc e i).trans ((held_at m c t _ _ _).trans (hA _ _ _ _ _ (by dsimp only) (by dsimp only))))
    (fun e i => (hvp e i).trans ((held_at m c t _ _ _).trans (hA _ _ _ _ _ (by dsimp only) (by dsimp only)))) i l).trans ?_
  exact (SwaSpec.OUT_of _ _ _ _ _ (8 * (t.val % 4) + r.val) i rfl).symm

/-- The same at an index of the array, given where the block sits. -/
theorem piece_at (c : Dev nD) (h0 : ∀ y, m ((c : Thread nD τ).loc main_arg0) y ≠ (⊤ : EReal) ∧ m ((c : Thread nD τ).loc main_arg0) y ≠ (⊥ : EReal))
    (h1 : ∀ y, m ((c : Thread nD τ).loc main_arg1) y ≠ (⊤ : EReal) ∧ m ((c : Thread nD τ).loc main_arg1) y ≠ (⊥ : EReal))
    (t : Fin cfg0.N) (r : Fin 8) (sl0 sl1 sk0 sk1 : Vec Ideal S1x1x512 .f32) (q : Vec Ideal S1x128x512 .bf16) (kc kp vc vp : Vec Ideal S1x128x128 .bf16)
    (hs0 : ∀ x : Fin 512, sl0 (ix3 0 0 x) = (iblk m c 0 t : FVec Ideal S2x1x512 .f32) (ix3 0 0 x))
    (hs1 : ∀ x : Fin 512, sl1 (ix3 0 0 x) = (iblk m c 0 t : FVec Ideal S2x1x512 .f32) (ix3 1 0 x))
    (hz0 : ∀ x : Fin 512, sk0 (ix3 0 0 x) = (iblk m c 1 t : FVec Ideal S2x1x512 .f32) (ix3 0 0 x))
    (hz1 : ∀ x : Fin 512, sk1 (ix3 0 0 x) = (iblk m c 1 t : FVec Ideal S2x1x512 .f32) (ix3 1 0 x))
    (hq : ∀ (i : Fin 128) (e : Fin 512), q (ix3 0 i e) = (X0_2 m c t : FVec Ideal S1x1024x512 .bf16) (ix3 0 ⟨128 * r.val + i.val, by omega⟩ e))
    (hkc : ∀ i e : Fin 128, kc (ix3 0 i e) = (iblk m c 3 t : FVec Ideal S1x4096x128 .bf16) (ix3 0 ⟨128 * (8 * (t.val % 4) + r.val) + i.val, by omega⟩ e))
    (hkp : ∀ i e : Fin 128, kp (ix3 0 i e) = (iblk m c 3 t : FVec Ideal S1x4096x128 .bf16) (ix3 0 ⟨128 * (8 * (t.val % 4) + r.val - 1) + i.val, by omega⟩ e))
    (hvc : ∀ e i : Fin 128, vc (ix3 0 e i) = (held m c t.val : FVec Ideal S32x128x128 .bf16) (ix3 ⟨8 * (t.val % 4) + r.val, by omega⟩ e i))
    (hvp : ∀ e i : Fin 128, vp (ix3 0 e i) = (held m c t.val : FVec Ideal S32x128x128 .bf16) (ix3 ⟨8 * (t.val % 4) + r.val - 1, by omega⟩ e i))
    (x : S1x128x512.Idx) (y1 : Fin 1024) (y2 : Fin 512) (e1 : y1.val = 128 * r.val + (x 1).val) (e2 : y2.val = 0 + (x 2).val) :
    blkOut sl0 sl1 sk0 sk1 q kc kp vc vp (blkNo (grid0.coords t) r) x
      = SwaSpec.OUT (m ((c : Thread nD τ).loc main_arg0)) (m ((c : Thread nD τ).loc main_arg1))
          (((cfg0.win 5).blk t).view.emb (ix3 0 y1 y2)) := by
  idx_vars x
  obtain rfl : x0 = 0 := Subsingleton.elim _ _
  refine (store_at m c h0 h1 t r _ _ _ _ _ _ _ _ _ hs0 hs1 hz0 hz1 hq hkc hkp hvc hvp x1 x2).trans (congrArg _ ?_)
  have e1' : y1.val = 128 * r.val + x1.val := e1
  have e2' : y2.val = 0 + x2.val := e2
  blk_ext [idx t]

set_option maxHeartbeats 1600000 in
/-- The array the call leaves. -/
theorem final (c : Dev nD) (h0 : ∀ y, m ((c : Thread nD τ).loc main_arg0) y ≠ (⊤ : EReal) ∧ m ((c : Thread nD τ).loc main_arg0) y ≠ (⊥ : EReal))
    (h1 : ∀ y, m ((c : Thread nD τ).loc main_arg1) y ≠ (⊤ : EReal) ∧ m ((c : Thread nD τ).loc main_arg1) y ≠ (⊥ : EReal)) :
    (dats m 0 c).arrAt 5 cfg0.N = SwaSpec.OUT (m ((c : Thread nD τ).loc main_arg0)) (m ((c : Thread nD τ).loc main_arg1)) := by
  refine (dats m 0 c).arrAt_eq_of_covers 5 _ (by decide +kernel) fun t hf y => ?_
  blk_simp
  rw [after_5]
  unfold outAt
  refine View.canon_eq_of_allAt _ _ _ (run_cover ..) ?_
  rw [pieces]
  idx_vars y
  obtain rfl : y0 = 0 := Subsingleton.elim _ _
  refine View.allAt_cons_unit _ _ _ _ _ (fun x hx => ?_) ?_
  · exact piece_at m c h0 h1 t 7 _ _ _ _ _ _ _ _ _
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ _ => rd _ _ _ _ 0 896 0 rfl _ _ _ _ _ _ rfl rfl (Nat.zero_add _).symm)
      (fun _ _ => rd _ _ _ _ _ _ _ (offs t 7).1 _ _ _ _ _ _ rfl rfl (Nat.zero_add _).symm)
      (fun _ _ => rd _ _ _ _ _ _ _ (offs t 7).2.1 _ _ _ _ _ _ rfl rfl (Nat.zero_add _).symm)
      (fun _ _ => rd _ _ _ _ _ _ _ (offs t 7).2.2.1 _ _ _ _ _ _ rfl (Nat.zero_add _).symm (Nat.zero_add _).symm)
      (fun _ _ => rd _ _ _ _ _ _ _ (offs t 7).2.2.2.1 _ _ _ _ _ _ rfl (Nat.zero_add _).symm (Nat.zero_add _).symm) x _ _ (hx 1) (hx 2)
  refine View.allAt_cons_unit _ _ _ _ _ (fun x hx => ?_) ?_
  · exact piece_at m c h0 h1 t 6 _ _ _ _ _ _ _ _ _
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ _ => rd _ _ _ _ 0 768 0 rfl _ _ _ _ _ _ rfl rfl (Nat.zero_add _).symm)
      (fun _ _ => rd _ _ _ _ _ _ _ (offs t 6).1 _ _ _ _ _ _ rfl rfl (Nat.zero_add _).symm)
      (fun _ _ => rd _ _ _ _ _ _ _ (offs t 6).2.1 _ _ _ _ _ _ rfl rfl (Nat.zero_add _).symm)
      (fun _ _ => rd _ _ _ _ _ _ _ (offs t 6).2.2.1 _ _ _ _ _ _ rfl (Nat.zero_add _).symm (Nat.zero_add _).symm)
      (fun _ _ => rd _ _ _ _ _ _ _ (offs t 6).2.2.2.1 _ _ _ _ _ _ rfl (Nat.zero_add _).symm (Nat.zero_add _).symm) x _ _ (hx 1) (hx 2)
  refine View.allAt_cons_unit _ _ _ _ _ (fun x hx => ?_) ?_
  · exact piece_at m c h0 h1 t 5 _ _ _ _ _ _ _ _ _
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ _ => rd _ _ _ _ 0 640 0 rfl _ _ _ _ _ _ rfl rfl (Nat.zero_add _).symm)
      (fun _ _ => rd _ _ _ _ _ _ _ (offs t 5).1 _ _ _ _ _ _ rfl rfl (Nat.zero_add _).symm)
      (fun _ _ => rd _ _ _ _ _ _ _ (offs t 5).2.1 _ _ _ _ _ _ rfl rfl (Nat.zero_add _).symm)
      (fun _ _ => rd _ _ _ _ _ _ _ (offs t 5).2.2.1 _ _ _ _ _ _ rfl (Nat.zero_add _).symm (Nat.zero_add _).symm)
      (fun _ _ => rd _ _ _ _ _ _ _ (offs t 5).2.2.2.1 _ _ _ _ _ _ rfl (Nat.zero_add _).symm (Nat.zero_add _).symm) x _ _ (hx 1) (hx 2)
  refine View.allAt_cons_unit _ _ _ _ _ (fun x hx => ?_) ?_
  · exact piece_at m c h0 h1 t 4 _ _ _ _ _ _ _ _ _
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ _ => rd _ _ _ _ 0 512 0 rfl _ _ _ _ _ _ rfl rfl (Nat.zero_add _).symm)
      (fun _ _ => rd _ _ _ _ _ _ _ (offs t 4).1 _ _ _ _ _ _ rfl rfl (Nat.zero_add _).symm)
      (fun _ _ => rd _ _ _ _ _ _ _ (offs t 4).2.1 _ _ _ _ _ _ rfl rfl (Nat.zero_add _).symm)
      (fun _ _ => rd _ _ _ _ _ _ _ (offs t 4).2.2.1 _ _ _ _ _ _ rfl (Nat.zero_add _).symm (Nat.zero_add _).symm)
      (fun _ _ => rd _ _ _ _ _ _ _ (offs t 4).2.2.2.1 _ _ _ _ _ _ rfl (Nat.zero_add _).symm (Nat.zero_add _).symm) x _ _ (hx 1) (hx 2)
  refine View.allAt_cons_unit _ _ _ _ _ (fun x hx => ?_) ?_
  · exact piece_at m c h0 h1 t 3 _ _ _ _ _ _ _ _ _
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ _ => rd _ _ _ _ 0 384 0 rfl _ _ _ _ _ _ rfl rfl (Nat.zero_add _).symm)
      (fun _ _ => rd _ _ _ _ _ _ _ (offs t 3).1 _ _ _ _ _ _ rfl rfl (Nat.zero_add _).symm)
      (fun _ _ => rd _ _ _ _ _ _ _ (offs t 3).2.1 _ _ _ _ _ _ rfl rfl (Nat.zero_add _).symm)
      (fun _ _ => rd _ _ _ _ _ _ _ (offs t 3).2.2.1 _ _ _ _ _ _ rfl (Nat.zero_add _).symm (Nat.zero_add _).symm)
      (fun _ _ => rd _ _ _ _ _ _ _ (offs t 3).2.2.2.1 _ _ _ _ _ _ rfl (Nat.zero_add _).symm (Nat.zero_add _).symm) x _ _ (hx 1) (hx 2)
  refine View.allAt_cons_unit _ _ _ _ _ (fun x hx => ?_) ?_
  · exact piece_at m c h0 h1 t 2 _ _ _ _ _ _ _ _ _
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ _ => rd _ _ _ _ 0 256 0 rfl _ _ _ _ _ _ rfl rfl (Nat.zero_add _).symm)
      (fun _ _ => rd _ _ _ _ _ _ _ (offs t 2).1 _ _ _ _ _ _ rfl rfl (Nat.zero_add _).symm)
      (fun _ _ => rd _ _ _ _ _ _ _ (offs t 2).2.1 _ _ _ _ _ _ rfl rfl (Nat.zero_add _).symm)
      (fun _ _ => rd _ _ _ _ _ _ _ (offs t 2).2.2.1 _ _ _ _ _ _ rfl (Nat.zero_add _).symm (Nat.zero_add _).symm)
      (fun _ _ => rd _ _ _ _ _ _ _ (offs t 2).2.2.2.1 _ _ _ _ _ _ rfl (Nat.zero_add _).symm (Nat.zero_add _).symm) x _ _ (hx 1) (hx 2)
  refine View.allAt_cons_unit _ _ _ _ _ (fun x hx => ?_) ?_
  · exact piece_at m c h0 h1 t 1 _ _ _ _ _ _ _ _ _
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ _ => rd _ _ _ _ 0 128 0 rfl _ _ _ _ _ _ rfl rfl (Nat.zero_add _).symm)
      (fun _ _ => rd _ _ _ _ _ _ _ (offs t 1).1 _ _ _ _ _ _ rfl rfl (Nat.zero_add _).symm)
      (fun _ _ => rd _ _ _ _ _ _ _ (offs t 1).2.1 _ _ _ _ _ _ rfl rfl (Nat.zero_add _).symm)
      (fun _ _ => rd _ _ _ _ _ _ _ (offs t 1).2.2.1 _ _ _ _ _ _ rfl (Nat.zero_add _).symm (Nat.zero_add _).symm)
      (fun _ _ => rd _ _ _ _ _ _ _ (offs t 1).2.2.2.1 _ _ _ _ _ _ rfl (Nat.zero_add _).symm (Nat.zero_add _).symm) x _ _ (hx 1) (hx 2)
  refine View.allAt_cons_unit _ _ _ _ _ (fun x hx => ?_) ?_
  · exact piece_at m c h0 h1 t 0 _ _ _ _ _ _ _ _ _
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ => rd _ _ _ _ 0 0 0 rfl _ _ _ _ _ _ rfl (Nat.zero_add _).symm (Nat.zero_add _).symm) (fun _ => rd _ _ _ _ 1 0 0 rfl _ _ _ _ _ _ rfl (Nat.zero_add _).symm (Nat.zero_add _).symm)
      (fun _ _ => rd _ _ _ _ 0 0 0 rfl _ _ _ _ _ _ rfl rfl (Nat.zero_add _).symm)
      (fun _ _ => rd _ _ _ _ _ _ _ (offs t 0).1 _ _ _ _ _ _ rfl rfl (Nat.zero_add _).symm)
      (fun _ _ => rd _ _ _ _ _ _ _ (offs t 0).2.1 _ _ _ _ _ _ rfl rfl (Nat.zero_add _).symm)
      (fun _ _ => rd _ _ _ _ _ _ _ (offs t 0).2.2.1 _ _ _ _ _ _ rfl (Nat.zero_add _).symm (Nat.zero_add _).symm)
      (fun _ _ => rd _ _ _ _ _ _ _ (offs t 0).2.2.2.1 _ _ _ _ _ _ rfl (Nat.zero_add _).symm (Nat.zero_add _).symm) x _ _ (hx 1) (hx 2)
  exact View.allAt_nil _ _

end Cert.Kernel6Ideal.Swa
-- ==== Proof.Swa.RefDefs.lean ====
/-
  The sliding-window reference's result, named in parts.
-/
module

public import proofs.«01_k».proof.Proof.Gen.Reference6Ideal.Run
public import proofs.«01_k».proof.Proof.Swa.Spec

@[expose] public section

set_option maxRecDepth 16384

noncomputable section

open Idealize.ShloMosaic Idealize.ShloMosaic.TcCoe Idealize.SL.Sem
open scoped BigOperators

namespace Cert.Reference6Ideal.Swa

open Cert.Reference6Ideal Cert.Reference6Ideal.Gen Cert.Reference6Ideal.Value

/-- The keys each query may attend to: at most 127 places back, none before the sequence. -/
def rMask : IVec S8x32x2x4x128x256 1 :=
  broadcastInDim S8x32x2x4x128x256 ![0, 1, 2, 3, 4, 5] bcast_S1x32x1x1x128x256_S8x32x2x4x128x256_0_1_2_3_4_5 (broadcastInDim S1x32x1x1x128x256 ![1, 4, 5] bcast_S32x128x256_S1x32x1x1x128x256_1_4_5 (andi (broadcastInDim S32x128x256 ![0, 1, 2] bcast_S1x128x256_S32x128x256_0_1_2 (andi (broadcastInDim S1x128x256 ![1, 2] bcast_S128x256_S1x128x256_1_2 (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))) (broadcastInDim S1x128x256 ![1, 2] bcast_S128x256_S1x128x256_1_2 (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S32x128x256 ![0, 1, 2] bcast_S32x1x256_S32x128x256_0_1_2 (broadcastInDim S32x1x256 ![0, 2] bcast_S32x256_S32x1x256_0_2 (cmpi .sge (addi (broadcastInDim S32x256 ![0, 1] bcast_S32x1_S32x256_0_1 (muli (subi (broadcastInDim S32x1 ![0] bcast_S32_S32x1_0 (iotaInDim S32 32 0)) (broadcastInDim S32x1 ![] bcast_S_S32x1 (constantI S_ 32 1#32))) (broadcastInDim S32x1 ![] bcast_S_S32x1 (constantI S_ 32 128#32)))) (broadcastInDim S32x256 ![0, 1] bcast_S1x256_S32x256_0_1 (broadcastInDim S1x256 ![1] bcast_S256_S1x256_1 (iotaInDim S256 32 0)))) (broadcastInDim S32x256 ![] bcast_S_S32x256 (constantI S_ 32 0#32)))))))

/-- The slope times the distance. -/
def rBias : FVec Ideal S8x32x2x4x128x256 .f32 :=
  broadcastInDim S8x32x2x4x128x256 ![0, 1, 2, 3, 4, 5] bcast_S1x1x2x4x128x256_S8x32x2x4x128x256_0_1_2_3_4_5 (mulf (broadcastInDim S1x1x2x4x128x256 ![0, 1, 2, 3, 4, 5] bcast_S1x1x2x4x1x1_S1x1x2x4x128x256_0_1_2_3_4_5 (broadcastInDim S1x1x2x4x1x1 ![2, 3] bcast_S2x4_S1x1x2x4x1x1_2_3 (shapeCast _ (extractStridedSlice S8 ![0] (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))) slices_S16_S8_0) shapeCasts_S8_S2x4))) (broadcastInDim S1x1x2x4x128x256 ![0, 1, 2, 3, 4, 5] bcast_S1x1x1x1x128x256_S1x1x2x4x128x256_0_1_2_3_4_5 (broadcastInDim S1x1x1x1x128x256 ![4, 5] bcast_S128x256_S1x1x1x1x128x256_4_5 (sitofp .f32 (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0))))))))

/-- The values of a block and of the one before. -/
def rV (a0 : FVec Ideal S8x4096x5376 .bf16) : FVec Ideal S8x32x256x2x64 .f32 :=
  concatenate S8x32x256x2x64 2 [⟨S8x32x128x2x64, (extractStridedSlice S8x32x128x2x64 ![0, 0, 0, 0, 0] (pad S8x33x128x2x64 ![0, 1, 0, 0, 0] ![0, 0, 0, 0, 0] ![0, 0, 0, 0, 0] (shapeCast _ (shapeCast _ (extf .f32 (extractStridedSlice S8x4096x128 ![0, 0, 3712] a0 slices_S8x4096x5376_S8x4096x128_0_0_3712) bitsLt_bf16_f32) shapeCasts_S8x4096x128_S8x4096x2x64) shapeCasts_S8x4096x2x64_S8x32x128x2x64) (sitofp .f32 (constantI S_ 32 0#32)) pads_S8x32x128x2x64_S8x33x128x2x64_000_100_000_000_000 h_S_) slices_S8x33x128x2x64_S8x32x128x2x64_0_0_0_0_0)⟩, ⟨S8x32x128x2x64, (shapeCast _ (shapeCast _ (extf .f32 (extractStridedSlice S8x4096x128 ![0, 0, 3712] a0 slices_S8x4096x5376_S8x4096x128_0_0_3712) bitsLt_bf16_f32) shapeCasts_S8x4096x128_S8x4096x2x64) shapeCasts_S8x4096x2x64_S8x32x128x2x64)⟩] concatenates_S8x32x128x2x64_S8x32x128x2x64_S8x32x256x2x64_d2

/-- The keys of a block and of the one before. -/
def rK (a0 : FVec Ideal S8x4096x5376 .bf16) : FVec Ideal S8x32x256x2x64 .f32 :=
  concatenate S8x32x256x2x64 2 [⟨S8x32x128x2x64, (extractStridedSlice S8x32x128x2x64 ![0, 0, 0, 0, 0] (pad S8x33x128x2x64 ![0, 1, 0, 0, 0] ![0, 0, 0, 0, 0] ![0, 0, 0, 0, 0] (shapeCast _ (shapeCast _ (extf .f32 (extractStridedSlice S8x4096x128 ![0, 0, 3584] a0 slices_S8x4096x5376_S8x4096x128_0_0_3584) bitsLt_bf16_f32) shapeCasts_S8x4096x128_S8x4096x2x64) shapeCasts_S8x4096x2x64_S8x32x128x2x64) (sitofp .f32 (constantI S_ 32 0#32)) pads_S8x32x128x2x64_S8x33x128x2x64_000_100_000_000_000 h_S_) slices_S8x33x128x2x64_S8x32x128x2x64_0_0_0_0_0)⟩, ⟨S8x32x128x2x64, (shapeCast _ (shapeCast _ (extf .f32 (extractStridedSlice S8x4096x128 ![0, 0, 3584] a0 slices_S8x4096x5376_S8x4096x128_0_0_3584) bitsLt_bf16_f32) shapeCasts_S8x4096x128_S8x4096x2x64) shapeCasts_S8x4096x2x64_S8x32x128x2x64)⟩] concatenates_S8x32x128x2x64_S8x32x128x2x64_S8x32x256x2x64_d2

/-- The scaled queries. -/
def rQ (a0 : FVec Ideal S8x4096x5376 .bf16) : FVec Ideal S8x32x128x2x4x64 .f32 :=
  shapeCast _ (mulf (shapeCast _ (extf .f32 (extractStridedSlice S8x4096x512 ![0, 0, 3072] a0 slices_S8x4096x5376_S8x4096x512_0_0_3072) bitsLt_bf16_f32) shapeCasts_S8x4096x512_S8x4096x8x64) (broadcastInDim S8x4096x8x64 ![] bcast_S_S8x4096x8x64 (mulf (Host.log (constant S_ .f32 0x40000000#32)) (constant S_ .f32 0x41000000#32)))) shapeCasts_S8x4096x8x64_S8x32x128x2x4x64

/-- The masked scores. -/
def rL (k : FVec Ideal S8x32x256x2x64 .f32) (q : FVec Ideal S8x32x128x2x4x64 .f32) (mk : IVec S8x32x2x4x128x256 1) (bi : FVec Ideal S8x32x2x4x128x256 .f32) : FVec Ideal S8x32x2x4x128x256 .f32 :=
  select mk (subf (mulf (transpose S8x32x2x4x128x256 [0, 1, 2, 5, 4, 3] (Host.dotGeneral dot_S8x32x256x2x64_S8x32x128x2x4x64_S8x32x2x256x128x4_4_5_2_24_013_013 none k q) transposes_S8x32x2x256x128x4_S8x32x2x4x128x256_0_1_2_5_4_3) (broadcastInDim S8x32x2x4x128x256 ![] bcast_S_S8x32x2x4x128x256 (constant S_ .f32 0x3E000000#32))) bi) (broadcastInDim S8x32x2x4x128x256 ![] bcast_S_S8x32x2x4x128x256 (id (constant S_ .f32 0xFF800000#32)))

/-- The sinks. -/
def rS (a1 : FVec Ideal S2x8 .f32) : FVec Ideal S8x32x2x4x128x1 .f32 :=
  broadcastInDim S8x32x2x4x128x1 ![0, 1, 2, 3, 4, 5] bcast_S1x1x2x4x1x1_S8x32x2x4x128x1_0_1_2_3_4_5 (broadcastInDim S1x1x2x4x1x1 ![2, 3] bcast_S2x4_S1x1x2x4x1x1_2_3 (shapeCast _ (shapeCast _ (extractStridedSlice S1x8 ![1, 0] a1 slices_S2x8_S1x8_1_0) shapeCasts_S1x8_S8) shapeCasts_S8_S2x4))

/-- The largest score, the sink among them. -/
def rM (l : FVec Ideal S8x32x2x4x128x256 .f32) (z : FVec Ideal S8x32x2x4x128x1 .f32) : FVec Ideal S8x32x2x4x128x1 .f32 :=
  maximumf (broadcastInDim S8x32x2x4x128x1 ![0, 1, 2, 3, 4] bcast_S8x32x2x4x128_S8x32x2x4x128x1_0_1_2_3_4 (Host.reduce FloatOps.maximumf l (constant S_ .f32 0xFF800000#32) reducesTo_S8x32x2x4x128x256_S8x32x2x4x128_d5 h_S_)) z

/-- The weights before division. -/
def rE (l : FVec Ideal S8x32x2x4x128x256 .f32) (x : FVec Ideal S8x32x2x4x128x1 .f32) : FVec Ideal S8x32x2x4x128x256 .f32 :=
  Host.exp (subf l (broadcastInDim S8x32x2x4x128x256 ![0, 1, 2, 3, 4, 5] bcast_S8x32x2x4x128x1_S8x32x2x4x128x256_0_1_2_3_4_5 x))

/-- Their sum, the sink's with them. -/
def rD (e : FVec Ideal S8x32x2x4x128x256 .f32) (z x : FVec Ideal S8x32x2x4x128x1 .f32) : FVec Ideal S8x32x2x4x128x1 .f32 :=
  addf (broadcastInDim S8x32x2x4x128x1 ![0, 1, 2, 3, 4] bcast_S8x32x2x4x128_S8x32x2x4x128x1_0_1_2_3_4 (Host.reduceAdd e (constant S_ .f32 0x00000000#32) reducesTo_S8x32x2x4x128x256_S8x32x2x4x128_d5 h_S_)) (Host.exp (subf z x))

/-- The weighted values. -/
def rO (v : FVec Ideal S8x32x256x2x64 .f32) (e : FVec Ideal S8x32x2x4x128x256 .f32) (d : FVec Ideal S8x32x2x4x128x1 .f32) : FVec Ideal S8x4096x512 .bf16 :=
  truncf .bf16 (shapeCast _ (transpose S8x32x128x2x4x64 [0, 1, 5, 2, 4, 3] (Host.dotGeneral dot_S8x32x256x2x64_S8x32x2x4x128x256_S8x32x2x64x4x128_2_5_4_34_013_012 none v (Host.divf e (broadcastInDim S8x32x2x4x128x256 ![0, 1, 2, 3, 4, 5] bcast_S8x32x2x4x128x1_S8x32x2x4x128x256_0_1_2_3_4_5 d))) transposes_S8x32x2x64x4x128_S8x32x128x2x4x64_0_1_5_2_4_3) shapeCasts_S8x32x128x2x4x64_S8x4096x512) bitsLt_bf16_f32

/-- Six coordinates' head. -/
abbrev hd (kv : Fin 2) (g : Fin 4) : Fin 8 := ⟨kv.val * 4 + g.val, by omega⟩

/-- The whole of it. -/
def REF (a0 : FVec Ideal S8x4096x5376 .bf16) (a1 : FVec Ideal S2x8 .f32) : FVec Ideal S8x4096x512 .bf16 :=
  rO (rV a0) (rE (rL (rK a0) (rQ a0) rMask rBias) (rM (rL (rK a0) (rQ a0) rMask rBias) (rS a1)))
      (rD (rE (rL (rK a0) (rQ a0) rMask rBias) (rM (rL (rK a0) (rQ a0) rMask rBias) (rS a1))) (rS a1) (rM (rL (rK a0) (rQ a0) rMask rBias) (rS a1)))

theorem REF_is (m : (ℓ : Loc nD τ sig) → Buf (Elt Ideal) ℓ) (c : Dev nD) :
    res_out0 m c = REF (m ((c.tc : Thread nD τ).loc main_arg0)) (m ((c.tc : Thread nD τ).loc main_arg1)) := rfl

end Cert.Reference6Ideal.Swa

end
-- ==== Proof.Swa.RefMask.lean ====
/-
  The sliding-window reference's masks and slopes, read at an index.
-/
module

public import proofs.«01_k».proof.Proof.Swa.RefDefs

@[expose] public section

set_option maxRecDepth 16384

noncomputable section

open Idealize.ShloMosaic Idealize.ShloMosaic.TcCoe Idealize.SL.Sem
open scoped BigOperators

namespace Cert.Reference6Ideal.Swa

open Cert.Reference6Ideal Cert.Reference6Ideal.Gen Cert.Reference6Ideal.Value

theorem w1 : ∀ (r : Fin 128) (k : Fin 256), IntOp.cmpi .sge (IntOp.subi (IntOp.addi (BitVec.ofNat 32 r.val) 128#32) (BitVec.ofNat 32 k.val)) 0#32
    = if k.val ≤ r.val + 128 then 1#1 else 0#1 := by decide +kernel

theorem w2 : ∀ (r : Fin 128) (k : Fin 256), IntOp.cmpi .slt (IntOp.subi (IntOp.addi (BitVec.ofNat 32 r.val) 128#32) (BitVec.ofNat 32 k.val)) 128#32
    = if r.val < k.val then 1#1 else 0#1 := by decide +kernel

theorem w3 : ∀ (n : Fin 32) (k : Fin 256), IntOp.cmpi .sge (IntOp.addi (IntOp.muli (IntOp.subi (BitVec.ofNat 32 n.val) 1#32) 128#32) (BitVec.ofNat 32 k.val)) 0#32
    = if 0 < n.val ∨ 128 ≤ k.val then 1#1 else 0#1 := by decide +kernel

theorem w4 : ∀ (r : Fin 128) (k : Fin 256), (IntOp.subi (IntOp.addi (BitVec.ofNat 32 r.val) 128#32) (BitVec.ofNat 32 k.val)).toInt
    = (r.val : ℤ) + 128 - (k.val : ℤ) := by decide +kernel

theorem w5 : ∀ h : Fin 8, (BitVec.ofNat 32 h.val).toInt = (h.val : ℤ) := by decide +kernel

theorem and_if (p q : Prop) [Decidable p] [Decidable q] :
    IntOp.andi (if p then 1#1 else 0#1) (if q then 1#1 else 0#1) = if p ∧ q then 1#1 else 0#1 := by
  by_cases hp : p <;> by_cases hq : q <;> simp [IntOp.andi, hp, hq]

set_option maxHeartbeats 4000000 in
theorem rMask_at (b : Fin 8) (n : Fin 32) (kv : Fin 2) (g : Fin 4) (r : Fin 128) (k : Fin 256) : rMask (ix6 b n kv g r k)
    = if (k.val ≤ r.val + 128 ∧ r.val < k.val) ∧ (0 < n.val ∨ 128 ≤ k.val) then 1#1 else 0#1 := by
  pointwise [rMask]
  rw [w1, w2, w3, and_if, and_if]

set_option maxHeartbeats 4000000 in
theorem rBias_at (b : Fin 8) (n : Fin 32) (kv : Fin 2) (g : Fin 4) (r : Fin 128) (k : Fin 256) : rBias (ix6 b n kv g r k)
    = ((SwaSpec.SL (hd kv g) * ((r.val : ℝ) + 128 - (k.val : ℝ)) : ℝ) : EReal) := by
  pointwise [rBias]
  have e1 : (FloatOps.sitofp FTy.f32 (BitVec.ofNat 32 (kv.val * 4 + g.val)) : Ideal .f32) = (((hd kv g).val : ℝ) : EReal) := by
    simp only [FloatOps.sitofp, w5 (hd kv g)]
    norm_num
  have e2 : (FloatOps.sitofp FTy.f32 (IntOp.subi (IntOp.addi (BitVec.ofNat 32 r.val) 128#32) (BitVec.ofNat 32 k.val)) : Ideal .f32)
      = (((r.val : ℝ) + 128 - (k.val : ℝ) : ℝ) : EReal) := by
    simp only [FloatOps.sitofp, w4]
    norm_num
  rw [e1, e2, SwaSpec.slope_eq, EReal.coe_mul]

end Cert.Reference6Ideal.Swa

end
-- ==== Proof.Swa.RefScore.lean ====
/-
  The sliding-window reference's queries, scores and sinks, read at an index.
-/
module

public import proofs.«01_k».proof.Proof.Swa.RefDefs

@[expose] public section

set_option maxRecDepth 16384

noncomputable section

open Idealize.ShloMosaic Idealize.ShloMosaic.TcCoe Idealize.SL.Sem
open scoped BigOperators

namespace Cert.Reference6Ideal.Swa

open Cert.Reference6Ideal Cert.Reference6Ideal.Gen Cert.Reference6Ideal.Value

set_option maxHeartbeats 4000000 in
theorem rQ_at (a0 : FVec Ideal S8x4096x5376 .bf16) (b : Fin 8) (n : Fin 32) (r : Fin 128) (kv : Fin 2) (g : Fin 4) (d : Fin 64) : rQ a0 (ix6 b n r kv g d)
    = a0 (ix3 b ⟨n.val * 128 + r.val, by omega⟩ ⟨3072 + ((kv.val * 4 + g.val) * 64 + d.val), by omega⟩) * ((Real.log 2 * 8 : ℝ) : EReal) := by
  pointwise [rQ]
  rw [SwaSpec.bits_2, SwaSpec.bits_8, Ideal.log_coe, if_neg (by norm_num), EReal.coe_mul]

set_option maxHeartbeats 4000000 in
theorem rL_at (k : FVec Ideal S8x32x256x2x64 .f32) (q : FVec Ideal S8x32x128x2x4x64 .f32) (mk : IVec S8x32x2x4x128x256 1) (bi : FVec Ideal S8x32x2x4x128x256 .f32) (b : Fin 8) (n : Fin 32) (kv : Fin 2) (g : Fin 4) (r : Fin 128) (j : Fin 256) :
    rL k q mk bi (ix6 b n kv g r j) = Scalar.select (mk (ix6 b n kv g r j))
      ((∑ x, k (ix5 b n j kv x) * q (ix6 b n r kv g x)) * ((1 / 8 : ℝ) : EReal) - bi (ix6 b n kv g r j)) (⊥ : EReal) := by
  pointwise [rL]
  rw [SwaSpec.bits_eighth]
  exact congrArg _ SwaSpec.bits_ninf

set_option maxHeartbeats 4000000 in
theorem rS_at (a1 : FVec Ideal S2x8 .f32) (b : Fin 8) (n : Fin 32) (kv : Fin 2) (g : Fin 4) (r : Fin 128) : rS a1 (ix6 b n kv g r 0) = a1 (ix2 1 (hd kv g)) := by
  pointwise [rS]

end Cert.Reference6Ideal.Swa

end
-- ==== Proof.Swa.RefMix.lean ====
/-
  The sliding-window reference's weights and weighted values, read at an index.
-/
module

public import proofs.«01_k».proof.Proof.Swa.RefDefs

@[expose] public section

set_option maxRecDepth 16384

noncomputable section

open Idealize.ShloMosaic Idealize.ShloMosaic.TcCoe Idealize.SL.Sem
open scoped BigOperators

namespace Cert.Reference6Ideal.Swa

open Cert.Reference6Ideal Cert.Reference6Ideal.Gen Cert.Reference6Ideal.Value

/-- The larger of an array and of the sinks. -/
def rMx (y : FVec Ideal S8x32x2x4x128 .f32) (z : FVec Ideal S8x32x2x4x128x1 .f32) : FVec Ideal S8x32x2x4x128x1 .f32 :=
  maximumf (broadcastInDim S8x32x2x4x128x1 ![0, 1, 2, 3, 4] bcast_S8x32x2x4x128_S8x32x2x4x128x1_0_1_2_3_4 y) z

set_option maxHeartbeats 4000000 in
theorem rMx_at (y : FVec Ideal S8x32x2x4x128 .f32) (z : FVec Ideal S8x32x2x4x128x1 .f32) (b : Fin 8) (n : Fin 32) (kv : Fin 2) (g : Fin 4) (r : Fin 128) : rMx y z (ix6 b n kv g r 0) = max (y (ix5 b n kv g r)) (z (ix6 b n kv g r 0)) := by
  pointwise [rMx]

theorem rM_real (l : FVec Ideal S8x32x2x4x128x256 .f32) (z : FVec Ideal S8x32x2x4x128x1 .f32) (b : Fin 8) (n : Fin 32) (kv : Fin 2) (g : Fin 4) (r : Fin 128) (hl : ∀ i, l i ≠ (⊤ : EReal)) (zr : ℝ) (hz : z (ix6 b n kv g r 0) = (zr : EReal)) :
    ∃ μ : ℝ, rM l z (ix6 b n kv g r 0) = (μ : EReal) := by
  have e : rM l z = rMx (Host.reduce max l (constant S_ .f32 0xFF800000#32) reducesTo_S8x32x2x4x128x256_S8x32x2x4x128_d5 h_S_) z := rfl
  have h := SwaSpec.reduce_ne_top l (constant (F := Ideal) S_ .f32 0xFF800000#32) reducesTo_S8x32x2x4x128x256_S8x32x2x4x128_d5 h_S_ (ix5 b n kv g r) hl (fun _ => SwaSpec.bits_ninf)
  rw [e, rMx_at, hz]
  generalize Host.reduce max l (constant (F := Ideal) S_ .f32 0xFF800000#32) reducesTo_S8x32x2x4x128x256_S8x32x2x4x128_d5 h_S_ (ix5 b n kv g r) = w at h
  exact ⟨_, (EReal.coe_toReal (max_lt (lt_top_iff_ne_top.mpr h) (EReal.coe_lt_top zr)).ne (lt_max_of_lt_right (EReal.bot_lt_coe zr)).ne').symm⟩

set_option maxHeartbeats 4000000 in
theorem rE_at (l : FVec Ideal S8x32x2x4x128x256 .f32) (x : FVec Ideal S8x32x2x4x128x1 .f32) (b : Fin 8) (n : Fin 32) (kv : Fin 2) (g : Fin 4) (r : Fin 128) (j : Fin 256) : rE l x (ix6 b n kv g r j) = Ideal.exp (l (ix6 b n kv g r j) - x (ix6 b n kv g r 0)) := by
  pointwise [rE]

set_option maxHeartbeats 4000000 in
theorem rD_at (e : FVec Ideal S8x32x2x4x128x256 .f32) (z x : FVec Ideal S8x32x2x4x128x1 .f32) (b : Fin 8) (n : Fin 32) (kv : Fin 2) (g : Fin 4) (r : Fin 128) : rD e z x (ix6 b n kv g r 0)
    = (∑ j, e (ix6 b n kv g r j)) + Ideal.exp (z (ix6 b n kv g r 0) - x (ix6 b n kv g r 0)) := by
  pointwise [rD]
  rw [SwaSpec.sum_last, zero_add]

set_option maxHeartbeats 4000000 in
theorem rO_at (v : FVec Ideal S8x32x256x2x64 .f32) (e : FVec Ideal S8x32x2x4x128x256 .f32) (d : FVec Ideal S8x32x2x4x128x1 .f32) (b : Fin 8) (s : Fin 4096) (c : Fin 512) : rO v e d (ix3 b s c)
    = ∑ x, v (ix5 b ⟨s.val / 128, by omega⟩ x ⟨c.val / 256, by omega⟩ ⟨c.val % 64, by omega⟩) *
        Ideal.div (e (ix6 b ⟨s.val / 128, by omega⟩ ⟨c.val / 256, by omega⟩ ⟨c.val / 64 % 4, by omega⟩ ⟨s.val % 128, by omega⟩ x))
          (d (ix6 b ⟨s.val / 128, by omega⟩ ⟨c.val / 256, by omega⟩ ⟨c.val / 64 % 4, by omega⟩ ⟨s.val % 128, by omega⟩ 0)) := by
  pointwise [rO]

end Cert.Reference6Ideal.Swa

end
-- ==== Proof.Swa.RefKV.lean ====
/-
  The sliding-window reference's keys and values, read at an index.
-/
module

public import proofs.«01_k».proof.Proof.Swa.RefDefs

@[expose] public section

set_option maxRecDepth 16384

noncomputable section

open Idealize.ShloMosaic Idealize.ShloMosaic.TcCoe Idealize.SL.Sem
open scoped BigOperators

namespace Cert.Reference6Ideal.Swa

open Cert.Reference6Ideal Cert.Reference6Ideal.Gen Cert.Reference6Ideal.Value

theorem zero_word : (FloatOps.sitofp FTy.f32 0#32 : Ideal .f32) = (0 : EReal) := by
  simp [FloatOps.sitofp]

set_option maxHeartbeats 4000000 in
theorem rV_raw (a0 : FVec Ideal S8x4096x5376 .bf16) (b : Fin 8) (n : Fin 32) (k : Fin 256) (kv : Fin 2) (d : Fin 64) : rV a0 (ix5 b n k kv d)
    = if h : k.val < 128 then (if h1 : (1 ≤ n.val ∧ n.val - 1 < 32) ∧ k.val < 128 then (a0 (ix3 b ⟨(n.val - 1) * 128 + k.val, by omega⟩ ⟨3712 + (kv.val * 64 + d.val), by omega⟩) : EReal) else (FloatOps.sitofp FTy.f32 0#32 : Ideal .f32) : EReal)
      else (a0 (ix3 b ⟨n.val * 128 + (k.val - 128), by omega⟩ ⟨3712 + (kv.val * 64 + d.val), by omega⟩) : EReal) := by
  pointwise [rV]

/-- In the block before. -/
theorem rV_prev (a0 : FVec Ideal S8x4096x5376 .bf16) (b : Fin 8) (n : Fin 32) (j : Fin 128) (kv : Fin 2) (d : Fin 64) (hn : 0 < n.val) :
    rV a0 (ix5 b n ⟨j.val, by omega⟩ kv d) = a0 (ix3 b ⟨(n.val - 1) * 128 + j.val, by omega⟩ ⟨3712 + (kv.val * 64 + d.val), by omega⟩) := by
  rw [rV_raw]
  exact (dif_pos j.isLt).trans (dif_pos ⟨⟨hn, by omega⟩, j.isLt⟩)

/-- Before the first block. -/
theorem rV_none (a0 : FVec Ideal S8x4096x5376 .bf16) (b : Fin 8) (n : Fin 32) (j : Fin 128) (kv : Fin 2) (d : Fin 64) (hn : ¬ 0 < n.val) :
    rV a0 (ix5 b n ⟨j.val, by omega⟩ kv d) = (0 : EReal) := by
  rw [rV_raw]
  exact ((dif_pos j.isLt).trans (dif_neg (fun h => hn h.1.1))).trans zero_word

/-- In the query's own block. -/
theorem rV_own (a0 : FVec Ideal S8x4096x5376 .bf16) (b : Fin 8) (n : Fin 32) (j : Fin 128) (kv : Fin 2) (d : Fin 64) :
    rV a0 (ix5 b n ⟨128 + j.val, by omega⟩ kv d) = a0 (ix3 b ⟨n.val * 128 + j.val, by omega⟩ ⟨3712 + (kv.val * 64 + d.val), by omega⟩) := by
  rw [rV_raw]
  refine (dif_neg (by show ¬ 128 + j.val < 128; omega)).trans ?_
  exact congrArg (fun i => a0 (ix3 b i _)) (Fin.ext (by show n.val * 128 + (128 + j.val - 128) = n.val * 128 + j.val; omega))

set_option maxHeartbeats 4000000 in
theorem rK_raw (a0 : FVec Ideal S8x4096x5376 .bf16) (b : Fin 8) (n : Fin 32) (k : Fin 256) (kv : Fin 2) (d : Fin 64) : rK a0 (ix5 b n k kv d)
    = if h : k.val < 128 then (if h1 : (1 ≤ n.val ∧ n.val - 1 < 32) ∧ k.val < 128 then (a0 (ix3 b ⟨(n.val - 1) * 128 + k.val, by omega⟩ ⟨3584 + (kv.val * 64 + d.val), by omega⟩) : EReal) else (FloatOps.sitofp FTy.f32 0#32 : Ideal .f32) : EReal)
      else (a0 (ix3 b ⟨n.val * 128 + (k.val - 128), by omega⟩ ⟨3584 + (kv.val * 64 + d.val), by omega⟩) : EReal) := by
  pointwise [rK]

/-- In the block before. -/
theorem rK_prev (a0 : FVec Ideal S8x4096x5376 .bf16) (b : Fin 8) (n : Fin 32) (j : Fin 128) (kv : Fin 2) (d : Fin 64) (hn : 0 < n.val) :
    rK a0 (ix5 b n ⟨j.val, by omega⟩ kv d) = a0 (ix3 b ⟨(n.val - 1) * 128 + j.val, by omega⟩ ⟨3584 + (kv.val * 64 + d.val), by omega⟩) := by
  rw [rK_raw]
  exact (dif_pos j.isLt).trans (dif_pos ⟨⟨hn, by omega⟩, j.isLt⟩)

/-- Before the first block. -/
theorem rK_none (a0 : FVec Ideal S8x4096x5376 .bf16) (b : Fin 8) (n : Fin 32) (j : Fin 128) (kv : Fin 2) (d : Fin 64) (hn : ¬ 0 < n.val) :
    rK a0 (ix5 b n ⟨j.val, by omega⟩ kv d) = (0 : EReal) := by
  rw [rK_raw]
  exact ((dif_pos j.isLt).trans (dif_neg (fun h => hn h.1.1))).trans zero_word

/-- In the query's own block. -/
theorem rK_own (a0 : FVec Ideal S8x4096x5376 .bf16) (b : Fin 8) (n : Fin 32) (j : Fin 128) (kv : Fin 2) (d : Fin 64) :
    rK a0 (ix5 b n ⟨128 + j.val, by omega⟩ kv d) = a0 (ix3 b ⟨n.val * 128 + j.val, by omega⟩ ⟨3584 + (kv.val * 64 + d.val), by omega⟩) := by
  rw [rK_raw]
  refine (dif_neg (by show ¬ 128 + j.val < 128; omega)).trans ?_
  exact congrArg (fun i => a0 (ix3 b i _)) (Fin.ext (by show n.val * 128 + (128 + j.val - 128) = n.val * 128 + j.val; omega))

end Cert.Reference6Ideal.Swa

end
-- ==== Proof.Swa.Ref.lean ====
/-
  The sliding-window reference's result over finite arguments: the array the sliding window leaves.
-/
module

public import proofs.«01_k».proof.Proof.Swa.RefMask
public import proofs.«01_k».proof.Proof.Swa.RefScore
public import proofs.«01_k».proof.Proof.Swa.RefMix
public import proofs.«01_k».proof.Proof.Swa.RefKV
public import proofs.«01_k».proof.Proof.Swa.Out

@[expose] public section

set_option maxRecDepth 16384

noncomputable section

open Idealize.ShloMosaic Idealize.ShloMosaic.TcCoe Idealize.SL.Sem
open scoped BigOperators

namespace Cert.Reference6Ideal.Swa

open Cert.Reference6Ideal Cert.Reference6Ideal.Gen Cert.Reference6Ideal.Value

/-- Choosing by a decided mask. -/
theorem select_if {α : Type} (p : Prop) [Decidable p] (x y : α) : Scalar.select (if p then 1#1 else 0#1) x y = if p then x else y := by
  by_cases hp : p <;> simp [Scalar.select, hp]

/-- A score from real keys and queries. -/
theorem score_real (f g : Fin 64 → EReal) (k q : Fin 64 → ℝ) (s d : ℝ) (hf : ∀ x, f x = (k x : EReal))
    (hg : ∀ x, g x = (q x : EReal) * ((Real.log 2 * 8 : ℝ) : EReal)) :
    (∑ x, f x * g x) * ((1 / 8 : ℝ) : EReal) - ((s * d : ℝ) : EReal) = ((Real.log 2 * (∑ x, k x * q x) - s * d : ℝ) : EReal) := by
  simp only [hf, hg, ← EReal.coe_mul, ← SwaSpec.coe_sum, ← EReal.coe_sub]
  refine congrArg _ ?_
  rw [Finset.sum_congr rfl (fun x _ => (mul_assoc (k x) (q x) (Real.log 2 * 8)).symm), ← Finset.sum_mul]
  ring

variable (a0 : FVec Ideal S8x4096x5376 .bf16) (a1 : FVec Ideal S2x8 .f32)

/-- The scores. -/
abbrev L : FVec Ideal S8x32x2x4x128x256 .f32 := rL (rK a0) (rQ a0) rMask rBias

/-- A query's coordinates. -/
def qq (b : Fin 8) (n : ℕ) (r : Fin 128) (c : Fin 512) : Fin 64 → ℝ :=
  fun d => SwaSpec.AT a0 b (128 * n + r.val) (3072 + (64 * (c.val / 64) + d.val))

/-- A block's keys. -/
def kk (b : Fin 8) (n : ℕ) (c : Fin 512) : Fin 128 → Fin 64 → ℝ :=
  fun j d => SwaSpec.AT a0 b (128 * n + j.val) (3584 + (64 * (c.val / 256) + d.val))

/-- A block's values. -/
def vv (b : Fin 8) (n : ℕ) (c : Fin 512) : Fin 128 → ℝ :=
  fun j => SwaSpec.AT a0 b (128 * n + j.val) (3712 + (64 * (c.val / 256) + c.val % 64))

/-- The scores against the query's own block. -/
def lc (b : Fin 8) (n : ℕ) (r : Fin 128) (c : Fin 512) : Fin 128 → ℝ :=
  SwaSpec.score (qq a0 b n r c) (kk a0 b n c) (SwaSpec.SL ⟨c.val / 64, by omega⟩) r 0

/-- The scores against the block before. -/
def lp (b : Fin 8) (n : ℕ) (r : Fin 128) (c : Fin 512) : Fin 128 → ℝ :=
  SwaSpec.score (qq a0 b n r c) (kk a0 b (n - 1) c) (SwaSpec.SL ⟨c.val / 64, by omega⟩) r 128

/-- A column's pair of heads. -/
abbrev kvo (c : Fin 512) : Fin 2 := ⟨c.val / 256, by omega⟩
/-- A column's place in its pair. -/
abbrev go (c : Fin 512) : Fin 4 := ⟨c.val / 64 % 4, by omega⟩
/-- A column's coordinate. -/
abbrev dO (c : Fin 512) : Fin 64 := ⟨c.val % 64, by omega⟩

theorem hd_eq (c : Fin 512) : hd (kvo c) (go c) = ⟨c.val / 64, by omega⟩ := Fin.ext (by show c.val / 256 * 4 + c.val / 64 % 4 = c.val / 64; omega)

variable (h0 : ∀ y, a0 y ≠ (⊤ : EReal) ∧ a0 y ≠ (⊥ : EReal)) (h1 : ∀ y, a1 y ≠ (⊤ : EReal) ∧ a1 y ≠ (⊥ : EReal))

include h0 in
theorem q_at (b : Fin 8) (n : Fin 32) (r : Fin 128) (c : Fin 512) (d : Fin 64) :
    rQ a0 (ix6 b n r (kvo c) (go c) d) = (qq a0 b n.val r c d : EReal) * ((Real.log 2 * 8 : ℝ) : EReal) := by
  rw [rQ_at]
  exact congrArg (· * _) (SwaSpec.AT_eq a0 h0 _ _ _ _ _ (by dsimp only; omega) (by dsimp only; omega))

include h0 in
theorem L_own (b : Fin 8) (n : Fin 32) (r : Fin 128) (c : Fin 512) (j : Fin 128) :
    L a0 (ix6 b n (kvo c) (go c) r ⟨128 + j.val, by omega⟩) = if j.val ≤ r.val then (lc a0 b n.val r c j : EReal) else ⊥ := by
  rw [L, rL_at, rMask_at, select_if, rBias_at, hd_eq]
  by_cases h : j.val ≤ r.val
  · rw [if_pos h, if_pos ⟨⟨by dsimp only; omega, by dsimp only; omega⟩, Or.inr (by dsimp only; omega)⟩]
    refine (score_real _ _ (kk a0 b n.val c j) (qq a0 b n.val r c) _ _ (fun x => ?_) (fun x => q_at a0 h0 b n r c x)).trans ?_
    · rw [rK_own]
      exact SwaSpec.AT_eq a0 h0 _ _ _ _ _ (by dsimp only; omega) (by dsimp only; omega)
    · refine congrArg _ ?_
      show _ = Real.log 2 * _ - _ * ((r.val : ℝ) - (j.val : ℝ) + 0)
      push_cast
      ring
  · rw [if_neg h, if_neg (fun hh => h (by have := hh.1.1; dsimp only at this; omega))]

include h0 in
theorem L_prev (b : Fin 8) (n : Fin 32) (r : Fin 128) (c : Fin 512) (j : Fin 128) :
    L a0 (ix6 b n (kvo c) (go c) r ⟨j.val, by omega⟩) = if r.val < j.val ∧ 0 < n.val then (lp a0 b n.val r c j : EReal) else ⊥ := by
  rw [L, rL_at, rMask_at, select_if, rBias_at, hd_eq]
  by_cases h : r.val < j.val ∧ 0 < n.val
  · rw [if_pos h, if_pos ⟨⟨by dsimp only; omega, by dsimp only; omega⟩, Or.inl h.2⟩]
    refine (score_real _ _ (kk a0 b (n.val - 1) c j) (qq a0 b n.val r c) _ _ (fun x => ?_) (fun x => q_at a0 h0 b n r c x)).trans ?_
    · rw [rK_prev _ _ _ _ _ _ h.2]
      exact SwaSpec.AT_eq a0 h0 _ _ _ _ _ (by dsimp only; omega) (by dsimp only; omega)
    · refine congrArg _ ?_
      show _ = Real.log 2 * _ - _ * ((r.val : ℝ) - (j.val : ℝ) + 128)
      ring
  · rw [if_neg h, if_neg (fun hh => h ⟨hh.1.2, by have := hh.2; dsimp only at this; omega⟩)]

/-- A pair and a place in it make a column. -/
def colOf (kv : Fin 2) (g : Fin 4) : Fin 512 := ⟨kv.val * 256 + g.val * 64, by omega⟩

theorem colOf_kv (kv : Fin 2) (g : Fin 4) : kvo (colOf kv g) = kv := Fin.ext (by show (kv.val * 256 + g.val * 64) / 256 = kv.val; omega)
theorem colOf_g (kv : Fin 2) (g : Fin 4) : go (colOf kv g) = g := Fin.ext (by show (kv.val * 256 + g.val * 64) / 64 % 4 = g.val; omega)

include h0 in
theorem L_lt (b : Fin 8) (n : Fin 32) (kv : Fin 2) (g : Fin 4) (r : Fin 128) (j : Fin 256) : L a0 (ix6 b n kv g r j) ≠ (⊤ : EReal) := by
  rw [← colOf_kv kv g]
  conv => lhs; rw [← colOf_g kv g]
  rw [colOf_kv, colOf_g]
  by_cases h : j.val < 128
  · have e := L_prev a0 h0 b n r (colOf kv g) ⟨j.val, h⟩
    rw [colOf_kv, colOf_g] at e
    refine fun hh => ?_
    rw [hh] at e
    split at e
    · exact EReal.coe_ne_top _ e.symm
    · exact bot_ne_top e.symm
  · have e := L_own a0 h0 b n r (colOf kv g) ⟨j.val - 128, by omega⟩
    rw [colOf_kv, colOf_g, show (⟨128 + (⟨j.val - 128, by omega⟩ : Fin 128).val, by dsimp only; omega⟩ : Fin 256) = j from Fin.ext (by dsimp only; omega)] at e
    refine fun hh => ?_
    rw [hh] at e
    split at e
    · exact EReal.coe_ne_top _ e.symm
    · exact bot_ne_top e.symm

include h0 in
theorem L_ne_top (i : S8x32x2x4x128x256.Idx) : L a0 i ≠ (⊤ : EReal) := by
  have e : i = ix6 (i 0) (i 1) (i 2) (i 3) (i 4) (i 5) := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  exact L_lt a0 h0 _ _ _ _ _ _

/-- The exponential of a masked score. -/
theorem exp_if (p : Prop) [Decidable p] (x μ : ℝ) : Ideal.exp ((if p then (x : EReal) else ⊥) - (μ : EReal))
    = ((if p then Real.exp (x - μ) else 0 : ℝ) : EReal) := by
  by_cases h : p
  · rw [if_pos h, if_pos h, ← EReal.coe_sub, Ideal.exp_coe]
  · rw [if_neg h, if_neg h, EReal.bot_sub, Ideal.exp_bot, EReal.coe_zero]

include h0 h1 in
/-- The reference's entry. -/
theorem REF_at (b : Fin 8) (s : Fin 4096) (c : Fin 512) : REF a0 a1 (ix3 b s c) = SwaSpec.OUT a0 a1 (ix3 b s c) := by
  have hs : s.val = 128 * (s.val / 128) + s.val % 128 := (Nat.div_add_mod _ _).symm
  rw [SwaSpec.OUT_of a0 a1 b s c (s.val / 128) ⟨s.val % 128, Nat.mod_lt _ (by norm_num)⟩ hs, REF, rO_at]
  generalize hn : (⟨s.val / 128, by omega⟩ : Fin 32) = n
  generalize hr : (⟨s.val % 128, Nat.mod_lt _ (by norm_num)⟩ : Fin 128) = r
  have hn' : s.val / 128 = n.val := by rw [← hn]
  rw [hn']
  have hz : rS a1 (ix6 b n (kvo c) (go c) r 0) = ((a1 (ix2 1 ⟨c.val / 64, by omega⟩)).toReal : EReal) := by
    rw [rS_at, hd_eq]
    exact (EReal.coe_toReal (h1 _).1 (h1 _).2).symm
  obtain ⟨μ, hμ⟩ := rM_real (L a0) (rS a1) b n (kvo c) (go c) r (L_ne_top a0 h0) _ hz
  have hp : ∀ j : Fin 128, rE (L a0) (rM (L a0) (rS a1)) (ix6 b n (kvo c) (go c) r ⟨j.val, by omega⟩)
      = (SwaSpec.wP (lp a0 b n.val r c) μ (0 < n.val) r j : EReal) := fun j => by
    rw [rE_at, hμ, L_prev a0 h0, exp_if]; rfl
  have hc : ∀ j : Fin 128, rE (L a0) (rM (L a0) (rS a1)) (ix6 b n (kvo c) (go c) r ⟨128 + j.val, by omega⟩)
      = (SwaSpec.wC (lc a0 b n.val r c) μ r j : EReal) := fun j => by
    rw [rE_at, hμ, L_own a0 h0, exp_if]; rfl
  have hd : rD (rE (L a0) (rM (L a0) (rS a1))) (rS a1) (rM (L a0) (rS a1)) (ix6 b n (kvo c) (go c) r 0)
      = (SwaSpec.total (lc a0 b n.val r c) (lp a0 b n.val r c) (a1 (ix2 1 ⟨c.val / 64, by omega⟩)).toReal μ (0 < n.val) r : EReal) := by
    rw [rD_at, SwaSpec.two_sum]
    simp only [hp, hc]
    rw [hz, hμ, ← EReal.coe_sub, Ideal.exp_coe, ← SwaSpec.coe_sum, ← SwaSpec.coe_sum, ← EReal.coe_add, ← EReal.coe_add, SwaSpec.total,
      add_comm (∑ k, SwaSpec.wP _ _ _ _ k)]
  have tp := SwaSpec.total_pos (lc a0 b n.val r c) (lp a0 b n.val r c) (a1 (ix2 1 ⟨c.val / 64, by omega⟩)).toReal μ (0 < n.val) r
  have hvp : ∀ j : Fin 128, rV a0 (ix5 b n ⟨j.val, by omega⟩ (kvo c) (dO c)) * ((SwaSpec.wP (lp a0 b n.val r c) μ (0 < n.val) r j
      / SwaSpec.total (lc a0 b n.val r c) (lp a0 b n.val r c) (a1 (ix2 1 ⟨c.val / 64, by omega⟩)).toReal μ (0 < n.val) r : ℝ) : EReal)
      = ((vv a0 b (n.val - 1) c j * (SwaSpec.wP (lp a0 b n.val r c) μ (0 < n.val) r j
      / SwaSpec.total (lc a0 b n.val r c) (lp a0 b n.val r c) (a1 (ix2 1 ⟨c.val / 64, by omega⟩)).toReal μ (0 < n.val) r) : ℝ) : EReal) := fun j => by
    by_cases hn0 : 0 < n.val
    · rw [rV_prev _ _ _ _ _ _ hn0, EReal.coe_mul]
      exact congrArg (· * _) (SwaSpec.AT_eq a0 h0 _ _ _ _ _ (by dsimp only; omega) (by dsimp only; omega))
    · rw [rV_none _ _ _ _ _ _ hn0, SwaSpec.wP, if_neg (fun hh => hn0 hh.2)]
      simp
  have hvc : ∀ j : Fin 128, rV a0 (ix5 b n ⟨128 + j.val, by omega⟩ (kvo c) (dO c)) = (vv a0 b n.val c j : EReal) := fun j => by
    rw [rV_own]
    exact SwaSpec.AT_eq a0 h0 _ _ _ _ _ (by dsimp only; omega) (by dsimp only; omega)
  rw [SwaSpec.two_sum]
  simp only [hp, hc, hd, hvc, SwaSpec.div_coe _ _ tp, hvp, ← EReal.coe_mul, ← SwaSpec.coe_sum, ← EReal.coe_add]
  rw [SwaSpec.attend_each]
  rfl

include h0 h1 in
theorem REF_eq : REF a0 a1 = SwaSpec.OUT a0 a1 := by
  funext i
  have e : i = ix3 (i 0) (i 1) (i 2) := by
    funext a
    match a with
    | ⟨0, _⟩ => rfl
    | ⟨1, _⟩ => rfl
    | ⟨2, _⟩ => rfl
  rw [e]
  exact REF_at a0 a1 h0 h1 _ _ _

/-- The reference's result. -/
theorem result (m : (ℓ : Loc nD τ sig) → Buf (Elt Ideal) ℓ) (c : Dev nD)
    (h0 : ∀ y, m ((c.tc : Thread nD τ).loc main_arg0) y ≠ (⊤ : EReal) ∧ m ((c.tc : Thread nD τ).loc main_arg0) y ≠ (⊥ : EReal))
    (h1 : ∀ y, m ((c.tc : Thread nD τ).loc main_arg1) y ≠ (⊤ : EReal) ∧ m ((c.tc : Thread nD τ).loc main_arg1) y ≠ (⊥ : EReal)) :
    res_out0 m c = SwaSpec.OUT (m ((c.tc : Thread nD τ).loc main_arg0)) (m ((c.tc : Thread nD τ).loc main_arg1)) :=
  (REF_is m c).trans (REF_eq _ _ h0 h1)

end Cert.Reference6Ideal.Swa

end
-- ==== Proof.Swa.Finite.lean ====
/-
  What the precondition says of the entries, and the run of the sliding-window call with its result array named.
-/
module

public import proofs.«01_k».proof.Defs
public import proofs.«01_k».proof.Proof.Swa.Final
import Idealize.ShloMosaic.Lib.ReduceAll
import Idealize.ShloMosaic.Lib.Pointwise.Select

@[expose] public section

noncomputable section

namespace Cert.Kernel6Ideal.Swa

open Cert.Kernel6Ideal Cert.Kernel6Ideal.Gen
open Idealize.ShloMosaic Idealize.ShloMosaic.TcCoe Idealize.SL.Sem

variable (m : (ℓ : Loc nD τ sig) → Buf (Elt Ideal) ℓ) (ρ : Dev nD → PrngReg)

/-- The word of plus infinity. -/
theorem inf_word : (FloatOps.ofBits (F := Ideal) FTy.f32 0x7F800000#32 : EReal) = ⊤ := by
  show Ideal.ofBits FTy.f32 0x7F800000#32 = ⊤
  simp [Ideal.ofBits, Ideal.ieee]

/-- A magnitude under infinity is of a real. -/
theorem real_of_abs_lt (x : EReal) (h : max x (-x) < (⊤ : EReal)) : x ≠ ⊤ ∧ x ≠ ⊥ := by
  refine ⟨?_, ?_⟩ <;> rintro rfl <;> simp at h

/-- One entry's comparison, read back. -/
theorem entry_real {s : Shape} (x y : FVec Ideal s .f32) (i : s.Idx) (hy : y i = (⊤ : EReal)) (h : cmpf .olt (Host.absf x) y i = 1#1) :
    x i ≠ (⊤ : EReal) ∧ x i ≠ (⊥ : EReal) := by
  refine real_of_abs_lt (x i) ?_
  have h' : Ideal.cmp .olt (max (x i) (-(x i)) : EReal) (y i) = 1 := h
  rw [hy] at h'
  have e : BitVec.ofBool (decide (max (x i) (-(x i)) < (⊤ : EReal))) = 1 := h'
  by_contra hn
  rw [decide_eq_false hn] at e
  exact absurd e (by decide)

instance : Subsingleton Cert.Pre_finite.S_.Idx := ⟨fun a b => funext fun i => i.elim0⟩

/-- The precondition, entry by entry. -/
theorem finite_of_pre [hP : Cert.Pre_finite.Facts] (hp : Cert.Pre_Kernel6Ideal_finite m) (c : Dev nD) :
    (∀ y, m ((c : Thread nD τ).loc main_arg0) y ≠ (⊤ : EReal) ∧ m ((c : Thread nD τ).loc main_arg0) y ≠ (⊥ : EReal))
      ∧ ∀ y, m ((c : Thread nD τ).loc main_arg1) y ≠ (⊤ : EReal) ∧ m ((c : Thread nD τ).loc main_arg1) y ≠ (⊥ : EReal) := by
  have h := congrFun (hp c) (fun i => i.elim0)
  obtain ⟨ha, hb⟩ := IntOp.andi_eq_one.mp h
  refine ⟨fun y => ?_, fun y => ?_⟩
  · exact entry_real (s := Cert.Pre_finite.S8x4096x5376) _ _ y inf_word (Host.reduce_andi_all _ _ _ _ _ ha y)
  · exact entry_real (s := Cert.Pre_finite.S2x8) _ _ y inf_word (Host.reduce_andi_all _ _ _ _ _ hb y)

/-- The launch: the result array is what the points write to the output window, and the arguments stay. -/
theorem run_blocks : θ_run defs (onTc (τ := τ) (main (F := Ideal))) ⟨m, fun _ => 0, ρ⟩ (fun r => ∀ c : Dev nD,
      r.2.mem ((c.tc : Thread nD τ).loc main_v20) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 5, ((h c).1 4).trans (((dats m 0 c).arrAt_in 4 rfl _).trans ((A_eq m c 4).trans (V_main_arg0 m c))),
      ((h c).2 main_arg1 (Pipeline.mem_restRefs_of main_arg1 (by decide) (by decide))).trans (V_main_arg1 m c)⟩) (run_main m ρ)

end Cert.Kernel6Ideal.Swa

end
-- ==== Proof.lean ====
/-
  The claim, put together: each program's frame, the kernels' preservation, and each kernel's result equal to its
  reference's over the extended reals.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Merge.Final
public import proofs.«01_k».proof.Proof.Merge.Ref
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.FinalFfn.Final
public import proofs.«01_k».proof.Proof.FinalFfn.Ref
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Ffn.Final
public import proofs.«01_k».proof.Proof.Ffn.Ref
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Qkv.Final
public import proofs.«01_k».proof.Proof.Qkv.Ref
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Conv.Final
public import proofs.«01_k».proof.Proof.Conv.Ref
public import proofs.«01_k».proof.Proof.Gen.Pre_finite
public import proofs.«01_k».proof.Proof.Gen.Reference6Ideal.Run
public import proofs.«01_k».proof.Proof.SwaBits.Frame
public import proofs.«01_k».proof.Proof.Swa.Frame
public import proofs.«01_k».proof.Proof.Swa.Final
public import proofs.«01_k».proof.Proof.Swa.Ref
public import proofs.«01_k».proof.Proof.Swa.Finite
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result array and the reference's result are one function of the arguments. -/
theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  refine (h c).1.trans ((Cert.ReferenceIdeal.Merge.result m' c).trans ?_)
  simp only [hagree c]
  exact (Cert.KernelIdeal.Merge.final m c).symm

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result array and the reference's result are one function of the arguments. -/
theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  refine (h c).1.trans ((Cert.Reference2Ideal.FinalFfn.result m' c).trans ?_)
  simp only [hagree c]
  exact (Cert.Kernel2Ideal.FinalFfn.final m c).symm

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result array and the reference's result are one function of the arguments. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  refine (h c).1.trans ((Cert.Reference3Ideal.Ffn.result m' c).trans ?_)
  simp only [hagree c]
  exact (Cert.Kernel3Ideal.Ffn.final m c).symm

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result array and the reference's result are one function of the arguments. -/
theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  refine (h c).1.trans ((Cert.Reference4Ideal.Qkv.result m' c).trans ?_)
  simp only [hagree c]
  exact (Cert.Kernel4Ideal.Qkv.final m c).symm

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's result array and the reference's result are one function of the arguments. -/
theorem algebraic_Kernel5Ideal_Reference5Ideal : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  refine (h c).1.trans ((Cert.Reference5Ideal.Conv.result m' c).trans ?_)
  simp only [hagree c]
  exact (Cert.Kernel5Ideal.Conv.final m c).symm

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The two named constants of the sliding-window call: the base-two logarithm of e, and the mask's minus infinity. -/
theorem preserves_Kernel6_Kernel6Ideal : preserves_Kernel6_Kernel6Ideal :=
  ⟨IdealRules.named_const.statement Cert.Kernel6Ideal.κ "log2_e" .f32 0x3FB8AA3B#32 (((Real.log 2)⁻¹ : ℝ) : EReal) rfl,
    IdealRules.named_const.statement Cert.Kernel6Ideal.κ "mask" .f32 0xF149F2CA#32 ⊥ rfl⟩

/-- Of finite arguments, the sliding-window call's result array and its reference's result are one function. -/
theorem algebraic_Kernel6Ideal_Reference6Ideal_pre_finite (hPre_finite : Cert.Pre_finite.Facts) :
    algebraic_Kernel6Ideal_Reference6Ideal_pre_finite (hPre_finite := hPre_finite) := by
  intro m ρ m' ρ' hp hagree
  refine ⟨_, Cert.Kernel6Ideal.Swa.run_blocks m ρ, ?_⟩
  refine (θ_run Cert.Reference6Ideal.defs _ _).mono (fun _ h c => ⟨?_, (h c).2⟩) (Cert.Reference6Ideal.Value.run (F := Ideal) m' ρ')
  have hf := Cert.Kernel6Ideal.Swa.finite_of_pre m hp c
  refine (h c).1.trans ((Cert.Reference6Ideal.Swa.result m' c ?_ ?_).trans ?_)
  · rw [(hagree c).1]; exact hf.1
  · rw [(hagree c).2]; exact hf.2
  · rw [(hagree c).1, (hagree c).2]
    exact (Cert.Kernel6Ideal.Swa.final m c hf.1 hf.2).symm

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Pre_finite.Gen.facts,
    fun m ρ _ => Cert.Kernel.Gen.frame m ρ,
    fun m ρ _ => Cert.KernelIdeal.Gen.frame m ρ,
    quiescent_ReferenceIdeal,
    fun m ρ _ => Cert.Kernel2.Gen.frame m ρ,
    fun m ρ _ => Cert.Kernel2Ideal.Gen.frame m ρ,
    quiescent_Reference2Ideal,
    fun m ρ _ => Cert.Kernel3.Gen.frame m ρ,
    fun m ρ _ => Cert.Kernel3Ideal.Gen.frame m ρ,
    quiescent_Reference3Ideal,
    fun m ρ _ => Cert.Kernel4.Gen.frame m ρ,
    fun m ρ _ => Cert.Kernel4Ideal.Gen.frame m ρ,
    quiescent_Reference4Ideal,
    fun m ρ _ => Cert.Kernel5.Gen.frame m ρ,
    fun m ρ _ => Cert.Kernel5Ideal.Gen.frame m ρ,
    quiescent_Reference5Ideal,
    fun m ρ _ => Cert.Kernel6.Swa.frame m ρ,
    fun m ρ _ => Cert.Kernel6Ideal.Swa.frame m ρ,
    fun m ρ _ => Cert.Kernel6Ideal.Swa.frame m ρ,
    quiescent_Reference6Ideal,
    fun m ρ _ => quiescent_Reference6Ideal m ρ trivial,
    (trivial : preserves_Kernel_KernelIdeal),
    algebraic_KernelIdeal_ReferenceIdeal,
    (trivial : preserves_Kernel2_Kernel2Ideal),
    algebraic_Kernel2Ideal_Reference2Ideal,
    (trivial : preserves_Kernel3_Kernel3Ideal),
    algebraic_Kernel3Ideal_Reference3Ideal,
    (trivial : preserves_Kernel4_Kernel4Ideal),
    algebraic_Kernel4Ideal_Reference4Ideal,
    (trivial : preserves_Kernel5_Kernel5Ideal),
    algebraic_Kernel5Ideal_Reference5Ideal,
    preserves_Kernel6_Kernel6Ideal,
    algebraic_Kernel6Ideal_Reference6Ideal_pre_finite Cert.Pre_finite.Gen.facts⟩

end Cert.Proof

end
